-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Local (m : (ℓ : Loc Cert.Local.nD Cert.Local.τ Cert.Local.sig) → Buf (Elt Bits) ℓ) : Prop :=
  True

def Pre_LocalIdeal (m : (ℓ : Loc Cert.LocalIdeal.nD Cert.LocalIdeal.τ Cert.LocalIdeal.sig) → Buf (Elt Ideal) ℓ) : Prop :=
  True

def Pre_LocalReferenceIdeal (m : (ℓ : Loc Cert.LocalReferenceIdeal.nD Cert.LocalReferenceIdeal.τ Cert.LocalReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Local [hLocal : Cert.Local.Facts] : Prop :=
  ∀ (m : (ℓ : Loc Cert.Local.nD Cert.Local.τ Cert.Local.sig) → Buf (Elt Bits) ℓ) (g : Dev Cert.Local.nD → PrngReg), Pre_Local m →
    θ_run (Cert.Local.defs (F := Bits)) (onTc (τ := Cert.Local.τ) (Cert.Local.main (F := Bits))) ⟨m, fun _ => 0, g⟩ (fun r => (∀ c : Dev Cert.Local.nD,
      r.2.mem ((c.tc : Thread Cert.Local.nD Cert.Local.τ).loc Cert.Local.main_arg0) = m ((c.tc : Thread Cert.Local.nD Cert.Local.τ).loc Cert.Local.main_arg0)
      ∧ r.2.mem ((c.tc : Thread Cert.Local.nD Cert.Local.τ).loc Cert.Local.main_arg1) = m ((c.tc : Thread Cert.Local.nD Cert.Local.τ).loc Cert.Local.main_arg1)
      ∧ r.2.mem ((c.tc : Thread Cert.Local.nD Cert.Local.τ).loc Cert.Local.main_arg2) = m ((c.tc : Thread Cert.Local.nD Cert.Local.τ).loc Cert.Local.main_arg2)
      ∧ r.2.mem ((c.tc : Thread Cert.Local.nD Cert.Local.τ).loc Cert.Local.main_arg3) = m ((c.tc : Thread Cert.Local.nD Cert.Local.τ).loc Cert.Local.main_arg3)
      ∧ r.2.mem ((c.tc : Thread Cert.Local.nD Cert.Local.τ).loc Cert.Local.main_arg4) = m ((c.tc : Thread Cert.Local.nD Cert.Local.τ).loc Cert.Local.main_arg4)
      ∧ r.2.mem ((c.tc : Thread Cert.Local.nD Cert.Local.τ).loc Cert.Local.main_arg5) = m ((c.tc : Thread Cert.Local.nD Cert.Local.τ).loc Cert.Local.main_arg5)
      ∧ r.2.mem ((c.tc : Thread Cert.Local.nD Cert.Local.τ).loc Cert.Local.main_arg6) = m ((c.tc : Thread Cert.Local.nD Cert.Local.τ).loc Cert.Local.main_arg6))
      ∧ r.2.sem = fun _ => 0)

def quiescent_LocalIdeal [hLocalIdeal : Cert.LocalIdeal.Facts] : Prop :=
  ∀ (m : (ℓ : Loc Cert.LocalIdeal.nD Cert.LocalIdeal.τ Cert.LocalIdeal.sig) → Buf (Elt Ideal) ℓ) (g : Dev Cert.LocalIdeal.nD → PrngReg), Pre_LocalIdeal m →
    θ_run (Cert.LocalIdeal.defs (F := Ideal)) (onTc (τ := Cert.LocalIdeal.τ) (Cert.LocalIdeal.main (F := Ideal))) ⟨m, fun _ => 0, g⟩ (fun r => (∀ c : Dev Cert.LocalIdeal.nD,
      r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
      ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
      ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
      ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
      ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
      ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5)
      ∧ r.2.mem ((c.tc : Thread Cert.LocalIdeal.nD Cert.LocalIdeal.τ).loc Cert.LocalIdeal.main_arg6) = m ((c.tc : Thread Cert.LocalIdeal.nD Cert.LocalIdeal.τ).loc Cert.LocalIdeal.main_arg6))
      ∧ r.2.sem = fun _ => 0)

def quiescent_LocalReferenceIdeal [hLocalReferenceIdeal : Cert.LocalReferenceIdeal.Facts] : Prop :=
  ∀ (m : (ℓ : Loc Cert.LocalReferenceIdeal.nD Cert.LocalReferenceIdeal.τ Cert.LocalReferenceIdeal.sig) → Buf (Elt Ideal) ℓ) (g : Dev Cert.LocalReferenceIdeal.nD → PrngReg), Pre_LocalReferenceIdeal m →
    θ_run (Cert.LocalReferenceIdeal.defs (F := Ideal)) (onTc (τ := Cert.LocalReferenceIdeal.τ) (Cert.LocalReferenceIdeal.main (F := Ideal))) ⟨m, fun _ => 0, g⟩ (fun r => (∀ c : Dev Cert.LocalReferenceIdeal.nD,
      r.2.mem ((c.tc : Thread Cert.LocalReferenceIdeal.nD Cert.LocalReferenceIdeal.τ).loc Cert.LocalReferenceIdeal.main_arg0) = m ((c.tc : Thread Cert.LocalReferenceIdeal.nD Cert.LocalReferenceIdeal.τ).loc Cert.LocalReferenceIdeal.main_arg0)
      ∧ r.2.mem ((c.tc : Thread Cert.LocalReferenceIdeal.nD Cert.LocalReferenceIdeal.τ).loc Cert.LocalReferenceIdeal.main_arg1) = m ((c.tc : Thread Cert.LocalReferenceIdeal.nD Cert.LocalReferenceIdeal.τ).loc Cert.LocalReferenceIdeal.main_arg1)
      ∧ r.2.mem ((c.tc : Thread Cert.LocalReferenceIdeal.nD Cert.LocalReferenceIdeal.τ).loc Cert.LocalReferenceIdeal.main_arg2) = m ((c.tc : Thread Cert.LocalReferenceIdeal.nD Cert.LocalReferenceIdeal.τ).loc Cert.LocalReferenceIdeal.main_arg2)
      ∧ r.2.mem ((c.tc : Thread Cert.LocalReferenceIdeal.nD Cert.LocalReferenceIdeal.τ).loc Cert.LocalReferenceIdeal.main_arg3) = m ((c.tc : Thread Cert.LocalReferenceIdeal.nD Cert.LocalReferenceIdeal.τ).loc Cert.LocalReferenceIdeal.main_arg3)
      ∧ r.2.mem ((c.tc : Thread Cert.LocalReferenceIdeal.nD Cert.LocalReferenceIdeal.τ).loc Cert.LocalReferenceIdeal.main_arg4) = m ((c.tc : Thread Cert.LocalReferenceIdeal.nD Cert.LocalReferenceIdeal.τ).loc Cert.LocalReferenceIdeal.main_arg4)
      ∧ r.2.mem ((c.tc : Thread Cert.LocalReferenceIdeal.nD Cert.LocalReferenceIdeal.τ).loc Cert.LocalReferenceIdeal.main_arg5) = m ((c.tc : Thread Cert.LocalReferenceIdeal.nD Cert.LocalReferenceIdeal.τ).loc Cert.LocalReferenceIdeal.main_arg5)
      ∧ r.2.mem ((c.tc : Thread Cert.LocalReferenceIdeal.nD Cert.LocalReferenceIdeal.τ).loc Cert.LocalReferenceIdeal.main_arg6) = m ((c.tc : Thread Cert.LocalReferenceIdeal.nD Cert.LocalReferenceIdeal.τ).loc Cert.LocalReferenceIdeal.main_arg6))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v5) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v46) = v0 c
          ∧ r.2.mem ((c.tc : Thread Cert.MergeReferenceIdeal.nD Cert.MergeReferenceIdeal.τ).loc Cert.MergeReferenceIdeal.main_v47) = v1 c
          ∧ r.2.mem ((c.tc : Thread Cert.MergeReferenceIdeal.nD Cert.MergeReferenceIdeal.τ).loc Cert.MergeReferenceIdeal.main_v49) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v7)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v7) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v3) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Local_LocalIdeal : Prop :=
  True

def algebraic_LocalIdeal_LocalReferenceIdeal [hLocalIdeal : Cert.LocalIdeal.Facts] [hLocalReferenceIdeal : Cert.LocalReferenceIdeal.Facts] : Prop :=
  ∀ (m : (ℓ : Loc Cert.LocalIdeal.nD Cert.LocalIdeal.τ Cert.LocalIdeal.sig) → Buf (Elt Ideal) ℓ) (g : Dev Cert.LocalIdeal.nD → PrngReg)
    (m' : (ℓ : Loc Cert.LocalReferenceIdeal.nD Cert.LocalReferenceIdeal.τ Cert.LocalReferenceIdeal.sig) → Buf (Elt Ideal) ℓ) (g' : Dev Cert.LocalReferenceIdeal.nD → PrngReg), Pre_LocalIdeal m →
    (∀ c : Dev Cert.LocalIdeal.nD,
      m' ((c.tc : Thread Cert.LocalReferenceIdeal.nD Cert.LocalReferenceIdeal.τ).loc Cert.LocalReferenceIdeal.main_arg0) = m ((c.tc : Thread Cert.LocalIdeal.nD Cert.LocalIdeal.τ).loc Cert.LocalIdeal.main_arg0)
      ∧ m' ((c.tc : Thread Cert.LocalReferenceIdeal.nD Cert.LocalReferenceIdeal.τ).loc Cert.LocalReferenceIdeal.main_arg1) = m ((c.tc : Thread Cert.LocalIdeal.nD Cert.LocalIdeal.τ).loc Cert.LocalIdeal.main_arg1)
      ∧ m' ((c.tc : Thread Cert.LocalReferenceIdeal.nD Cert.LocalReferenceIdeal.τ).loc Cert.LocalReferenceIdeal.main_arg2) = m ((c.tc : Thread Cert.LocalIdeal.nD Cert.LocalIdeal.τ).loc Cert.LocalIdeal.main_arg2)
      ∧ m' ((c.tc : Thread Cert.LocalReferenceIdeal.nD Cert.LocalReferenceIdeal.τ).loc Cert.LocalReferenceIdeal.main_arg3) = m ((c.tc : Thread Cert.LocalIdeal.nD Cert.LocalIdeal.τ).loc Cert.LocalIdeal.main_arg3)
      ∧ m' ((c.tc : Thread Cert.LocalReferenceIdeal.nD Cert.LocalReferenceIdeal.τ).loc Cert.LocalReferenceIdeal.main_arg4) = m ((c.tc : Thread Cert.LocalIdeal.nD Cert.LocalIdeal.τ).loc Cert.LocalIdeal.main_arg4)
      ∧ m' ((c.tc : Thread Cert.LocalReferenceIdeal.nD Cert.LocalReferenceIdeal.τ).loc Cert.LocalReferenceIdeal.main_arg5) = m ((c.tc : Thread Cert.LocalIdeal.nD Cert.LocalIdeal.τ).loc Cert.LocalIdeal.main_arg5)
      ∧ m' ((c.tc : Thread Cert.LocalReferenceIdeal.nD Cert.LocalReferenceIdeal.τ).loc Cert.LocalReferenceIdeal.main_arg6) = m ((c.tc : Thread Cert.LocalIdeal.nD Cert.LocalIdeal.τ).loc Cert.LocalIdeal.main_arg6)) →
    ∃ (v0 : (c : Dev Cert.LocalIdeal.nD) → Buf (Elt Ideal) ((c.tc : Thread Cert.LocalIdeal.nD Cert.LocalIdeal.τ).loc Cert.LocalIdeal.main_v99_1)),
      θ_run (Cert.LocalIdeal.defs (F := Ideal)) (onTc (τ := Cert.LocalIdeal.τ) (Cert.LocalIdeal.main (F := Ideal))) ⟨m, fun _ => 0, g⟩ (fun r => ∀ c : Dev Cert.LocalIdeal.nD,
          r.2.mem ((c.tc : Thread Cert.LocalIdeal.nD Cert.LocalIdeal.τ).loc Cert.LocalIdeal.main_v99_1) = v0 c
          ∧ r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
          ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
          ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
          ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
          ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
          ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5)
          ∧ r.2.mem ((c.tc : Thread Cert.LocalIdeal.nD Cert.LocalIdeal.τ).loc Cert.LocalIdeal.main_arg6) = m ((c.tc : Thread Cert.LocalIdeal.nD Cert.LocalIdeal.τ).loc Cert.LocalIdeal.main_arg6))
      ∧ θ_run (Cert.LocalReferenceIdeal.defs (F := Ideal)) (onTc (τ := Cert.LocalReferenceIdeal.τ) (Cert.LocalReferenceIdeal.main (F := Ideal))) ⟨m', fun _ => 0, g'⟩ (fun r => ∀ c : Dev Cert.LocalReferenceIdeal.nD,
          r.2.mem ((c.tc : Thread Cert.LocalReferenceIdeal.nD Cert.LocalReferenceIdeal.τ).loc Cert.LocalReferenceIdeal.main_v69) = v0 c
          ∧ r.2.mem ((c.tc : Thread Cert.LocalReferenceIdeal.nD Cert.LocalReferenceIdeal.τ).loc Cert.LocalReferenceIdeal.main_arg0) = m' ((c.tc : Thread Cert.LocalReferenceIdeal.nD Cert.LocalReferenceIdeal.τ).loc Cert.LocalReferenceIdeal.main_arg0)
          ∧ r.2.mem ((c.tc : Thread Cert.LocalReferenceIdeal.nD Cert.LocalReferenceIdeal.τ).loc Cert.LocalReferenceIdeal.main_arg1) = m' ((c.tc : Thread Cert.LocalReferenceIdeal.nD Cert.LocalReferenceIdeal.τ).loc Cert.LocalReferenceIdeal.main_arg1)
          ∧ r.2.mem ((c.tc : Thread Cert.LocalReferenceIdeal.nD Cert.LocalReferenceIdeal.τ).loc Cert.LocalReferenceIdeal.main_arg2) = m' ((c.tc : Thread Cert.LocalReferenceIdeal.nD Cert.LocalReferenceIdeal.τ).loc Cert.LocalReferenceIdeal.main_arg2)
          ∧ r.2.mem ((c.tc : Thread Cert.LocalReferenceIdeal.nD Cert.LocalReferenceIdeal.τ).loc Cert.LocalReferenceIdeal.main_arg3) = m' ((c.tc : Thread Cert.LocalReferenceIdeal.nD Cert.LocalReferenceIdeal.τ).loc Cert.LocalReferenceIdeal.main_arg3)
          ∧ r.2.mem ((c.tc : Thread Cert.LocalReferenceIdeal.nD Cert.LocalReferenceIdeal.τ).loc Cert.LocalReferenceIdeal.main_arg4) = m' ((c.tc : Thread Cert.LocalReferenceIdeal.nD Cert.LocalReferenceIdeal.τ).loc Cert.LocalReferenceIdeal.main_arg4)
          ∧ r.2.mem ((c.tc : Thread Cert.LocalReferenceIdeal.nD Cert.LocalReferenceIdeal.τ).loc Cert.LocalReferenceIdeal.main_arg5) = m' ((c.tc : Thread Cert.LocalReferenceIdeal.nD Cert.LocalReferenceIdeal.τ).loc Cert.LocalReferenceIdeal.main_arg5)
          ∧ r.2.mem ((c.tc : Thread Cert.LocalReferenceIdeal.nD Cert.LocalReferenceIdeal.τ).loc Cert.LocalReferenceIdeal.main_arg6) = m' ((c.tc : Thread Cert.LocalReferenceIdeal.nD Cert.LocalReferenceIdeal.τ).loc Cert.LocalReferenceIdeal.main_arg6))

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hGate : Cert.Gate.Facts) (hGateIdeal : Cert.GateIdeal.Facts) (hGateReferenceIdeal : Cert.GateReferenceIdeal.Facts) (hLocal : Cert.Local.Facts) (hLocalIdeal : Cert.LocalIdeal.Facts) (hLocalReferenceIdeal : Cert.LocalReferenceIdeal.Facts) (hKernel : Cert.Kernel.Facts) (hKernelIdeal : Cert.KernelIdeal.Facts) (hReferenceIdeal : Cert.ReferenceIdeal.Facts) (hPre_finite : Cert.Pre_finite.Facts),
    quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Gate (hGate := hGate)
    ∧ quiescent_GateIdeal (hGateIdeal := hGateIdeal)
    ∧ quiescent_GateReferenceIdeal (hGateReferenceIdeal := hGateReferenceIdeal)
    ∧ quiescent_Local (hLocal := hLocal)
    ∧ quiescent_LocalIdeal (hLocalIdeal := hLocalIdeal)
    ∧ quiescent_LocalReferenceIdeal (hLocalReferenceIdeal := hLocalReferenceIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ preserves_Gate_GateIdeal
    ∧ algebraic_GateIdeal_GateReferenceIdeal (hGateIdeal := hGateIdeal) (hGateReferenceIdeal := hGateReferenceIdeal)
    ∧ preserves_Local_LocalIdeal
    ∧ algebraic_LocalIdeal_LocalReferenceIdeal (hLocalIdeal := hLocalIdeal) (hLocalReferenceIdeal := hLocalReferenceIdeal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x5120 : Shape := ⟨2, ![16384, 5120]⟩
abbrev S8x8192 : Shape := ⟨2, ![8, 8192]⟩
abbrev S8x8x8 : Shape := ⟨3, ![8, 8, 8]⟩
abbrev S16384x1024 : Shape := ⟨2, ![16384, 1024]⟩
abbrev S_ : Shape := ⟨0, ![]⟩

class Facts : Prop where
  slices_S16384x5120_S16384x1024_0_3584 : S16384x5120.Slices ![0, 3584] S16384x1024
  bcast_S_S16384x1024 : S_.BroadcastsInDim S16384x1024 (![] : Fin 0 → Fin S16384x1024.rank)
  bcast_S_S8x8192 : S_.BroadcastsInDim S8x8192 (![] : Fin 0 → Fin S8x8192.rank)

variable [Facts]

def fn {F : FTy → Type} [FloatOps F] (main_arg0 : FVec F S16384x5120 .bf16) (main_arg1 : FVec F S8x8192 .f32) (main_arg2 : IVec S8x8x8 32) : IVec S16384x1024 1 × IVec S8x8192 1 :=
  let main_v0 : FVec F S16384x1024 .bf16 := (extractStridedSlice S16384x1024 ![0, 3584] · slices_S16384x5120_S16384x1024_0_3584) main_arg0
  let main_v1 : FVec F S16384x1024 .bf16 := Host.absf main_v0
  let main_cst : FVec F S_ .bf16 := constant S_ .bf16 0x7F80#16
  let main_v2 : FVec F S16384x1024 .bf16 := broadcastInDim S16384x1024 ![] bcast_S_S16384x1024 main_cst
  let main_v3 : IVec S16384x1024 1 := cmpf .olt main_v1 main_v2
  let main_v4 : FVec F S8x8192 .f32 := Host.absf main_arg1
  let main_cst_0 : FVec F S_ .f32 := constant S_ .f32 0x7F800000#32
  let main_v5 : FVec F S8x8192 .f32 := broadcastInDim S8x8192 ![] bcast_S_S8x8192 main_cst_0
  let main_v6 : IVec S8x8192 1 := cmpf .olt main_v4 main_v5
  (main_v3, main_v6)
-- ==== Proj.lean ====
abbrev S2x8192x1024 : Shape := ⟨3, ![2, 8192, 1024]⟩
abbrev S2x1024x5124 : Shape := ⟨3, ![2, 1024, 5124]⟩
abbrev S16384x1024 : Shape := ⟨2, ![16384, 1024]⟩
abbrev S16384x5120 : Shape := ⟨2, ![16384, 5120]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S2x1024x5124, .f32⟩
  | .hbm, ⟨2, _⟩ => ⟨S16384x1024, .f32⟩
  | .hbm, ⟨3, _⟩ => ⟨S16384x1024, .bf16⟩
  | .hbm, ⟨4, _⟩ => ⟨S16384x5120, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S2x8192x1024 : Shape := ⟨3, ![2, 8192, 1024]⟩
abbrev S2x1024x5124 : Shape := ⟨3, ![2, 1024, 5124]⟩
abbrev S1x1024x5124 : Shape := ⟨3, ![1, 1024, 5124]⟩
abbrev S1024x5124 : Shape := ⟨2, ![1024, 5124]⟩
abbrev S2x8192x5124 : Shape := ⟨3, ![2, 8192, 5124]⟩
abbrev S2x8192x5120 : Shape := ⟨3, ![2, 8192, 5120]⟩
abbrev S16384x5120 : Shape := ⟨2, ![16384, 5120]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024x5124, .f32⟩
  | .hbm, ⟨2, _⟩ => ⟨S1x1024x5124, .f32⟩
  | .hbm, ⟨3, _⟩ => ⟨S1024x5124, .f32⟩
  | .hbm, ⟨4, _⟩ => ⟨S2x8192x5124, .f32⟩
  | .hbm, ⟨5, _⟩ => ⟨S2x8192x5120, .f32⟩
  | .hbm, ⟨6, _⟩ => ⟨S16384x5120, .f32⟩
  | .hbm, ⟨7, _⟩ => ⟨S16384x5120, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024x4096 : Shape := ⟨2, ![1024, 4096]⟩
abbrev S4096 : Shape := ⟨1, ![4096]⟩
abbrev S4x512x1024 : Shape := ⟨3, ![4, 512, 1024]⟩
abbrev S1024x1024 : Shape := ⟨2, ![1024, 1024]⟩
abbrev S1024 : Shape := ⟨1, ![1024]⟩
abbrev S1x4096 : Shape := ⟨2, ![1, 4096]⟩
abbrev S1x1024 : Shape := ⟨2, ![1, 1024]⟩
abbrev S1024x16384 : Shape := ⟨2, ![1024, 16384]⟩
abbrev S256x1024 : Shape := ⟨2, ![256, 1024]⟩
abbrev S256x512 : Shape := ⟨2, ![256, 512]⟩
abbrev S1024x256 : Shape := ⟨2, ![1024, 256]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩

abbrev nBuf : Space → Nat
  | .hbm => 20
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x4096, .f32⟩
  | .hbm, ⟨6, _⟩ => ⟨S4096, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4096, .bf16⟩
  | .hbm, ⟨12, _⟩ => ⟨S1x4096, .f32⟩
  | .hbm, ⟨13, _⟩ => ⟨S4x512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S1024x16384, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1024x4096, .bf16⟩
  | .local _ .vmem, ⟨11, _⟩ => ⟨S1x4096, .f32⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1024x256, .bf16⟩
  | .local _ .vmem, ⟨21, _⟩ => ⟨S1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S16384x1024 : Shape := ⟨2, ![16384, 1024]⟩
abbrev S16384x512 : Shape := ⟨2, ![16384, 512]⟩
abbrev S1024x4096 : Shape := ⟨2, ![1024, 4096]⟩
abbrev S4096 : Shape := ⟨1, ![4096]⟩
abbrev S4x512x1024 : Shape := ⟨3, ![4, 512, 1024]⟩
abbrev S1024x1024 : Shape := ⟨2, ![1024, 1024]⟩
abbrev S1024 : Shape := ⟨1, ![1024]⟩
abbrev S16384x1x512 : Shape := ⟨3, ![16384, 1, 512]⟩
abbrev S16384x4x512 : Shape := ⟨3, ![16384, 4, 512]⟩
abbrev S16384x4096 : Shape := ⟨2, ![16384, 4096]⟩
abbrev S1x4096 : Shape := ⟨2, ![1, 4096]⟩
abbrev S_ : Shape := ⟨0, ![]⟩
abbrev S16384x4x1024 : Shape := ⟨3, ![16384, 4, 1024]⟩
abbrev S4x1024x16384 : Shape := ⟨3, ![4, 1024, 16384]⟩
abbrev S16384 : Shape := ⟨1, ![16384]⟩
abbrev S16384x1 : Shape := ⟨2, ![16384, 1]⟩
abbrev S1x1024 : Shape := ⟨2, ![1, 1024]⟩
abbrev S1024x16384 : Shape := ⟨2, ![1024, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x4096, .f32⟩
  | .hbm, ⟨6, _⟩ => ⟨S4096, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S16384x1x512, .bf16⟩
  | .hbm, ⟨12, _⟩ => ⟨S16384x1x512, .bf16⟩
  | .hbm, ⟨13, _⟩ => ⟨S16384x1x512, .bf16⟩
  | .hbm, ⟨14, _⟩ => ⟨S16384x1x512, .bf16⟩
  | .hbm, ⟨15, _⟩ => ⟨S16384x4x512, .bf16⟩
  | .hbm, ⟨16, _⟩ => ⟨S16384x4x512, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4x1024, .f32⟩
  | .hbm, ⟨30, _⟩ => ⟨S4x1024x16384, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S1024x16384, .f32⟩
  | .hbm, ⟨68, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Gate.lean ====
abbrev S2x8192x1024 : Shape := ⟨3, ![2, 8192, 1024]⟩
abbrev S2x1024x5124 : Shape := ⟨3, ![2, 1024, 5124]⟩
abbrev S1x1024x4 : Shape := ⟨3, ![1, 1024, 4]⟩
abbrev S1024x4 : Shape := ⟨2, ![1024, 4]⟩
abbrev S_ : Shape := ⟨0, ![]⟩
abbrev S1024x128 : Shape := ⟨2, ![1024, 128]⟩
abbrev S16384x1024 : Shape := ⟨2, ![16384, 1024]⟩
abbrev S16384x128 : Shape := ⟨2, ![16384, 128]⟩
abbrev S2048x1024 : Shape := ⟨2, ![2048, 1024]⟩
abbrev S2048x128 : Shape := ⟨2, ![2048, 128]⟩
abbrev S16384x4 : Shape := ⟨2, ![16384, 4]⟩
abbrev S2x8192x4 : Shape := ⟨3, ![2, 8192, 4]⟩

abbrev nBuf : Space → Nat
  | .hbm => 12
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S2x1024x5124, .f32⟩
  | .hbm, ⟨2, _⟩ => ⟨S1x1024x4, .f32⟩
  | .hbm, ⟨3, _⟩ => ⟨S1024x4, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S16384x1024, .f32⟩
  | .hbm, ⟨8, _⟩ => ⟨S16384x1024, .bf16⟩
  | .hbm, ⟨9, _⟩ => ⟨S16384x128, .f32⟩
  | .hbm, ⟨10, _⟩ => ⟨S16384x4, .f32⟩
  | .hbm, ⟨11, _⟩ => ⟨S2x8192x4, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .f32⟩
  | .local _ .vmem, ⟨3, _⟩ => ⟨S2048x128, .f32⟩
  | .local _ .vmem, ⟨4, _⟩ => ⟨S2048x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S2x8192x1024 : Shape := ⟨3, ![2, 8192, 1024]⟩
abbrev S2x1024x5124 : Shape := ⟨3, ![2, 1024, 5124]⟩
abbrev S1x1024x5124 : Shape := ⟨3, ![1, 1024, 5124]⟩
abbrev S1024x5124 : Shape := ⟨2, ![1024, 5124]⟩
abbrev S2x8192x5124 : Shape := ⟨3, ![2, 8192, 5124]⟩
abbrev S2x8192x4 : Shape := ⟨3, ![2, 8192, 4]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024x5124, .f32⟩
  | .hbm, ⟨2, _⟩ => ⟨S1x1024x5124, .f32⟩
  | .hbm, ⟨3, _⟩ => ⟨S1024x5124, .f32⟩
  | .hbm, ⟨4, _⟩ => ⟨S2x8192x5124, .f32⟩
  | .hbm, ⟨5, _⟩ => ⟨S2x8192x4, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Local.lean ====
abbrev S16384x5120 : Shape := ⟨2, ![16384, 5120]⟩
abbrev S4x128x128 : Shape := ⟨3, ![4, 128, 128]⟩
abbrev S512 : Shape := ⟨1, ![512]⟩
abbrev S4x128 : Shape := ⟨2, ![4, 128]⟩
abbrev S256 : Shape := ⟨1, ![256]⟩
abbrev S256x1 : Shape := ⟨2, ![256, 1]⟩
abbrev S1x256 : Shape := ⟨2, ![1, 256]⟩
abbrev S16 : Shape := ⟨1, ![16]⟩
abbrev S1x16 : Shape := ⟨2, ![1, 16]⟩
abbrev S256x256 : Shape := ⟨2, ![256, 256]⟩
abbrev S_ : Shape := ⟨0, ![]⟩
abbrev S1x256x256 : Shape := ⟨3, ![1, 256, 256]⟩
abbrev S4x256x256 : Shape := ⟨3, ![4, 256, 256]⟩
abbrev S256x16 : Shape := ⟨2, ![256, 16]⟩
abbrev S1x256x16 : Shape := ⟨3, ![1, 256, 16]⟩
abbrev S4x256x16 : Shape := ⟨3, ![4, 256, 16]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S16384x512 : Shape := ⟨2, ![16384, 512]⟩
abbrev S256x512 : Shape := ⟨2, ![256, 512]⟩
abbrev S16x512 : Shape := ⟨2, ![16, 512]⟩
abbrev S256x128 : Shape := ⟨2, ![256, 128]⟩
abbrev S16x128 : Shape := ⟨2, ![16, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 124
  | .vmem => 20
  | .smem => 0
  | _ => 0

abbrev bufTy : (tb : Table) → Fin (tcTables nBuf tb) → BufTy
  | .hbm, ⟨0, _⟩ => ⟨S16384x5120, .bf16⟩
  | .hbm, ⟨1, _⟩ => ⟨S4x128x128, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S16, .i32⟩
  | .hbm, ⟨12, _⟩ => ⟨S1x16, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S_, .i32⟩
  | .hbm, ⟨17, _⟩ => ⟨S256x1, .i32⟩
  | .hbm, ⟨18, _⟩ => ⟨S256x1, .i32⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S256x256, .i1⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S256x256, .i1⟩
  | .hbm, ⟨33, _⟩ => ⟨S256x256, .i32⟩
  | .hbm, ⟨34, _⟩ => ⟨S256x256, .i32⟩
  | .hbm, ⟨35, _⟩ => ⟨S256x256, .i1⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S256x256, .i1⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S_, .i32⟩
  | .hbm, ⟨47, _⟩ => ⟨S256x1, .i32⟩
  | .hbm, ⟨48, _⟩ => ⟨S256x1, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .i1⟩
  | .hbm, ⟨53, _⟩ => ⟨S1x256x256, .i1⟩
  | .hbm, ⟨54, _⟩ => ⟨S1x256x256, .i1⟩
  | .hbm, ⟨55, _⟩ => ⟨S1x256x256, .i1⟩
  | .hbm, ⟨56, _⟩ => ⟨S1x256x256, .i1⟩
  | .hbm, ⟨57, _⟩ => ⟨S4x256x256, .i1⟩
  | .hbm, ⟨58, _⟩ => ⟨S4x256x256, .f32⟩
  | .hbm, ⟨59, _⟩ => ⟨S_, .i32⟩
  | .hbm, ⟨60, _⟩ => ⟨S256x1, .i32⟩
  | .hbm, ⟨61, _⟩ => ⟨S256x1, .i32⟩
  | .hbm, ⟨62, _⟩ => ⟨S_, .i32⟩
  | .hbm, ⟨63, _⟩ => ⟨S256x1, .i32⟩
  | .hbm, ⟨64, _⟩ => ⟨S256x1, .i32⟩
  | .hbm, ⟨65, _⟩ => ⟨S_, .i32⟩
  | .hbm, ⟨66, _⟩ => ⟨S256x1, .i32⟩
  | .hbm, ⟨67, _⟩ => ⟨S256x1, .i32⟩
  | .hbm, ⟨68, _⟩ => ⟨S256x16, .i32⟩
  | .hbm, ⟨69, _⟩ => ⟨S256x16, .i32⟩
  | .hbm, ⟨70, _⟩ => ⟨S256x16, .i1⟩
  | .hbm, ⟨71, _⟩ => ⟨S_, .i32⟩
  | .hbm, ⟨72, _⟩ => ⟨S256x1, .i32⟩
  | .hbm, ⟨73, _⟩ => ⟨S256x1, .i32⟩
  | .hbm, ⟨74, _⟩ => ⟨S_, .i32⟩
  | .hbm, ⟨75, _⟩ => ⟨S256x1, .i32⟩
  | .hbm, ⟨76, _⟩ => ⟨S256x1, .i32⟩
  | .hbm, ⟨77, _⟩ => ⟨S_, .i32⟩
  | .hbm, ⟨78, _⟩ => ⟨S256x1, .i32⟩
  | .hbm, ⟨79, _⟩ => ⟨S256x1, .i32⟩
  | .hbm, ⟨80, _⟩ => ⟨S256x16, .i32⟩
  | .hbm, ⟨81, _⟩ => ⟨S256x16, .i32⟩
  | .hbm, ⟨82, _⟩ => ⟨S256x16, .i1⟩
  | .hbm, ⟨83, _⟩ => ⟨S_, .i32⟩
  | .hbm, ⟨84, _⟩ => ⟨S256x1, .i32⟩
  | .hbm, ⟨85, _⟩ => ⟨S256x1, .i32⟩
  | .hbm, ⟨86, _⟩ => ⟨S_, .i32⟩
  | .hbm, ⟨87, _⟩ => ⟨S256x1, .i32⟩
  | .hbm, ⟨88, _⟩ => ⟨S256x1, .i32⟩
  | .hbm, ⟨89, _⟩ => ⟨S_, .i32⟩
  | .hbm, ⟨90, _⟩ => ⟨S256x1, .i32⟩
  | .hbm, ⟨91, _⟩ => ⟨S256x1, .i32⟩
  | .hbm, ⟨92, _⟩ => ⟨S256x16, .i32⟩
  | .hbm, ⟨93, _⟩ => ⟨S256x16, .i32⟩
  | .hbm, ⟨94, _⟩ => ⟨S256x16, .i1⟩
  | .hbm, ⟨95, _⟩ => ⟨S_, .i32⟩
  | .hbm, ⟨96, _⟩ => ⟨S256x1, .i32⟩
  | .hbm, ⟨97, _⟩ => ⟨S256x1, .i32⟩
  | .hbm, ⟨98, _⟩ => ⟨S_, .i32⟩
  | .hbm, ⟨99, _⟩ => ⟨S256x1, .i32⟩
  | .hbm, ⟨100, _⟩ => ⟨S256x1, .i32⟩
  | .hbm, ⟨101, _⟩ => ⟨S_, .i32⟩
  | .hbm, ⟨102, _⟩ => ⟨S256x1, .i32⟩
  | .hbm, ⟨103, _⟩ => ⟨S256x1, .i32⟩
  | .hbm, ⟨104, _⟩ => ⟨S256x16, .i32⟩
  | .hbm, ⟨105, _⟩ => ⟨S256x16, .i32⟩
  | .hbm, ⟨106, _⟩ => ⟨S256x16, .i1⟩
  | .hbm, ⟨107, _⟩ => ⟨S1x256x16, .i1⟩
  | .hbm, ⟨108, _⟩ => ⟨S1x256x16, .i1⟩
  | .hbm, ⟨109, _⟩ => ⟨S1x256x16, .i1⟩
  | .hbm, ⟨110, _⟩ => ⟨S1x256x16, .i1⟩
  | .hbm, ⟨111, _⟩ => ⟨S4x256x16, .i1⟩
  | .hbm, ⟨112, _⟩ => ⟨S4x256x16, .f32⟩
  | .hbm, ⟨113, _⟩ => ⟨S4x256x256, .bf16⟩
  | .hbm, ⟨114, _⟩ => ⟨S4x256x16, .bf16⟩
  | .hbm, ⟨115, _⟩ => ⟨S128x4, .f32⟩
  | .hbm, ⟨116, _⟩ => ⟨S128x4x128, .f32⟩
  | .hbm, ⟨117, _⟩ => ⟨S128x512, .f32⟩
  | .hbm, ⟨118, _⟩ => ⟨S4x128x128, .bf16⟩
  | .hbm, ⟨119, _⟩ => ⟨S1x512, .f32⟩
  | .hbm, ⟨120, _⟩ => ⟨S1x512, .f32⟩
  | .hbm, ⟨121, _⟩ => ⟨S1x512, .f32⟩
  | .hbm, ⟨122, _⟩ => ⟨S16384x512, .bf16⟩
  | .hbm, ⟨123, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S16x512, .bf16⟩
  | .local _ .vmem, ⟨3, _⟩ => ⟨S16x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S4x256x256, .bf16⟩
  | .local _ .vmem, ⟨9, _⟩ => ⟨S4x256x16, .bf16⟩
  | .local _ .vmem, ⟨10, _⟩ => ⟨S4x128x128, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S4x128x128, .f32⟩
  | .local _ .vmem, ⟨15, _⟩ => ⟨S128x512, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_3 : Ref sig .tc := ⟨.hbm, 59, rfl⟩
abbrev main_v48 : Ref sig .tc := ⟨.hbm, 60, rfl⟩
abbrev main_v49 : Ref sig .tc := ⟨.hbm, 61, rfl⟩
abbrev main_c_4 : Ref sig .tc := ⟨.hbm, 62, rfl⟩
abbrev main_v50 : Ref sig .tc := ⟨.hbm, 63, rfl⟩
abbrev main_v51 : Ref sig .tc := ⟨.hbm, 64, rfl⟩
abbrev main_c_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_6 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_c_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_9 : Ref sig .tc := ⟨.hbm, 83, rfl⟩
abbrev main_v66 : Ref sig .tc := ⟨.hbm, 84, rfl⟩
abbrev main_v67 : Ref sig .tc := ⟨.hbm, 85, rfl⟩
abbrev main_c_10 : Ref sig .tc := ⟨.hbm, 86, rfl⟩
abbrev main_v68 : Ref sig .tc := ⟨.hbm, 87, rfl⟩
abbrev main_v69 : Ref sig .tc := ⟨.hbm, 88, rfl⟩
abbrev main_c_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_12 : Ref sig .tc := ⟨.hbm, 95, rfl⟩
abbrev main_v75 : Ref sig .tc := ⟨.hbm, 96, rfl⟩
abbrev main_v76 : Ref sig .tc := ⟨.hbm, 97, rfl⟩
abbrev main_c_13 : Ref sig .tc := ⟨.hbm, 98, rfl⟩
abbrev main_v77 : Ref sig .tc := ⟨.hbm, 99, rfl⟩
abbrev main_v78 : Ref sig .tc := ⟨.hbm, 100, rfl⟩
abbrev main_c_14 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99_0 : Ref sig .tc := ⟨.hbm, 122, rfl⟩
abbrev main_v99_1 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LocalReferenceIdeal.lean ====
abbrev S16384x5120 : Shape := ⟨2, ![16384, 5120]⟩
abbrev S4x128x128 : Shape := ⟨3, ![4, 128, 128]⟩
abbrev S512 : Shape := ⟨1, ![512]⟩
abbrev S4x128 : Shape := ⟨2, ![4, 128]⟩
abbrev S2x8192x5120 : Shape := ⟨3, ![2, 8192, 5120]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x64x128x4x128 : Shape := ⟨5, ![2, 64, 128, 4, 128]⟩
abbrev S128x128 : Shape := ⟨2, ![128, 128]⟩
abbrev S1x128x128 : Shape := ⟨3, ![1, 128, 128]⟩
abbrev S4x2x64x128x128 : Shape := ⟨5, ![4, 2, 64, 128, 128]⟩
abbrev S128x4 : Shape := ⟨2, ![128, 4]⟩
abbrev S1x1x128x4x1 : Shape := ⟨5, ![1, 1, 128, 4, 1]⟩
abbrev S16384x512 : Shape := ⟨2, ![16384, 512]⟩

abbrev nBuf : Space → Nat
  | .hbm => 99
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S4x128x128, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S16384x5120, .f32⟩
  | .hbm, ⟨8, _⟩ => ⟨S2x8192x5120, .f32⟩
  | .hbm, ⟨9, _⟩ => ⟨S2x8192x512, .f32⟩
  | .hbm, ⟨10, _⟩ => ⟨S2x8192x512, .f32⟩
  | .hbm, ⟨11, _⟩ => ⟨S2x8192x512, .f32⟩
  | .hbm, ⟨12, _⟩ => ⟨S2x8192x512, .f32⟩
  | .hbm, ⟨13, _⟩ => ⟨S_, .f32⟩
  | .hbm, ⟨14, _⟩ => ⟨S2x8192x512, .f32⟩
  | .hbm, ⟨15, _⟩ => ⟨S2x8192x512, .f32⟩
  | .hbm, ⟨16, _⟩ => ⟨S2x8192x512, .f32⟩
  | .hbm, ⟨17, _⟩ => ⟨S_, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S_, .f32⟩
  | .hbm, ⟨22, _⟩ => ⟨S2x8192x512, .f32⟩
  | .hbm, ⟨23, _⟩ => ⟨S2x8192x512, .f32⟩
  | .hbm, ⟨24, _⟩ => ⟨S_, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S_, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S_, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S_, .f32⟩
  | .hbm, ⟨39, _⟩ => ⟨S2x8192x512, .f32⟩
  | .hbm, ⟨40, _⟩ => ⟨S2x8192x512, .f32⟩
  | .hbm, ⟨41, _⟩ => ⟨S_, .f32⟩
  | .hbm, ⟨42, _⟩ => ⟨S2x8192x512, .f32⟩
  | .hbm, ⟨43, _⟩ => ⟨S2x8192x512, .f32⟩
  | .hbm, ⟨44, _⟩ => ⟨S2x8192x512, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x512, .f32⟩
  | .hbm, ⟨52, _⟩ => ⟨S2x8192x512, .f32⟩
  | .hbm, ⟨53, _⟩ => ⟨S2x8192x512, .f32⟩
  | .hbm, ⟨54, _⟩ => ⟨S_, .f32⟩
  | .hbm, ⟨55, _⟩ => ⟨S2x8192, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x512, .f32⟩
  | .hbm, ⟨61, _⟩ => ⟨S2x8192x512, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x512, .f32⟩
  | .hbm, ⟨67, _⟩ => ⟨S2x8192x512, .f32⟩
  | .hbm, ⟨68, _⟩ => ⟨S1x1x512, .f32⟩
  | .hbm, ⟨69, _⟩ => ⟨S2x8192x512, .f32⟩
  | .hbm, ⟨70, _⟩ => ⟨S2x8192x512, .f32⟩
  | .hbm, ⟨71, _⟩ => ⟨S1x1x512, .f32⟩
  | .hbm, ⟨72, _⟩ => ⟨S2x8192x512, .f32⟩
  | .hbm, ⟨73, _⟩ => ⟨S2x8192x512, .f32⟩
  | .hbm, ⟨74, _⟩ => ⟨S2x64x128x4x128, .f32⟩
  | .hbm, ⟨75, _⟩ => ⟨S_, .f32⟩
  | .hbm, ⟨76, _⟩ => ⟨S128x128, .f32⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .f32⟩
  | .hbm, ⟨84, _⟩ => ⟨S128x128, .f32⟩
  | .hbm, ⟨85, _⟩ => ⟨S128x128, .f32⟩
  | .hbm, ⟨86, _⟩ => ⟨S1x128x128, .f32⟩
  | .hbm, ⟨87, _⟩ => ⟨S4x128x128, .f32⟩
  | .hbm, ⟨88, _⟩ => ⟨S4x128x128, .f32⟩
  | .hbm, ⟨89, _⟩ => ⟨S4x2x64x128x128, .f32⟩
  | .hbm, ⟨90, _⟩ => ⟨S2x64x128x4x128, .f32⟩
  | .hbm, ⟨91, _⟩ => ⟨S128x4, .f32⟩
  | .hbm, ⟨92, _⟩ => ⟨S1x1x128x4x1, .f32⟩
  | .hbm, ⟨93, _⟩ => ⟨S2x64x128x4x128, .f32⟩
  | .hbm, ⟨94, _⟩ => ⟨S2x64x128x4x128, .f32⟩
  | .hbm, ⟨95, _⟩ => ⟨S2x8192x512, .f32⟩
  | .hbm, ⟨96, _⟩ => ⟨S2x8192x512, .f32⟩
  | .hbm, ⟨97, _⟩ => ⟨S16384x512, .f32⟩
  | .hbm, ⟨98, _⟩ => ⟨S16384x512, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_cst : Ref sig .tc := ⟨.hbm, 83, rfl⟩
abbrev main_call0_v5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Kernel.lean ====
abbrev S16384x5120 : Shape := ⟨2, ![16384, 5120]⟩
abbrev S8x8192 : Shape := ⟨2, ![8, 8192]⟩
abbrev S8x8x8 : Shape := ⟨3, ![8, 8, 8]⟩
abbrev S36 : Shape := ⟨1, ![36]⟩
abbrev S_ : Shape := ⟨0, ![]⟩
abbrev S8x1x8192 : Shape := ⟨3, ![8, 1, 8192]⟩
abbrev S8x1x1 : Shape := ⟨3, ![8, 1, 1]⟩
abbrev S8x1 : Shape := ⟨2, ![8, 1]⟩
abbrev S1 : Shape := ⟨1, ![1]⟩
abbrev S8x1x2 : Shape := ⟨3, ![8, 1, 2]⟩
abbrev S8x2 : Shape := ⟨2, ![8, 2]⟩
abbrev S2 : Shape := ⟨1, ![2]⟩
abbrev S8x1x3 : Shape := ⟨3, ![8, 1, 3]⟩
abbrev S8x3 : Shape := ⟨2, ![8, 3]⟩
abbrev S3 : Shape := ⟨1, ![3]⟩
abbrev S8x1x4 : Shape := ⟨3, ![8, 1, 4]⟩
abbrev S8x4 : Shape := ⟨2, ![8, 4]⟩
abbrev S4 : Shape := ⟨1, ![4]⟩
abbrev S8x1x5 : Shape := ⟨3, ![8, 1, 5]⟩
abbrev S8x5 : Shape := ⟨2, ![8, 5]⟩
abbrev S5 : Shape := ⟨1, ![5]⟩
abbrev S8x1x6 : Shape := ⟨3, ![8, 1, 6]⟩
abbrev S8x6 : Shape := ⟨2, ![8, 6]⟩
abbrev S6 : Shape := ⟨1, ![6]⟩
abbrev S8x1x7 : Shape := ⟨3, ![8, 1, 7]⟩
abbrev S8x7 : Shape := ⟨2, ![8, 7]⟩
abbrev S7 : Shape := ⟨1, ![7]⟩
abbrev S8x1x8 : Shape := ⟨3, ![8, 1, 8]⟩
abbrev S8x8 : Shape := ⟨2, ![8, 8]⟩
abbrev S8 : Shape := ⟨1, ![8]⟩
abbrev S8x36 : Shape := ⟨2, ![8, 36]⟩
abbrev S16384x512 : Shape := ⟨2, ![16384, 512]⟩
abbrev S1024x128 : Shape := ⟨2, ![1024, 128]⟩
abbrev S1x1 : Shape := ⟨2, ![1, 1]⟩
abbrev S1x1x1024 : Shape := ⟨3, ![1, 1, 1024]⟩
abbrev S1024x1 : Shape := ⟨2, ![1024, 1]⟩
abbrev S1024x1024 : Shape := ⟨2, ![1024, 1024]⟩
abbrev S1x1x1 : Shape := ⟨3, ![1, 1, 1]⟩
abbrev S1x1024 : Shape := ⟨2, ![1, 1024]⟩
abbrev S1024 : Shape := ⟨1, ![1024]⟩

abbrev nBuf : Space → Nat
  | .hbm => 97
  | .vmem => 15
  | .smem => 4
  | _ => 0

abbrev bufTy : (tb : Table) → Fin (tcTables nBuf tb) → BufTy
  | .hbm, ⟨0, _⟩ => ⟨S16384x5120, .bf16⟩
  | .hbm, ⟨1, _⟩ => ⟨S8x8192, .f32⟩
  | .hbm, ⟨2, _⟩ => ⟨S8x8x8, .i32⟩
  | .hbm, ⟨3, _⟩ => ⟨S_, .i32⟩
  | .hbm, ⟨4, _⟩ => ⟨S8x8x8, .i32⟩
  | .hbm, ⟨5, _⟩ => ⟨S8x8x8, .i1⟩
  | .hbm, ⟨6, _⟩ => ⟨S8x1x8192, .f32⟩
  | .hbm, ⟨7, _⟩ => ⟨S8x1x1, .i1⟩
  | .hbm, ⟨8, _⟩ => ⟨S8x1, .i1⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S8x1, .i32⟩
  | .hbm, ⟨15, _⟩ => ⟨S_, .i32⟩
  | .hbm, ⟨16, _⟩ => ⟨S_, .i32⟩
  | .hbm, ⟨17, _⟩ => ⟨S8x1, .i32⟩
  | .hbm, ⟨18, _⟩ => ⟨S8x1x2, .i1⟩
  | .hbm, ⟨19, _⟩ => ⟨S8x2, .i1⟩
  | .hbm, ⟨20, _⟩ => ⟨S2, .i32⟩
  | .hbm, ⟨21, _⟩ => ⟨S_, .i32⟩
  | .hbm, ⟨22, _⟩ => ⟨S_, .i32⟩
  | .hbm, ⟨23, _⟩ => ⟨S8x2, .i32⟩
  | .hbm, ⟨24, _⟩ => ⟨S8x2, .i32⟩
  | .hbm, ⟨25, _⟩ => ⟨S8x2, .i32⟩
  | .hbm, ⟨26, _⟩ => ⟨S_, .i32⟩
  | .hbm, ⟨27, _⟩ => ⟨S_, .i32⟩
  | .hbm, ⟨28, _⟩ => ⟨S8x2, .i32⟩
  | .hbm, ⟨29, _⟩ => ⟨S8x1x3, .i1⟩
  | .hbm, ⟨30, _⟩ => ⟨S8x3, .i1⟩
  | .hbm, ⟨31, _⟩ => ⟨S3, .i32⟩
  | .hbm, ⟨32, _⟩ => ⟨S_, .i32⟩
  | .hbm, ⟨33, _⟩ => ⟨S_, .i32⟩
  | .hbm, ⟨34, _⟩ => ⟨S8x3, .i32⟩
  | .hbm, ⟨35, _⟩ => ⟨S8x3, .i32⟩
  | .hbm, ⟨36, _⟩ => ⟨S8x3, .i32⟩
  | .hbm, ⟨37, _⟩ => ⟨S_, .i32⟩
  | .hbm, ⟨38, _⟩ => ⟨S_, .i32⟩
  | .hbm, ⟨39, _⟩ => ⟨S8x3, .i32⟩
  | .hbm, ⟨40, _⟩ => ⟨S8x1x4, .i1⟩
  | .hbm, ⟨41, _⟩ => ⟨S8x4, .i1⟩
  | .hbm, ⟨42, _⟩ => ⟨S4, .i32⟩
  | .hbm, ⟨43, _⟩ => ⟨S_, .i32⟩
  | .hbm, ⟨44, _⟩ => ⟨S_, .i32⟩
  | .hbm, ⟨45, _⟩ => ⟨S8x4, .i32⟩
  | .hbm, ⟨46, _⟩ => ⟨S8x4, .i32⟩
  | .hbm, ⟨47, _⟩ => ⟨S8x4, .i32⟩
  | .hbm, ⟨48, _⟩ => ⟨S_, .i32⟩
  | .hbm, ⟨49, _⟩ => ⟨S_, .i32⟩
  | .hbm, ⟨50, _⟩ => ⟨S8x4, .i32⟩
  | .hbm, ⟨51, _⟩ => ⟨S8x1x5, .i1⟩
  | .hbm, ⟨52, _⟩ => ⟨S8x5, .i1⟩
  | .hbm, ⟨53, _⟩ => ⟨S5, .i32⟩
  | .hbm, ⟨54, _⟩ => ⟨S_, .i32⟩
  | .hbm, ⟨55, _⟩ => ⟨S_, .i32⟩
  | .hbm, ⟨56, _⟩ => ⟨S8x5, .i32⟩
  | .hbm, ⟨57, _⟩ => ⟨S8x5, .i32⟩
  | .hbm, ⟨58, _⟩ => ⟨S8x5, .i32⟩
  | .hbm, ⟨59, _⟩ => ⟨S_, .i32⟩
  | .hbm, ⟨60, _⟩ => ⟨S_, .i32⟩
  | .hbm, ⟨61, _⟩ => ⟨S8x5, .i32⟩
  | .hbm, ⟨62, _⟩ => ⟨S8x1x6, .i1⟩
  | .hbm, ⟨63, _⟩ => ⟨S8x6, .i1⟩
  | .hbm, ⟨64, _⟩ => ⟨S6, .i32⟩
  | .hbm, ⟨65, _⟩ => ⟨S_, .i32⟩
  | .hbm, ⟨66, _⟩ => ⟨S_, .i32⟩
  | .hbm, ⟨67, _⟩ => ⟨S8x6, .i32⟩
  | .hbm, ⟨68, _⟩ => ⟨S8x6, .i32⟩
  | .hbm, ⟨69, _⟩ => ⟨S8x6, .i32⟩
  | .hbm, ⟨70, _⟩ => ⟨S_, .i32⟩
  | .hbm, ⟨71, _⟩ => ⟨S_, .i32⟩
  | .hbm, ⟨72, _⟩ => ⟨S8x6, .i32⟩
  | .hbm, ⟨73, _⟩ => ⟨S8x1x7, .i1⟩
  | .hbm, ⟨74, _⟩ => ⟨S8x7, .i1⟩
  | .hbm, ⟨75, _⟩ => ⟨S7, .i32⟩
  | .hbm, ⟨76, _⟩ => ⟨S_, .i32⟩
  | .hbm, ⟨77, _⟩ => ⟨S_, .i32⟩
  | .hbm, ⟨78, _⟩ => ⟨S8x7, .i32⟩
  | .hbm, ⟨79, _⟩ => ⟨S8x7, .i32⟩
  | .hbm, ⟨80, _⟩ => ⟨S8x7, .i32⟩
  | .hbm, ⟨81, _⟩ => ⟨S_, .i32⟩
  | .hbm, ⟨82, _⟩ => ⟨S_, .i32⟩
  | .hbm, ⟨83, _⟩ => ⟨S8x7, .i32⟩
  | .hbm, ⟨84, _⟩ => ⟨S8x1x8, .i1⟩
  | .hbm, ⟨85, _⟩ => ⟨S8x8, .i1⟩
  | .hbm, ⟨86, _⟩ => ⟨S8, .i32⟩
  | .hbm, ⟨87, _⟩ => ⟨S_, .i32⟩
  | .hbm, ⟨88, _⟩ => ⟨S_, .i32⟩
  | .hbm, ⟨89, _⟩ => ⟨S8x8, .i32⟩
  | .hbm, ⟨90, _⟩ => ⟨S8x8, .i32⟩
  | .hbm, ⟨91, _⟩ => ⟨S8x8, .i32⟩
  | .hbm, ⟨92, _⟩ => ⟨S_, .i32⟩
  | .hbm, ⟨93, _⟩ => ⟨S_, .i32⟩
  | .hbm, ⟨94, _⟩ => ⟨S8x8, .i32⟩
  | .hbm, ⟨95, _⟩ => ⟨S8x36, .i1⟩
  | .hbm, ⟨96, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x128, .bf16⟩
  | .local _ .vmem, ⟨11, _⟩ => ⟨S1024x128, .bf16⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .smem, ⟨0, _⟩ => ⟨S36, .i32⟩
  | .local _ .smem, ⟨1, _⟩ => ⟨S36, .i32⟩
  | .local _ .smem, ⟨2, _⟩ => ⟨S8x36, .i32⟩
  | .local _ .smem, ⟨3, _⟩ => ⟨S8x36, .i32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_call1_c : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_v11 : Ref sig .tc := ⟨.hbm, 25, rfl⟩
abbrev main_call3_c : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_v16 : Ref sig .tc := ⟨.hbm, 36, rfl⟩
abbrev main_call5_c : Ref sig .tc := ⟨.hbm, 37, rfl⟩
abbrev main_call5_v0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_call6_v0 : Ref sig .tc := ⟨.hbm, 44, rfl⟩
abbrev main_call6_v1 : Ref sig .tc := ⟨.hbm, 45, rfl⟩
abbrev main_call6_v2 : Ref sig .tc := ⟨.hbm, 46, rfl⟩
abbrev main_v21 : Ref sig .tc := ⟨.hbm, 47, rfl⟩
abbrev main_call7_c : Ref sig .tc := ⟨.hbm, 48, rfl⟩
abbrev main_call7_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_call8_v0 : Ref sig .tc := ⟨.hbm, 55, rfl⟩
abbrev main_call8_v1 : Ref sig .tc := ⟨.hbm, 56, rfl⟩
abbrev main_call8_v2 : Ref sig .tc := ⟨.hbm, 57, rfl⟩
abbrev main_v26 : Ref sig .tc := ⟨.hbm, 58, rfl⟩
abbrev main_call9_c : Ref sig .tc := ⟨.hbm, 59, rfl⟩
abbrev main_call9_v0 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_7 : Ref sig .tc := ⟨.hbm, 65, rfl⟩
abbrev main_call10_v0 : Ref sig .tc := ⟨.hbm, 66, rfl⟩
abbrev main_call10_v1 : Ref sig .tc := ⟨.hbm, 67, rfl⟩
abbrev main_call10_v2 : Ref sig .tc := ⟨.hbm, 68, rfl⟩
abbrev main_v31 : Ref sig .tc := ⟨.hbm, 69, rfl⟩
abbrev main_call11_c : Ref sig .tc := ⟨.hbm, 70, rfl⟩
abbrev main_call11_v0 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_8 : Ref sig .tc := ⟨.hbm, 76, rfl⟩
abbrev main_call12_v0 : Ref sig .tc := ⟨.hbm, 77, rfl⟩
abbrev main_call12_v1 : Ref sig .tc := ⟨.hbm, 78, rfl⟩
abbrev main_call12_v2 : Ref sig .tc := ⟨.hbm, 79, rfl⟩
abbrev main_v36 : Ref sig .tc := ⟨.hbm, 80, rfl⟩
abbrev main_call13_c : Ref sig .tc := ⟨.hbm, 81, rfl⟩
abbrev main_call13_v0 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_9 : Ref sig .tc := ⟨.hbm, 87, rfl⟩
abbrev main_call14_v0 : Ref sig .tc := ⟨.hbm, 88, rfl⟩
abbrev main_call14_v1 : Ref sig .tc := ⟨.hbm, 89, rfl⟩
abbrev main_call14_v2 : Ref sig .tc := ⟨.hbm, 90, rfl⟩
abbrev main_v41 : Ref sig .tc := ⟨.hbm, 91, rfl⟩
abbrev main_call15_c : Ref sig .tc := ⟨.hbm, 92, rfl⟩
abbrev main_call15_v0 : Ref sig .tc := ⟨.hbm, 93, rfl⟩
abbrev main_v42 : Ref sig .tc := ⟨.hbm, 94, rfl⟩
abbrev main_v43 : Ref sig .tc := ⟨.hbm, 95, rfl⟩
abbrev main_v46 : Ref sig .tc := ⟨.hbm, 96, rfl⟩
abbrev main_c : Ref sig .tc := ⟨.smem, 0, rfl⟩
abbrev main_c_0 : Ref sig .tc := ⟨.smem, 1, rfl⟩
abbrev main_v44 : Ref sig .tc := ⟨.smem, 2, rfl⟩
abbrev main_v45 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 36], ![false, false]⟩

abbrev pre0 : Pipeline.Prefetch sig := ⟨4, ![main_c.idx, main_c_0.idx, main_v44.idx, main_v45.idx], fun | 0 => main_c.names | 1 => main_c_0.names | 2 => main_v44.names | 3 => main_v45.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v18 : Index := Scalar.indexCast arg1
  ![v18.toNat]
def k0_off2 (i : grid0.Coords) : Fin 2 → Nat :=
  let arg0 : BitVec 32 := BitVec.ofNat 32 (i 0).val
  let v18 : Index := Scalar.indexCast arg0
  let arg1 : BitVec 32 := BitVec.ofNat 32 (i 1).val
  let v19 : Index := Scalar.indexCast arg1
  ![v18.toNat, v19.toNat]
def k0_off3 (i : grid0.Coords) : Fin 2 → Nat :=
  let arg0 : BitVec 32 := BitVec.ofNat 32 (i 0).val
  let v8 : Index := Scalar.indexCast arg0
  let arg1 : BitVec 32 := BitVec.ofNat 32 (i 1).val
  let v9 : Index := Scalar.indexCast arg1
  ![v8.toNat, v9.toNat]
def k0_cond3 (v1 : BitVec 32) (v3 : BitVec 32) : BitVec 1 :=
  let v15 : BitVec 1 := Scalar.cmpi .eq v3 v1
  let v16 : BitVec 32 := Scalar.extui v15
  let c0_i32_2 : BitVec 32 := 0#32
  let v17 : BitVec 1 := Scalar.cmpi .ne v16 c0_i32_2
  v17

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : Index := Scalar.indexCast arg1
  let v19 : BitVec 32 := pf.at 0 (Rect.unit (s := S36) ![v18.toNat] S1.size (k0_off1_inb i)) numel1_S1
  let v20 : BitVec 32 := Scalar.addi v17 v19
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c28_i32 : BitVec 32 := 28#32
  let v31 : BitVec 32 := Scalar.addi c28_i32 v30
  let c0_i32_10 : BitVec 32 := 0#32
  ![v20.toNat, v31.toNat]

def cc0_transform_1 (k0_off2_inb : ∀ i : grid0.Coords, ∀ a, (k0_off2 i) a + S1x1.size a ≤ S8x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : Index := Scalar.indexCast arg0
  let v19 : Index := Scalar.indexCast arg1
  let v20 : BitVec 32 := pf.at 3 (Rect.unit (s := S8x36) ![v18.toNat, v19.toNat] S1x1.size (k0_off2_inb i)) numel1_S1x1
  let v21 : BitVec 32 := Scalar.addi v17 v20
  let c4_i32_4 : BitVec 32 := 4#32
  let c0_i32_5 : BitVec 32 := 0#32
  let v22 : BitVec 1 := Scalar.cmpi .eq c4_i32_4 c0_i32_5
  let c1_i32_6 : BitVec 32 := 1#32
  let v23 : BitVec 32 := Scalar.select v22 c1_i32_6 c4_i32_4
  let v24 : BitVec 32 := Scalar.remsi arg0 v23
  let c0_i32_7 : BitVec 32 := 0#32
  let v25 : BitVec 1 := Scalar.cmpi .ne v24 c0_i32_7
  let c0_i32_8 : BitVec 32 := 0#32
  let v26 : BitVec 1 := Scalar.cmpi .slt v24 c0_i32_8
  let c0_i32_9 : BitVec 32 := 0#32
  let v27 : BitVec 1 := Scalar.cmpi .slt v23 c0_i32_9
  let v28 : BitVec 1 := Scalar.xori v26 v27
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.addi c32_i32 v31
  let c0_i32_10 : BitVec 32 := 0#32
  ![v21.toNat, v32.toNat]

def cc0_transform_2 (k0_off2_inb : ∀ i : grid0.Coords, ∀ a, (k0_off2 i) a + S1x1.size a ≤ S8x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : Index := Scalar.indexCast arg0
  let v19 : Index := Scalar.indexCast arg1
  let v20 : BitVec 32 := pf.at 3 (Rect.unit (s := S8x36) ![v18.toNat, v19.toNat] S1x1.size (k0_off2_inb i)) numel1_S1x1
  let v21 : BitVec 32 := Scalar.addi v17 v20
  let c4_i32_4 : BitVec 32 := 4#32
  let c0_i32_5 : BitVec 32 := 0#32
  let v22 : BitVec 1 := Scalar.cmpi .eq c4_i32_4 c0_i32_5
  let c1_i32_6 : BitVec 32 := 1#32
  let v23 : BitVec 32 := Scalar.select v22 c1_i32_6 c4_i32_4
  let v24 : BitVec 32 := Scalar.remsi arg0 v23
  let c0_i32_7 : BitVec 32 := 0#32
  let v25 : BitVec 1 := Scalar.cmpi .ne v24 c0_i32_7
  let c0_i32_8 : BitVec 32 := 0#32
  let v26 : BitVec 1 := Scalar.cmpi .slt v24 c0_i32_8
  let c0_i32_9 : BitVec 32 := 0#32
  let v27 : BitVec 1 := Scalar.cmpi .slt v23 c0_i32_9
  let v28 : BitVec 1 := Scalar.xori v26 v27
  let v29 : BitVec 1 := Scalar.andi v28 v25
  let v30 : BitVec 32 := Scalar.addi v24 v23
  let v31 : BitVec 32 := Scalar.select v29 v30 v24
  let c36_i32 : BitVec 32 := 36#32
  let v32 : BitVec 32 := Scalar.addi c36_i32 v31
  let c0_i32_10 : BitVec 32 := 0#32
  ![v21.toNat, v32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_4 (k0_off2_inb : ∀ i : grid0.Coords, ∀ a, (k0_off2 i) a + S1x1.size a ≤ S8x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 3 (Rect.unit (s := S8x36) ![v0.toNat, v1.toNat] S1x1.size (k0_off2_inb i)) numel1_S1x1
  let c0_i32 : BitVec 32 := 0#32
  let c0_i32_0 : BitVec 32 := 0#32
  ![arg0.toNat, c0_i32.toNat, v2.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : Index := Scalar.indexCast arg1
  let v19 : BitVec 32 := pf.at 0 (Rect.unit (s := S36) ![v18.toNat] S1.size (k0_off1_inb i)) numel1_S1
  let v20 : BitVec 32 := Scalar.addi v17 v19
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  ![v20.toNat, v30.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x5120 : Shape := ⟨2, ![16384, 5120]⟩
abbrev S8x8192 : Shape := ⟨2, ![8, 8192]⟩
abbrev S8x8x8 : Shape := ⟨3, ![8, 8, 8]⟩
abbrev S16384x512 : Shape := ⟨2, ![16384, 512]⟩
abbrev S2x8192x4x128 : Shape := ⟨4, ![2, 8192, 4, 128]⟩
abbrev S2x4x8192x128 : Shape := ⟨4, ![2, 4, 8192, 128]⟩
abbrev S8x8192x128 : Shape := ⟨3, ![8, 8192, 128]⟩
abbrev S_ : Shape := ⟨0, ![]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192x8192 : Shape := ⟨2, ![8192, 8192]⟩
abbrev S8x8x1x8x1 : Shape := ⟨5, ![8, 8, 1, 8, 1]⟩
abbrev S8x8x1024x8x1024 : Shape := ⟨5, ![8, 8, 1024, 8, 1024]⟩
abbrev S1x8192x8192 : Shape := ⟨3, ![1, 8192, 8192]⟩

abbrev nBuf : Space → Nat
  | .hbm => 101
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S8x8192, .f32⟩
  | .hbm, ⟨2, _⟩ => ⟨S8x8x8, .i32⟩
  | .hbm, ⟨3, _⟩ => ⟨S16384x5120, .f32⟩
  | .hbm, ⟨4, _⟩ => ⟨S16384x512, .f32⟩
  | .hbm, ⟨5, _⟩ => ⟨S2x8192x4x128, .f32⟩
  | .hbm, ⟨6, _⟩ => ⟨S2x4x8192x128, .f32⟩
  | .hbm, ⟨7, _⟩ => ⟨S8x8192x128, .f32⟩
  | .hbm, ⟨8, _⟩ => ⟨S_, .f32⟩
  | .hbm, ⟨9, _⟩ => ⟨S8x8192x128, .f32⟩
  | .hbm, ⟨10, _⟩ => ⟨S8x8192x128, .f32⟩
  | .hbm, ⟨11, _⟩ => ⟨S16384x512, .f32⟩
  | .hbm, ⟨12, _⟩ => ⟨S2x8192x4x128, .f32⟩
  | .hbm, ⟨13, _⟩ => ⟨S2x4x8192x128, .f32⟩
  | .hbm, ⟨14, _⟩ => ⟨S8x8192x128, .f32⟩
  | .hbm, ⟨15, _⟩ => ⟨S16384x512, .f32⟩
  | .hbm, ⟨16, _⟩ => ⟨S2x8192x4x128, .f32⟩
  | .hbm, ⟨17, _⟩ => ⟨S2x4x8192x128, .f32⟩
  | .hbm, ⟨18, _⟩ => ⟨S8x8192x128, .f32⟩
  | .hbm, ⟨19, _⟩ => ⟨S8x8192x8192, .f32⟩
  | .hbm, ⟨20, _⟩ => ⟨S8x8192x1, .f32⟩
  | .hbm, ⟨21, _⟩ => ⟨S8x8192x8192, .f32⟩
  | .hbm, ⟨22, _⟩ => ⟨S8x8192x8192, .f32⟩
  | .hbm, ⟨23, _⟩ => ⟨S8x1x8192, .f32⟩
  | .hbm, ⟨24, _⟩ => ⟨S8x8192x8192, .f32⟩
  | .hbm, ⟨25, _⟩ => ⟨S8x8192x8192, .f32⟩
  | .hbm, ⟨26, _⟩ => ⟨S8192x8192, .i32⟩
  | .hbm, ⟨27, _⟩ => ⟨S8192x8192, .i32⟩
  | .hbm, ⟨28, _⟩ => ⟨S8x8x1x8x1, .i32⟩
  | .hbm, ⟨29, _⟩ => ⟨S8x8x1024x8x1024, .i32⟩
  | .hbm, ⟨30, _⟩ => ⟨S8x8192x8192, .i32⟩
  | .hbm, ⟨31, _⟩ => ⟨S8192x8192, .i1⟩
  | .hbm, ⟨32, _⟩ => ⟨S_, .i32⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S8192x8192, .i32⟩
  | .hbm, ⟨37, _⟩ => ⟨S_, .i32⟩
  | .hbm, ⟨38, _⟩ => ⟨S8192x8192, .i32⟩
  | .hbm, ⟨39, _⟩ => ⟨S8192x8192, .i1⟩
  | .hbm, ⟨40, _⟩ => ⟨S8192x8192, .i32⟩
  | .hbm, ⟨41, _⟩ => ⟨S8192x8192, .i32⟩
  | .hbm, ⟨42, _⟩ => ⟨S_, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S_, .i32⟩
  | .hbm, ⟨47, _⟩ => ⟨S8192x8192, .i32⟩
  | .hbm, ⟨48, _⟩ => ⟨S8192x8192, .i32⟩
  | .hbm, ⟨49, _⟩ => ⟨S8192x8192, .i32⟩
  | .hbm, ⟨50, _⟩ => ⟨S_, .i32⟩
  | .hbm, ⟨51, _⟩ => ⟨S_, .i32⟩
  | .hbm, ⟨52, _⟩ => ⟨S8192x8192, .i32⟩
  | .hbm, ⟨53, _⟩ => ⟨S8192x8192, .i32⟩
  | .hbm, ⟨54, _⟩ => ⟨S8192x8192, .i32⟩
  | .hbm, ⟨55, _⟩ => ⟨S_, .i32⟩
  | .hbm, ⟨56, _⟩ => ⟨S8192x8192, .i32⟩
  | .hbm, ⟨57, _⟩ => ⟨S8192x8192, .i1⟩
  | .hbm, ⟨58, _⟩ => ⟨S8192x8192, .i32⟩
  | .hbm, ⟨59, _⟩ => ⟨S8192x8192, .i32⟩
  | .hbm, ⟨60, _⟩ => ⟨S_, .i32⟩
  | .hbm, ⟨61, _⟩ => ⟨S8192x8192, .i32⟩
  | .hbm, ⟨62, _⟩ => ⟨S8192x8192, .i1⟩
  | .hbm, ⟨63, _⟩ => ⟨S8192x8192, .i1⟩
  | .hbm, ⟨64, _⟩ => ⟨S_, .i32⟩
  | .hbm, ⟨65, _⟩ => ⟨S8192x8192, .i32⟩
  | .hbm, ⟨66, _⟩ => ⟨S8192x8192, .i32⟩
  | .hbm, ⟨67, _⟩ => ⟨S8192x8192, .i32⟩
  | .hbm, ⟨68, _⟩ => ⟨S8192x8192, .i1⟩
  | .hbm, ⟨69, _⟩ => ⟨S_, .i32⟩
  | .hbm, ⟨70, _⟩ => ⟨S8x8192x8192, .i32⟩
  | .hbm, ⟨71, _⟩ => ⟨S8x8192x8192, .i1⟩
  | .hbm, ⟨72, _⟩ => ⟨S1x8192x8192, .i1⟩
  | .hbm, ⟨73, _⟩ => ⟨S8x8192x8192, .i1⟩
  | .hbm, ⟨74, _⟩ => ⟨S8x8192x8192, .i1⟩
  | .hbm, ⟨75, _⟩ => ⟨S1x8192x8192, .i1⟩
  | .hbm, ⟨76, _⟩ => ⟨S8x8192x8192, .i1⟩
  | .hbm, ⟨77, _⟩ => ⟨S8x8192x8192, .i1⟩
  | .hbm, ⟨78, _⟩ => ⟨S_, .f32⟩
  | .hbm, ⟨79, _⟩ => ⟨S_, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S_, .f32⟩
  | .hbm, ⟨85, _⟩ => ⟨S8x8192, .f32⟩
  | .hbm, ⟨86, _⟩ => ⟨S8x8192, .f32⟩
  | .hbm, ⟨87, _⟩ => ⟨S8x8192x1, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192, .f32⟩
  | .hbm, ⟨93, _⟩ => ⟨S8x8192x1, .f32⟩
  | .hbm, ⟨94, _⟩ => ⟨S8x8192x8192, .f32⟩
  | .hbm, ⟨95, _⟩ => ⟨S8x8192x8192, .f32⟩
  | .hbm, ⟨96, _⟩ => ⟨S8x8192x128, .f32⟩
  | .hbm, ⟨97, _⟩ => ⟨S2x4x8192x128, .f32⟩
  | .hbm, ⟨98, _⟩ => ⟨S2x8192x4x128, .f32⟩
  | .hbm, ⟨99, _⟩ => ⟨S16384x512, .f32⟩
  | .hbm, ⟨100, _⟩ => ⟨S16384x512, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v28 : Ref sig .tc := ⟨.hbm, 49, rfl⟩
abbrev main_c_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v29 : Ref sig .tc := ⟨.hbm, 67, rfl⟩
abbrev main_v30 : Ref sig .tc := ⟨.hbm, 68, rfl⟩
abbrev main_c_1 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_2 : Ref sig .tc := ⟨.hbm, 78, rfl⟩
abbrev main_call2_v0 : Ref sig .tc := ⟨.hbm, 79, rfl⟩
abbrev main_call2_v1 : Ref sig .tc := ⟨.hbm, 80, rfl⟩
abbrev main_v39 : Ref sig .tc := ⟨.hbm, 81, rfl⟩
abbrev main_cst_3 : Ref sig .tc := ⟨.hbm, 82, rfl⟩
abbrev main_v40 : Ref sig .tc := ⟨.hbm, 83, rfl⟩
abbrev main_cst_4 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_5 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩

abbrev nD : Nat := 1
abbrev τ : Topo := Topo.v7x

variable {F : FTy → Type} [FloatOps F]
-- ==== Proof.ProjValue.lean ====
/- The input projection's value: its output array is the reference's term of the arguments. -/
module

public import proofs.«01_k».proof.Proof.Gen.ProjIdeal.Frame
public import proofs.«01_k».proof.Proof.Gen.ProjReferenceIdeal.Run
public import proofs.«01_k».proof.Proof.Gen.ProjReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

theorem idx : ∀ t : Fin cfg0.N, win0_0.index t = ![(grid0.coords t 0).val, 0] ∧ win0_1.index t = ![0, 0, (grid0.coords t 1).val]
    ∧ win0_2.index t = ![(grid0.coords t 0).val, (grid0.coords t 1).val] ∧ (grid0.coords t 0).val < 8 ∧ (grid0.coords t 1).val < 5 :=
  (by decide +kernel : ∀ t : Fin grid0.N, _)

/-- A block of the weights, never cut, is the weights at its place. -/
theorem weights (c : Dev nD) (t : Fin cfg0.N) (y : S1x1024x1024.Idx) (i : S2x1024x5124.Idx)
    (h : ∀ a, (i a).val = win0_1.index t a * S1x1024x1024.size a + (y a).val) :
    X0_1 m c t y = m ((c : Thread nD τ).loc main_arg1) i := by
  unfold X0_1 Pipeline.Window.fill
  rw [dif_pos (moved0_1 t y)]
  unfold iblk
  have hv := V_main_arg1 m c
  generalize hV : V m c = W at hv ⊢
  show W main_arg1 _ = _
  rw [hv]
  congr 1
  funext a
  apply Fin.ext
  rw [h a]
  blk_simp

/-- A block of the residual stream at an index. -/
theorem stream (c : Dev nD) (t : Fin cfg0.N) (y : S2048x1024.Idx) (i : S2x8192x1024.Idx)
    (h : ((i 0).val * 8192 + (i 1).val) = (grid0.coords t 0).val * 2048 + (y 0).val) (h' : (i 2).val = (y 1).val) :
    iblk m c 0 t y = m ((c : Thread nD τ).loc main_arg0) i := by
  unfold iblk
  have hv : V m c main_v1 = (truncf .bf16 (shapeCast S16384x1024 (m ((c : Thread nD τ).loc main_arg0) : FVec Ideal S2x8192x1024 .f32) shapeCasts_S2x8192x1024_S16384x1024) bitsLt_bf16_f32 : FVec Ideal S16384x1024 .bf16) := by
    show StableHlo.after hostOps0 _ main_v1 = _
    after_results <;> rfl
  generalize hV : V m c = W at hv ⊢
  show W main_v1 _ = _
  rw [hv]
  show shapeCast S16384x1024 (m ((c : Thread nD τ).loc main_arg0) : FVec Ideal S2x8192x1024 .f32) shapeCasts_S2x8192x1024_S16384x1024 _ = _
  refine shapeCast_apply _ _ _ i ?_
  rw [Shape.rowMajor_val_three, Shape.rowMajor_val_two]
  blk_simp [idx t]
  rw [h, h']

theorem point (c : Dev nD) (t : Fin cfg0.N) (y : S2048x1024.Idx) : k0_pay1 (iblk m c 0 t) (X0_1 m c t) y
    = Cert.ProjReferenceIdeal.Read.val_main_v5 (F := Ideal) (m ((c : Thread nD τ).loc main_arg0)) (m ((c : Thread nD τ).loc main_arg1)) (((cfg0.win 2).blk t).view.emb y) := by
  pointwise [k0_pay1, Cert.ProjReferenceIdeal.Read.val_main_v5, Cert.ProjReferenceIdeal.Read.val_main_v4, Cert.ProjReferenceIdeal.Read.val_main_v3, Cert.ProjReferenceIdeal.Read.val_main_v2, Cert.ProjReferenceIdeal.Read.val_main_v1, Cert.ProjReferenceIdeal.Read.val_main_v0]
  refine Finset.sum_congr rfl fun k _ => congrArg₂ (· * ·) ?_ ?_
  · refine stream m c t _ _ ?_ rfl
    blk_simp [idx t]
    show (_ / 8192) * 8192 + _ % 8192 = _
    omega
  · refine weights m c t _ _ ?_
    blk_simp [idx t]
    intro a
    fin_cases a
    · rfl
    · show k.val = 0 * 1024 + k.val
      omega
    · rfl

theorem final (c : Dev nD) : (dats m 0 c).arrAt 2 (cfgs 0).N
    = Cert.ProjReferenceIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.ProjIdeal.Value
-- ==== Proof.MergeValue.lean ====
/- The merge's value: its three output arrays are the reference's terms of the arguments. -/
module

public import proofs.«01_k».proof.Proof.Gen.MergeIdeal.Frame
public import proofs.«01_k».proof.Proof.Gen.MergeReferenceIdeal.Run
public import proofs.«01_k».proof.Proof.Gen.MergeReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0, 0] ∧ win0_8.index t = ![0, 0] ∧ win0_9.index t = ![0, 0] ∧ win0_10.index t = ![0, 0]
    ∧ win0_11.index t = ![t.val, 0] ∧ win0_12.index t = ![t.val, 0] ∧ win0_13.index t = ![0, t.val] ∧ t.val < 64 :=
  (by decide +kernel : ∀ t : Fin grid0.N, _)

/-- A block of rows before the norm: the scaled residual stream plus the mixed branches. -/
def pre (v0 : Vec Ideal S256x1024 .f32) (v62 v65 v68 : FVec Ideal S256x1024 .f32) (v77 : Vec Ideal S256x512 .bf16) (v78 : Vec Ideal S1x512x1024 .bf16) (v84 : Vec Ideal S1024x1024 .bf16) : FVec Ideal S256x1024 .f32 :=
  addf (mulf (broadcast S256x1024 (Scalar.ofBits .f32 0x3FB504F3#32)) v0) (matmul (φ₂ := .bf16) dot_S256x1024_S1024x1024_S256x1024_1_0_0_1_n_n none
    (truncf .bf16 (addf v62 (mulf (matmul (φ₁ := .bf16) (φ₂ := .bf16) dot_S256x512_S512x1024_S256x1024_1_0_0_1_n_n none v77 (shapeCast S512x1024 v78 shapeCasts_S1x512x1024_S512x1024) (constant S256x1024 .f32 0x00000000#32))
      (divf (broadcast S256x1024 (Scalar.ofBits .f32 0x3F800000#32)) (addf (broadcast S256x1024 (Scalar.ofBits .f32 0x3F800000#32)) (exp (subf (broadcast S256x1024 (Scalar.ofBits .f32 0x00000000#32)) (addf v65 v68))))))) bitsLt_bf16_f32)
    (shapeCast S1024x1024 v84 shapeCasts_S1024x1024_S1024x1024) (constant S256x1024 .f32 0x00000000#32))

/-- The same from the input blocks. -/
def preB (x0 : Vec Ideal S256x1024 .f32) (x1 x2 x3 x4 : Vec Ideal S256x512 .bf16) (x5 : Vec Ideal S1024x4096 .bf16) (x6 : Vec Ideal S1x4096 .f32) (x7 : Vec Ideal S4x512x1024 .bf16) (x8 : Vec Ideal S1024x1024 .bf16) (x9 x10 : Vec Ideal S1x1024 .f32) : FVec Ideal S256x1024 .f32 :=
  pre (View.ld x0 r0_0) (k0_pay15 x0 x1 x2 x3 x4 x5 x6 x7 x8 x9 x10) (k0_pay16 x0 x1 x2 x3 x4 x5 x6 x7 x8 x9 x10) (k0_pay17 x0 x1 x2 x3 x4 x5 x6 x7 x8 x9 x10) (View.ld x4 r0_3) (View.ld x7 r0_13) (View.ld x8 r0_14)

/-- The rows before the norm are the reference's. -/
theorem pre_eq (x0 : Vec Ideal S256x1024 .f32) (x1 x2 x3 x4 : Vec Ideal S256x512 .bf16) (x5 : Vec Ideal S1024x4096 .bf16) (x6 : Vec Ideal S1x4096 .f32) (x7 : Vec Ideal S4x512x1024 .bf16) (x8 : Vec Ideal S1024x1024 .bf16) (x9 x10 : Vec Ideal S1x1024 .f32) (X0 : FVec Ideal Cert.MergeReferenceIdeal.S16384x1024 .f32) (X1 X2 X3 X4 : FVec Ideal Cert.MergeReferenceIdeal.S16384x512 .bf16) (X5 : FVec Ideal Cert.MergeReferenceIdeal.S1024x4096 .f32) (X6 : FVec Ideal Cert.MergeReferenceIdeal.S4096 .f32) (X7 : FVec Ideal Cert.MergeReferenceIdeal.S4x512x1024 .f32) (X8 : FVec Ideal Cert.MergeReferenceIdeal.S1024x1024 .f32)
    (y : S256x1024.Idx) (s : Cert.MergeReferenceIdeal.S16384x1024.Idx) (h0 : x0 y = X0 s) (h0' : ∀ k : Fin 1024, x0 (ix2 (y 0) k) = X0 (ix2 (s 0) k))
    (h1 : ∀ k : Fin 512, x1 (ix2 (y 0) k) = X1 (ix2 (s 0) k)) (h2 : ∀ k : Fin 512, x2 (ix2 (y 0) k) = X2 (ix2 (s 0) k))
    (h3 : ∀ k : Fin 512, x3 (ix2 (y 0) k) = X3 (ix2 (s 0) k)) (h4 : ∀ k : Fin 512, x4 (ix2 (y 0) k) = X4 (ix2 (s 0) k))
    (h5 : ∀ (k : Fin 1024) (n : Fin 4096), x5 (ix2 k n) = X5 (ix2 k n)) (h6 : ∀ n : Fin 4096, x6 (ix2 0 n) = X6 (ix1 n))
    (h7 : ∀ (a : Fin 4) (k : Fin 512) (n : Fin 1024), x7 (ix3 a k n) = X7 (ix3 a k n)) (h8 : ∀ k : Fin 1024, x8 (ix2 k (y 1)) = X8 (ix2 k (s 1))) :
    preB x0 x1 x2 x3 x4 x5 x6 x7 x8 x9 x10 y = Cert.MergeReferenceIdeal.Read.val_main_v22 (F := Ideal) X0 X1 X2 X3 X4 X5 X6 X7 X8 s := by
  pointwise [preB, pre, k0_pay15, k0_pay16, k0_pay17, k0_pay14, k0_pay4, k0_pay5, k0_pay6, k0_pay7, k0_pay8, k0_pay9, Cert.MergeReferenceIdeal.Read.val_main_v22, Cert.MergeReferenceIdeal.Read.val_main_v21, Cert.MergeReferenceIdeal.Read.val_main_v20, Cert.MergeReferenceIdeal.Read.val_main_v19, Cert.MergeReferenceIdeal.Read.val_main_v18, Cert.MergeReferenceIdeal.Read.val_main_v17, Cert.MergeReferenceIdeal.Read.val_main_v16, Cert.MergeReferenceIdeal.Read.val_main_v15, Cert.MergeReferenceIdeal.Read.val_main_v14, Cert.MergeReferenceIdeal.Read.val_main_v13, Cert.MergeReferenceIdeal.Read.val_main_v12, Cert.MergeReferenceIdeal.Read.val_main_v11, Cert.MergeReferenceIdeal.Read.val_main_v10, Cert.MergeReferenceIdeal.Read.val_main_v9, Cert.MergeReferenceIdeal.Read.val_main_v8, Cert.MergeReferenceIdeal.Read.val_main_v7, Cert.MergeReferenceIdeal.Read.val_main_v6, Cert.MergeReferenceIdeal.Read.val_main_v5, Cert.MergeReferenceIdeal.Read.val_main_v4, Cert.MergeReferenceIdeal.Read.val_main_v3, Cert.MergeReferenceIdeal.Read.val_main_v2, Cert.MergeReferenceIdeal.Read.val_main_v1, Cert.MergeReferenceIdeal.Read.val_main_v0, Cert.MergeReferenceIdeal.Read.val_main_cst, Cert.MergeReferenceIdeal.Read.val_main_cst_0, Cert.MergeReferenceIdeal.Read.val_main_cst_1, Cert.MergeReferenceIdeal.Read.val_main_cst_2]
  rw [h0]
  refine congrArg₂ (· + ·) rfl (Finset.sum_congr rfl fun d _ => congrArg₂ (· * ·) ?_ (h8 d))
  rw [Fin.sum_univ_four]
  refine congrArg₂ (· + ·) (congrArg₂ (· + ·) (congrArg₂ (· + ·) ?_ ?_) ?_) ?_
  all_goals
    rw [mul_comm]
    refine congrArg₂ (· * ·) (congrArg (fun z => Ideal.div 1 (1 + Ideal.exp z)) ?_) (Finset.sum_congr rfl fun k _ => ?_)
  · rw [zero_sub]
    refine congrArg Neg.neg (congrArg₂ (· + ·) (Finset.sum_congr rfl fun k _ => congrArg₂ (· * ·) (h0' k) ((h5 k _).trans ?_)) ((h6 _).trans ?_))
    · exact congrArg (fun n => X5 (ix2 k n)) (Fin.ext (by simp))
    · exact congrArg (fun n => X6 (ix1 n)) (Fin.ext (by simp))
  · exact (mul_comm _ _).trans (congrArg₂ (· * ·) (h7 _ _ _) ((h1 k).trans (by simp)))
  · rw [zero_sub]
    refine congrArg Neg.neg (congrArg₂ (· + ·) (Finset.sum_congr rfl fun k _ => congrArg₂ (· * ·) (h0' k) ((h5 k _).trans ?_)) ((h6 _).trans ?_))
    · exact congrArg (fun n => X5 (ix2 k n)) (Fin.ext (by simp))
    · exact congrArg (fun n => X6 (ix1 n)) (Fin.ext (by simp))
  · exact (mul_comm _ _).trans (congrArg₂ (· * ·) (h7 _ _ _) ((h2 k).trans (by simp)))
  · rw [zero_sub]
    refine congrArg Neg.neg (congrArg₂ (· + ·) (Finset.sum_congr rfl fun k _ => congrArg₂ (· * ·) (h0' k) ((h5 k _).trans ?_)) ((h6 _).trans ?_))
    · exact congrArg (fun n => X5 (ix2 k n)) (Fin.ext (by simp))
    · exact congrArg (fun n => X6 (ix1 n)) (Fin.ext (by simp))
  · exact (mul_comm _ _).trans (congrArg₂ (· * ·) (h7 _ _ _) ((h3 k).trans (by simp)))
  · rw [zero_sub]
    refine congrArg Neg.neg (congrArg₂ (· + ·) (Finset.sum_congr rfl fun k _ => congrArg₂ (· * ·) (h0' k) ((h5 k _).trans ?_)) ((h6 _).trans ?_))
    · exact congrArg (fun n => X5 (ix2 k n)) (Fin.ext (by simp))
    · exact congrArg (fun n => X6 (ix1 n)) (Fin.ext (by simp))
  · exact (mul_comm _ _).trans (congrArg₂ (· * ·) (h7 _ _ _) ((h4 k).trans (by simp)))

/-- The norm of a block of rows, scaled and shifted. -/
def nrm (Z : FVec Ideal S256x1024 .f32) (g b : Vec Ideal S1x1024 .f32) : FVec Ideal S256x1024 .f32 :=
  let ctr : FVec Ideal S256x1024 .f32 := subf Z (broadcastTo S256x1024 (divf (shapeCast S256x1 (multiReduction .add [1] S256 Z 0x00000000#32 reduces_S256x1024_S256 (.inl rfl) rfl) shapeCasts_S256_S256x1) (broadcast S256x1 (Scalar.ofBits .f32 0x44800000#32))) broadcasts_S256x1_S256x1024)
  k0_pay1 (k0_pay10 g) (k0_pay11 b) ctr
    (addf (divf (shapeCast S256x1 (multiReduction .add [1] S256 (mulf ctr ctr) 0x00000000#32 reduces_S256x1024_S256 (.inl rfl) rfl) shapeCasts_S256_S256x1) (broadcast S256x1 (Scalar.ofBits .f32 0x44800000#32))) (broadcast S256x1 (Scalar.ofBits .f32 0x3727C5AC#32)))

theorem out_eq (x0 : Vec Ideal S256x1024 .f32) (x1 x2 x3 x4 : Vec Ideal S256x512 .bf16) (x5 : Vec Ideal S1024x4096 .bf16) (x6 : Vec Ideal S1x4096 .f32) (x7 : Vec Ideal S4x512x1024 .bf16) (x8 : Vec Ideal S1024x1024 .bf16) (x9 x10 : Vec Ideal S1x1024 .f32) : k0_pay1 (k0_pay18 x0 x1 x2 x3 x4 x5 x6 x7 x8 x9 x10) (k0_pay19 x0 x1 x2 x3 x4 x5 x6 x7 x8 x9 x10) (k0_pay20 x0 x1 x2 x3 x4 x5 x6 x7 x8 x9 x10) (k0_pay21 x0 x1 x2 x3 x4 x5 x6 x7 x8 x9 x10) = nrm (preB x0 x1 x2 x3 x4 x5 x6 x7 x8 x9 x10) (View.ld x9 r0_15) (View.ld x10 r0_15) := rfl

/-- Rows whose values before the norm are the reference's have the reference's values after it. -/
theorem nrm_eq (x0 : Vec Ideal S256x1024 .f32) (x1 x2 x3 x4 : Vec Ideal S256x512 .bf16) (x5 : Vec Ideal S1024x4096 .bf16) (x6 : Vec Ideal S1x4096 .f32) (x7 : Vec Ideal S4x512x1024 .bf16) (x8 : Vec Ideal S1024x1024 .bf16) (x9 x10 : Vec Ideal S1x1024 .f32) (X0 : FVec Ideal Cert.MergeReferenceIdeal.S16384x1024 .f32) (X1 X2 X3 X4 : FVec Ideal Cert.MergeReferenceIdeal.S16384x512 .bf16) (X5 : FVec Ideal Cert.MergeReferenceIdeal.S1024x4096 .f32) (X6 : FVec Ideal Cert.MergeReferenceIdeal.S4096 .f32) (X7 : FVec Ideal Cert.MergeReferenceIdeal.S4x512x1024 .f32) (X8 : FVec Ideal Cert.MergeReferenceIdeal.S1024x1024 .f32) (X9 X10 : FVec Ideal Cert.MergeReferenceIdeal.S1024 .f32)
    (y : S256x1024.Idx) (s : Cert.MergeReferenceIdeal.S16384x1024.Idx) (h9 : x9 (ix2 0 (y 1)) = X9 (ix1 (s 1))) (h10 : x10 (ix2 0 (y 1)) = X10 (ix1 (s 1))) (Z : FVec Ideal S256x1024 .f32)
    (hZ : ∀ e : Fin 1024, Z (ix2 (y 0) e) = Cert.MergeReferenceIdeal.Read.val_main_v22 (F := Ideal) X0 X1 X2 X3 X4 X5 X6 X7 X8 (ix2 (s 0) e))
    (hZ' : Z y = Cert.MergeReferenceIdeal.Read.val_main_v22 (F := Ideal) X0 X1 X2 X3 X4 X5 X6 X7 X8 s) :
    nrm Z (View.ld x9 r0_15) (View.ld x10 r0_15) y = Cert.MergeReferenceIdeal.Read.val_main_v46 (F := Ideal) X0 X1 X2 X3 X4 X5 X6 X7 X8 X9 X10 s := by
  pointwise [nrm, k0_pay1, k0_pay10, k0_pay11, Cert.MergeReferenceIdeal.Read.val_main_v46, Cert.MergeReferenceIdeal.Read.val_main_v45, Cert.MergeReferenceIdeal.Read.val_main_v44, Cert.MergeReferenceIdeal.Read.val_main_v43, Cert.MergeReferenceIdeal.Read.val_main_v42, Cert.MergeReferenceIdeal.Read.val_main_v41, Cert.MergeReferenceIdeal.Read.val_main_v40, Cert.MergeReferenceIdeal.Read.val_main_v39, Cert.MergeReferenceIdeal.Read.val_main_v38, Cert.MergeReferenceIdeal.Read.val_main_v37, Cert.MergeReferenceIdeal.Read.val_main_v36, Cert.MergeReferenceIdeal.Read.val_main_v35, Cert.MergeReferenceIdeal.Read.val_main_v34, Cert.MergeReferenceIdeal.Read.val_main_v33, Cert.MergeReferenceIdeal.Read.val_main_v32, Cert.MergeReferenceIdeal.Read.val_main_v31, Cert.MergeReferenceIdeal.Read.val_main_v30, Cert.MergeReferenceIdeal.Read.val_main_v29, Cert.MergeReferenceIdeal.Read.val_main_v28, Cert.MergeReferenceIdeal.Read.val_main_v27, Cert.MergeReferenceIdeal.Read.val_main_v26, Cert.MergeReferenceIdeal.Read.val_main_v25, Cert.MergeReferenceIdeal.Read.val_main_v24, Cert.MergeReferenceIdeal.Read.val_main_v23, Cert.MergeReferenceIdeal.Read.val_main_cst_2, Cert.MergeReferenceIdeal.Read.val_main_cst_3, Cert.MergeReferenceIdeal.Read.val_main_cst_4, Cert.MergeReferenceIdeal.Read.val_main_cst_5, Cert.MergeReferenceIdeal.Read.val_main_cst_6]
  rw [hZ', h9, h10]
  simp only [hZ]

theorem read0 (c : Dev nD) (t : Fin cfg0.N) (y : S256x1024.Idx) (i : S16384x1024.Idx) (h : (i 0).val = t.val * 256 + (y 0).val) (h' : (i 1).val = (y 1).val) :
    iblk m c 0 t y = m ((c : Thread nD τ).loc main_arg0) i := by
  blk_point [iblk, V, idx t]

theorem read1 (c : Dev nD) (t : Fin cfg0.N) (y : S256x512.Idx) (i : S16384x512.Idx) (h : (i 0).val = t.val * 256 + (y 0).val) (h' : (i 1).val = (y 1).val) :
    iblk m c 1 t y = m ((c : Thread nD τ).loc main_arg1) i := by
  blk_point [iblk, V, idx t]

theorem read2 (c : Dev nD) (t : Fin cfg0.N) (y : S256x512.Idx) (i : S16384x512.Idx) (h : (i 0).val = t.val * 256 + (y 0).val) (h' : (i 1).val = (y 1).val) :
    iblk m c 2 t y = m ((c : Thread nD τ).loc main_arg2) i := by
  blk_point [iblk, V, idx t]

theorem read3 (c : Dev nD) (t : Fin cfg0.N) (y : S256x512.Idx) (i : S16384x512.Idx) (h : (i 0).val = t.val * 256 + (y 0).val) (h' : (i 1).val = (y 1).val) :
    iblk m c 3 t y = m ((c : Thread nD τ).loc main_arg3) i := by
  blk_point [iblk, V, idx t]

theorem read4 (c : Dev nD) (t : Fin cfg0.N) (y : S256x512.Idx) (i : S16384x512.Idx) (h : (i 0).val = t.val * 256 + (y 0).val) (h' : (i 1).val = (y 1).val) :
    iblk m c 4 t y = m ((c : Thread nD τ).loc main_arg4) i := by
  blk_point [iblk, V, idx t]

theorem host5 (c : Dev nD) : V m c main_v0 = (truncf .bf16 (m ((c : Thread nD τ).loc main_arg5) : FVec Ideal S1024x4096 .f32) bitsLt_bf16_f32 : FVec Ideal S1024x4096 .bf16) := by
  show StableHlo.after hostOps0 _ main_v0 = _
  after_results <;> rfl

theorem read5 (c : Dev nD) (t : Fin cfg0.N) (k : Fin 1024) (n : Fin 4096) :
    iblk m c 5 t (ix2 k n) = (m ((c : Thread nD τ).loc main_arg5) : FVec Ideal S1024x4096 .f32) (ix2 k n) := by
  unfold iblk
  have hv := host5 m c
  generalize V m c = W at hv ⊢
  have he : (((cfg0.win 5).blk t).view.emb (ix2 k n : S1024x4096.Idx) : S1024x4096.Idx) = ix2 k n := by blk_ext [idx t]
  show W main_v0 _ = _
  rw [hv]
  refine (congrArg (truncf .bf16 (m ((c : Thread nD τ).loc main_arg5) : FVec Ideal S1024x4096 .f32) bitsLt_bf16_f32 : FVec Ideal S1024x4096 .bf16) he).trans ?_
  rfl

theorem host6 (c : Dev nD) : V m c main_v1 = (broadcastInDim S1x4096 ![1] bcast_S4096_S1x4096_1 (m ((c : Thread nD τ).loc main_arg6) : FVec Ideal S4096 .f32) : FVec Ideal S1x4096 .f32) := by
  show StableHlo.after hostOps0 _ main_v1 = _
  after_results <;> rfl

theorem read6 (c : Dev nD) (t : Fin cfg0.N) (n : Fin 4096) :
    iblk m c 6 t (ix2 0 n) = (m ((c : Thread nD τ).loc main_arg6) : FVec Ideal S4096 .f32) (ix1 n) := by
  unfold iblk
  have hv := host6 m c
  generalize V m c = W at hv ⊢
  have he : (((cfg0.win 6).blk t).view.emb (ix2 0 n : S1x4096.Idx) : S1x4096.Idx) = ix2 0 n := by blk_ext [idx t]
  show W main_v1 _ = _
  rw [hv]
  refine (congrArg (broadcastInDim S1x4096 ![1] bcast_S4096_S1x4096_1 (m ((c : Thread nD τ).loc main_arg6) : FVec Ideal S4096 .f32) : FVec Ideal S1x4096 .f32) he).trans ?_
  exact broadcastInDim_apply _ _ _ _ (ix1 n) (fun a => by fin_cases a; rfl)

theorem host7 (c : Dev nD) : V m c main_v2 = (truncf .bf16 (m ((c : Thread nD τ).loc main_arg7) : FVec Ideal S4x512x1024 .f32) bitsLt_bf16_f32 : FVec Ideal S4x512x1024 .bf16) := by
  show StableHlo.after hostOps0 _ main_v2 = _
  after_results <;> rfl

theorem read7 (c : Dev nD) (t : Fin cfg0.N) (a : Fin 4) (k : Fin 512) (n : Fin 1024) :
    iblk m c 7 t (ix3 a k n) = (m ((c : Thread nD τ).loc main_arg7) : FVec Ideal S4x512x1024 .f32) (ix3 a k n) := by
  unfold iblk
  have hv := host7 m c
  generalize V m c = W at hv ⊢
  have he : (((cfg0.win 7).blk t).view.emb (ix3 a k n : S4x512x1024.Idx) : S4x512x1024.Idx) = ix3 a k n := by blk_ext [idx t]
  show W main_v2 _ = _
  rw [hv]
  refine (congrArg (truncf .bf16 (m ((c : Thread nD τ).loc main_arg7) : FVec Ideal S4x512x1024 .f32) bitsLt_bf16_f32 : FVec Ideal S4x512x1024 .bf16) he).trans ?_
  rfl

theorem host8 (c : Dev nD) : V m c main_v3 = (truncf .bf16 (m ((c : Thread nD τ).loc main_arg8) : FVec Ideal S1024x1024 .f32) bitsLt_bf16_f32 : FVec Ideal S1024x1024 .bf16) := by
  show StableHlo.after hostOps0 _ main_v3 = _
  after_results <;> rfl

theorem read8 (c : Dev nD) (t : Fin cfg0.N) (k n : Fin 1024) :
    iblk m c 8 t (ix2 k n) = (m ((c : Thread nD τ).loc main_arg8) : FVec Ideal S1024x1024 .f32) (ix2 k n) := by
  unfold iblk
  have hv := host8 m c
  generalize V m c = W at hv ⊢
  have he : (((cfg0.win 8).blk t).view.emb (ix2 k n : S1024x1024.Idx) : S1024x1024.Idx) = ix2 k n := by blk_ext [idx t]
  show W main_v3 _ = _
  rw [hv]
  refine (congrArg (truncf .bf16 (m ((c : Thread nD τ).loc main_arg8) : FVec Ideal S1024x1024 .f32) bitsLt_bf16_f32 : FVec Ideal S1024x1024 .bf16) he).trans ?_
  rfl

theorem host9 (c : Dev nD) : V m c main_v4 = (broadcastInDim S1x1024 ![1] bcast_S1024_S1x1024_1 (m ((c : Thread nD τ).loc main_arg9) : FVec Ideal S1024 .f32) : FVec Ideal S1x1024 .f32) := by
  show StableHlo.after hostOps0 _ main_v4 = _
  after_results <;> rfl

theorem read9 (c : Dev nD) (t : Fin cfg0.N) (n : Fin 1024) :
    iblk m c 9 t (ix2 0 n) = (m ((c : Thread nD τ).loc main_arg9) : FVec Ideal S1024 .f32) (ix1 n) := by
  unfold iblk
  have hv := host9 m c
  generalize V m c = W at hv ⊢
  have he : (((cfg0.win 9).blk t).view.emb (ix2 0 n : S1x1024.Idx) : S1x1024.Idx) = ix2 0 n := by blk_ext [idx t]
  show W main_v4 _ = _
  rw [hv]
  refine (congrArg (broadcastInDim S1x1024 ![1] bcast_S1024_S1x1024_1 (m ((c : Thread nD τ).loc main_arg9) : FVec Ideal S1024 .f32) : FVec Ideal S1x1024 .f32) he).trans ?_
  exact broadcastInDim_apply _ _ _ _ (ix1 n) (fun a => by fin_cases a; rfl)

theorem host10 (c : Dev nD) : V m c main_v5 = (broadcastInDim S1x1024 ![1] bcast_S1024_S1x1024_1 (m ((c : Thread nD τ).loc main_arg10) : FVec Ideal S1024 .f32) : FVec Ideal S1x1024 .f32) := by
  show StableHlo.after hostOps0 _ main_v5 = _
  after_results <;> rfl

theorem read10 (c : Dev nD) (t : Fin cfg0.N) (n : Fin 1024) :
    iblk m c 10 t (ix2 0 n) = (m ((c : Thread nD τ).loc main_arg10) : FVec Ideal S1024 .f32) (ix1 n) := by
  unfold iblk
  have hv := host10 m c
  generalize V m c = W at hv ⊢
  have he : (((cfg0.win 10).blk t).view.emb (ix2 0 n : S1x1024.Idx) : S1x1024.Idx) = ix2 0 n := by blk_ext [idx t]
  show W main_v5 _ = _
  rw [hv]
  refine (congrArg (broadcastInDim S1x1024 ![1] bcast_S1024_S1x1024_1 (m ((c : Thread nD τ).loc main_arg10) : FVec Ideal S1024 .f32) : FVec Ideal S1x1024 .f32) he).trans ?_
  exact broadcastInDim_apply _ _ _ _ (ix1 n) (fun a => by fin_cases a; rfl)

/-- The three outputs' common value: row r of block t is row 256 t + r of the reference's. -/
theorem value (c : Dev nD) (t : Fin cfg0.N) (y : S256x1024.Idx) (s : S16384x1024.Idx) (h : (s 0).val = t.val * 256 + (y 0).val) (h' : (s 1).val = (y 1).val) :
    k0_pay1 (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay20 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t)) y = Cert.MergeReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) s := by
  have h1 : (y 1 : Fin 1024) = s 1 := Fin.ext h'.symm
  rw [out_eq]
  refine nrm_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) y s ?_ ?_ _ (fun e => ?_) ?_
  · exact (read9 m c t (y 1)).trans (congrArg (fun n => (m ((c : Thread nD τ).loc main_arg9) : FVec Ideal S1024 .f32) (ix1 n)) h1)
  · exact (read10 m c t (y 1)).trans (congrArg (fun n => (m ((c : Thread nD τ).loc main_arg10) : FVec Ideal S1024 .f32) (ix1 n)) h1)
  · exact pre_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (y 0) e) (ix2 (s 0) e) (read0 m c t _ _ h rfl) (fun k => read0 m c t _ _ h rfl) (fun k => read1 m c t _ _ h rfl) (fun k => read2 m c t _ _ h rfl) (fun k => read3 m c t _ _ h rfl) (fun k => read4 m c t _ _ h rfl) (fun k n => read5 m c t k n) (fun n => read6 m c t n) (fun a k n => read7 m c t a k n) (fun k => read8 m c t k e)
  · exact pre_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) y s (read0 m c t _ _ h h') (fun k => read0 m c t _ _ h rfl) (fun k => read1 m c t _ _ h rfl) (fun k => read2 m c t _ _ h rfl) (fun k => read3 m c t _ _ h rfl) (fun k => read4 m c t _ _ h rfl) (fun k n => read5 m c t k n) (fun n => read6 m c t n) (fun a k n => read7 m c t a k n) (fun k => (read8 m c t k (y 1)).trans (congrArg (fun n => (m ((c : Thread nD τ).loc main_arg8) : FVec Ideal S1024x1024 .f32) (ix2 k n)) h1))

/-- The third output is the first one's block, transposed. -/
theorem pay3_eq (a b : FVec Ideal S1x1024 .f32) (c : FVec Ideal S256x1024 .f32) (d : FVec Ideal S256x1 .f32) (y : S1024x256.Idx) :
    k0_pay3 a b c d y = k0_pay1 a b c d (ix2 (y 1) (y 0)) := by
  pointwise [k0_pay3, k0_pay1]

theorem final11 (c : Dev nD) : (dats m 0 c).arrAt 11 (cfgs 0).N = Cert.MergeReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]; frame_out
  refine value m c t y _ ?_ ?_ <;> blk_simp [idx t]

theorem final12 (c : Dev nD) : (dats m 0 c).arrAt 12 (cfgs 0).N = Cert.MergeReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]; frame_out
  refine value m c t y _ ?_ ?_ <;> blk_simp [idx t]

theorem final13 (c : Dev nD) : (dats m 0 c).arrAt 13 (cfgs 0).N = Cert.MergeReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t _ y => ?_
  blk_simp
  rw [after0_13]; frame_out
  refine (pay3_eq _ _ _ _ y).trans ?_
  rw [Cert.MergeReferenceIdeal.Read.val_main_v49_apply, Cert.MergeReferenceIdeal.Read.val_main_v48_apply]
  refine value m c t _ _ ?_ ?_
  · show ((((cfg0.win 13).blk t).view.emb y) 1 : ℕ) = _
    blk_simp [idx t]
  · show ((((cfg0.win 13).blk t).view.emb y) 0 : ℕ) = _
    blk_simp [idx t]

end Cert.MergeIdeal.Value
-- ==== Proof.GmlpValue.lean ====
/- The gating's value: the second output array of the call is the reference's term of the arguments. -/
module

public import proofs.«01_k».proof.Proof.Gen.LocalIdeal.Frame
public import proofs.«01_k».proof.Proof.Gen.LocalReferenceIdeal.Run
public import proofs.«01_k».proof.Proof.Gen.LocalReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LocalIdeal.Value

open Cert.LocalIdeal Cert.LocalIdeal.Gen

variable (m : (ℓ : Loc nD τ sig) → Buf (Elt Ideal) ℓ)

theorem idx : ∀ t : Fin cfg0.N, win0_2.index t = ![t.val, 5] ∧ win0_3.index t = ![t.val, 6] ∧ win0_8.index t = ![0, 0] ∧ win0_9.index t = ![0, 0]
    ∧ win0_10.index t = ![0, 0, 0] ∧ win0_11.index t = ![0, 0] ∧ win0_13.index t = ![t.val, 0] ∧ t.val < 64 :=
  (by decide +kernel : ∀ t : Fin grid0.N, _)

theorem read2 (c : Dev nD) (t : Fin cfg0.N) (y : S256x512.Idx) (i : S16384x5120.Idx) (h : (i 0).val = t.val * 256 + (y 0).val) (h' : (i 1).val = 2560 + (y 1).val) :
    iblk m c 2 t y = m ((c : Thread nD τ).loc main_arg0) i := by
  blk_point [iblk, V, idx t]

theorem read3 (c : Dev nD) (t : Fin cfg0.N) (y : S256x512.Idx) (i : S16384x5120.Idx) (h : (i 0).val = t.val * 256 + (y 0).val) (h' : (i 1).val = 3072 + (y 1).val) :
    iblk m c 3 t y = m ((c : Thread nD τ).loc main_arg0) i := by
  blk_point [iblk, V, idx t]

theorem host8 (c : Dev nD) : V m c main_v97 = (broadcastInDim S1x512 ![1] bcast_S512_S1x512_1 (m ((c : Thread nD τ).loc main_arg3) : FVec Ideal S512 .f32) : FVec Ideal S1x512 .f32) := by
  show StableHlo.after hostOps0 _ main_v97 = _
  after_results <;> rfl

theorem read8 (c : Dev nD) (t : Fin cfg0.N) (n : Fin 512) :
    iblk m c 8 t (ix2 0 n) = (m ((c : Thread nD τ).loc main_arg3) : FVec Ideal S512 .f32) (ix1 n) := by
  unfold iblk
  have hv := host8 m c
  generalize V m c = W at hv ⊢
  have he : (((cfg0.win 8).blk t).view.emb (ix2 0 n : S1x512.Idx) : S1x512.Idx) = ix2 0 n := by blk_ext [idx t]
  show W main_v97 _ = _
  rw [hv]
  refine (congrArg (broadcastInDim S1x512 ![1] bcast_S512_S1x512_1 (m ((c : Thread nD τ).loc main_arg3) : FVec Ideal S512 .f32) : FVec Ideal S1x512 .f32) he).trans ?_
  exact broadcastInDim_apply _ _ _ _ (ix1 n) (fun a => by fin_cases a; rfl)

theorem host9 (c : Dev nD) : V m c main_v98 = (broadcastInDim S1x512 ![1] bcast_S512_S1x512_1 (m ((c : Thread nD τ).loc main_arg4) : FVec Ideal S512 .f32) : FVec Ideal S1x512 .f32) := by
  show StableHlo.after hostOps0 _ main_v98 = _
  after_results <;> rfl

theorem read9 (c : Dev nD) (t : Fin cfg0.N) (n : Fin 512) :
    iblk m c 9 t (ix2 0 n) = (m ((c : Thread nD τ).loc main_arg4) : FVec Ideal S512 .f32) (ix1 n) := by
  unfold iblk
  have hv := host9 m c
  generalize V m c = W at hv ⊢
  have he : (((cfg0.win 9).blk t).view.emb (ix2 0 n : S1x512.Idx) : S1x512.Idx) = ix2 0 n := by blk_ext [idx t]
  show W main_v98 _ = _
  rw [hv]
  refine (congrArg (broadcastInDim S1x512 ![1] bcast_S512_S1x512_1 (m ((c : Thread nD τ).loc main_arg4) : FVec Ideal S512 .f32) : FVec Ideal S1x512 .f32) he).trans ?_
  exact broadcastInDim_apply _ _ _ _ (ix1 n) (fun a => by fin_cases a; rfl)

theorem read10 (c : Dev nD) (t : Fin cfg0.N) (y : S4x128x128.Idx) :
    iblk m c 10 t y = (m ((c : Thread nD τ).loc main_arg5) : FVec Ideal S4x128x128 .f32) y := by
  blk_point [iblk, V, idx t]

theorem host11 (c : Dev nD) : V m c main_v94 = (shapeCast S128x512 (broadcastInDim S128x4x128 ![0, 1] bcast_S128x4_S128x4x128_0_1
    (transpose S128x4 [1, 0] (m ((c : Thread nD τ).loc main_arg6) : FVec Ideal S4x128 .f32) transposes_S4x128_S128x4_1_0)) shapeCasts_S128x4x128_S128x512 : FVec Ideal S128x512 .f32) := by
  show StableHlo.after hostOps0 _ main_v94 = _
  after_results <;> rfl

/-- The bias laid out along its group's channels. -/
theorem bias_eq (b : FVec Ideal S4x128 .f32) (a : Fin 128) (n : Fin 512) :
    (shapeCast S128x512 (broadcastInDim S128x4x128 ![0, 1] bcast_S128x4_S128x4x128_0_1 (transpose S128x4 [1, 0] b transposes_S4x128_S128x4_1_0)) shapeCasts_S128x4x128_S128x512 : FVec Ideal S128x512 .f32) (ix2 a n)
      = b (ix2 ⟨n.val / 128, by omega⟩ a) := by
  pointwise []

theorem read11 (c : Dev nD) (t : Fin cfg0.N) (a : Fin 128) (n : Fin 512) :
    iblk m c 11 t (ix2 a n) = (m ((c : Thread nD τ).loc main_arg6) : FVec Ideal S4x128 .f32) (ix2 ⟨n.val / 128, by omega⟩ a) := by
  unfold iblk
  have hv := host11 m c
  generalize V m c = W at hv ⊢
  have he : (((cfg0.win 11).blk t).view.emb (ix2 a n : S128x512.Idx) : S128x512.Idx) = ix2 a n := by blk_ext [idx t]
  show W main_v94 _ = _
  rw [hv]
  exact (congrArg (shapeCast S128x512 (broadcastInDim S128x4x128 ![0, 1] bcast_S128x4_S128x4x128_0_1 (transpose S128x4 [1, 0] (m ((c : Thread nD τ).loc main_arg6) : FVec Ideal S4x128 .f32) transposes_S4x128_S128x4_1_0)) shapeCasts_S128x4x128_S128x512 : FVec Ideal S128x512 .f32) he).trans (bias_eq _ a n)

/-- The tanh form of gelu, entry by entry. -/
def gl (x : Vec Ideal S256x512 .bf16) : FVec Ideal S256x512 .f32 :=
  k0_pay20 (k0_pay17 x) (k0_pay18 x) k0_pay19

theorem half_mul (x a b : EReal) : a * x * b = x * (a * b) := by
  rw [mul_comm a x, mul_assoc]

theorem gl_eq_u (x : Vec Ideal S256x512 .bf16) (X0 : FVec Ideal Cert.LocalReferenceIdeal.S16384x5120 .bf16) (y : S256x512.Idx) (s : Cert.LocalReferenceIdeal.S2x8192x512.Idx) (i : Cert.LocalReferenceIdeal.S16384x5120.Idx)
    (h : x y = X0 i) (h0 : (i 0).val = (s 0).val * 8192 + (s 1).val) (h1 : (i 1).val = 2560 + (s 2).val) :
    gl x y = Cert.LocalReferenceIdeal.Read.val_main_v16 (F := Ideal) X0 s := by
  have hi : i = ix2 ⟨(s 0).val * 8192 + (s 1).val, h0 ▸ (i 0).isLt⟩ ⟨2560 + (s 2).val, h1 ▸ (i 1).isLt⟩ := by
    funext a
    match a with
    | ⟨0, _⟩ => exact Fin.ext h0
    | ⟨1, _⟩ => exact Fin.ext h1
  rw [hi] at h
  pointwise [gl, k0_pay20, k0_pay19, k0_pay18, k0_pay17, k0_pay16, Cert.LocalReferenceIdeal.Read.val_main_v16, Cert.LocalReferenceIdeal.Read.val_main_v15, Cert.LocalReferenceIdeal.Read.val_main_v14, Cert.LocalReferenceIdeal.Read.val_main_v13, Cert.LocalReferenceIdeal.Read.val_main_v12, Cert.LocalReferenceIdeal.Read.val_main_v11, Cert.LocalReferenceIdeal.Read.val_main_v10, Cert.LocalReferenceIdeal.Read.val_main_v9, Cert.LocalReferenceIdeal.Read.val_main_v8, Cert.LocalReferenceIdeal.Read.val_main_v7, Cert.LocalReferenceIdeal.Read.val_main_v6, Cert.LocalReferenceIdeal.Read.val_main_v5, Cert.LocalReferenceIdeal.Read.val_main_v4, Cert.LocalReferenceIdeal.Read.val_main_cst, Cert.LocalReferenceIdeal.Read.val_main_cst_0, Cert.LocalReferenceIdeal.Read.val_main_cst_1, Cert.LocalReferenceIdeal.Read.val_main_cst_2, Cert.LocalReferenceIdeal.Read.val_main_v2, Cert.LocalReferenceIdeal.Read.val_main_v1, Cert.LocalReferenceIdeal.Read.val_main_v0]
  rw [h]
  exact half_mul _ _ _

theorem gl_eq_v (x : Vec Ideal S256x512 .bf16) (X0 : FVec Ideal Cert.LocalReferenceIdeal.S16384x5120 .bf16) (y : S256x512.Idx) (s : Cert.LocalReferenceIdeal.S2x8192x512.Idx) (i : Cert.LocalReferenceIdeal.S16384x5120.Idx)
    (h : x y = X0 i) (h0 : (i 0).val = (s 0).val * 8192 + (s 1).val) (h1 : (i 1).val = 3072 + (s 2).val) :
    gl x y = Cert.LocalReferenceIdeal.Read.val_main_v29 (F := Ideal) X0 s := by
  have hi : i = ix2 ⟨(s 0).val * 8192 + (s 1).val, h0 ▸ (i 0).isLt⟩ ⟨3072 + (s 2).val, h1 ▸ (i 1).isLt⟩ := by
    funext a
    match a with
    | ⟨0, _⟩ => exact Fin.ext h0
    | ⟨1, _⟩ => exact Fin.ext h1
  rw [hi] at h
  pointwise [gl, k0_pay20, k0_pay19, k0_pay18, k0_pay17, k0_pay16, Cert.LocalReferenceIdeal.Read.val_main_v29, Cert.LocalReferenceIdeal.Read.val_main_v28, Cert.LocalReferenceIdeal.Read.val_main_v27, Cert.LocalReferenceIdeal.Read.val_main_v26, Cert.LocalReferenceIdeal.Read.val_main_v25, Cert.LocalReferenceIdeal.Read.val_main_v24, Cert.LocalReferenceIdeal.Read.val_main_v23, Cert.LocalReferenceIdeal.Read.val_main_v22, Cert.LocalReferenceIdeal.Read.val_main_v21, Cert.LocalReferenceIdeal.Read.val_main_v20, Cert.LocalReferenceIdeal.Read.val_main_v19, Cert.LocalReferenceIdeal.Read.val_main_v18, Cert.LocalReferenceIdeal.Read.val_main_v17, Cert.LocalReferenceIdeal.Read.val_main_cst_3, Cert.LocalReferenceIdeal.Read.val_main_cst_4, Cert.LocalReferenceIdeal.Read.val_main_cst_5, Cert.LocalReferenceIdeal.Read.val_main_cst_6, Cert.LocalReferenceIdeal.Read.val_main_v3, Cert.LocalReferenceIdeal.Read.val_main_v1, Cert.LocalReferenceIdeal.Read.val_main_v0]
  rw [h]
  exact half_mul _ _ _

/-- The norm of a block of rows, scaled and shifted. -/
def nrm (Z : FVec Ideal S256x512 .f32) (g b : Vec Ideal S1x512 .f32) : FVec Ideal S256x512 .bf16 :=
  let ctr : FVec Ideal S256x512 .f32 := subf Z (broadcastTo S256x512 (divf (shapeCast S256x1 (multiReduction .add [1] S256 Z 0x00000000#32 reduces_S256x512_S256 (.inl rfl) rfl) shapeCasts_S256_S256x1) (broadcast S256x1 (Scalar.ofBits .f32 0x44000000#32))) broadcasts_S256x1_S256x512)
  let var : FVec Ideal S256x1 .f32 := divf (shapeCast S256x1 (multiReduction .add [1] S256 (mulf ctr ctr) 0x00000000#32 reduces_S256x512_S256 (.inl rfl) rfl) shapeCasts_S256_S256x1) (broadcast S256x1 (Scalar.ofBits .f32 0x44000000#32))
  truncf .bf16 (addf (mulf (mulf ctr (broadcastTo S256x512 (rsqrt (addf var (broadcast S256x1 (Scalar.ofBits .f32 0x3727C5AC#32)))) broadcasts_S256x1_S256x512))
    (broadcastTo S256x512 (shapeCast S1x512 g shapeCasts_S1x512_S1x512) broadcasts_S1x512_S256x512)) (broadcastTo S256x512 (shapeCast S1x512 b shapeCasts_S1x512_S1x512) broadcasts_S1x512_S256x512)) bitsLt_bf16_f32

theorem norm_eq (x : Vec Ideal S256x512 .bf16) (g b : Vec Ideal S1x512 .f32) : k0_pay21 x g b = nrm (gl x) g b := rfl

theorem nrm_eq (X0 : FVec Ideal Cert.LocalReferenceIdeal.S16384x5120 .bf16) (X3 X4 : FVec Ideal Cert.LocalReferenceIdeal.S512 .f32) (Z : FVec Ideal S256x512 .f32) (g b : Vec Ideal S1x512 .f32) (y : S256x512.Idx) (s : Cert.LocalReferenceIdeal.S2x8192x512.Idx)
    (hg : g (ix2 0 (y 1)) = X3 (ix1 (s 2))) (hb : b (ix2 0 (y 1)) = X4 (ix1 (s 2)))
    (hZ : ∀ e : Fin 512, Z (ix2 (y 0) e) = Cert.LocalReferenceIdeal.Read.val_main_v29 (F := Ideal) X0 (ix3 (s 0) (s 1) e))
    (hZ' : Z y = Cert.LocalReferenceIdeal.Read.val_main_v29 (F := Ideal) X0 s) :
    nrm Z g b y = Cert.LocalReferenceIdeal.Read.val_main_v53 (F := Ideal) X0 X3 X4 s := by
  pointwise [nrm, Cert.LocalReferenceIdeal.Read.val_main_v53, Cert.LocalReferenceIdeal.Read.val_main_v52, Cert.LocalReferenceIdeal.Read.val_main_v51, Cert.LocalReferenceIdeal.Read.val_main_v50, Cert.LocalReferenceIdeal.Read.val_main_v49, Cert.LocalReferenceIdeal.Read.val_main_v48, Cert.LocalReferenceIdeal.Read.val_main_v47, Cert.LocalReferenceIdeal.Read.val_main_v46, Cert.LocalReferenceIdeal.Read.val_main_v45, Cert.LocalReferenceIdeal.Read.val_main_v44, Cert.LocalReferenceIdeal.Read.val_main_v43, Cert.LocalReferenceIdeal.Read.val_main_v42, Cert.LocalReferenceIdeal.Read.val_main_v41, Cert.LocalReferenceIdeal.Read.val_main_v40, Cert.LocalReferenceIdeal.Read.val_main_v39, Cert.LocalReferenceIdeal.Read.val_main_v38, Cert.LocalReferenceIdeal.Read.val_main_v37, Cert.LocalReferenceIdeal.Read.val_main_v36, Cert.LocalReferenceIdeal.Read.val_main_v35, Cert.LocalReferenceIdeal.Read.val_main_v34, Cert.LocalReferenceIdeal.Read.val_main_v33, Cert.LocalReferenceIdeal.Read.val_main_v32, Cert.LocalReferenceIdeal.Read.val_main_v31, Cert.LocalReferenceIdeal.Read.val_main_v30, Cert.LocalReferenceIdeal.Read.val_main_cst_7, Cert.LocalReferenceIdeal.Read.val_main_cst_8, Cert.LocalReferenceIdeal.Read.val_main_cst_9, Cert.LocalReferenceIdeal.Read.val_main_cst_10, Cert.LocalReferenceIdeal.Read.val_main_cst_11]
  rw [hZ', hg, hb]
  simp only [hZ]

/-- The gating of a block of rows at an entry: the first operand times the lower-triangular mix of the second over its chunk, plus the bias. -/
def gate (U : FVec Ideal S256x512 .f32) (V : FVec Ideal S256x512 .bf16) (W : Vec Ideal S4x128x128 .f32) (B : Vec Ideal S128x512 .f32) (r : Fin 256) (n : Fin 512) : EReal :=
  U (ix2 r n) * ((∑ k : Fin 128, Scalar.select (IntOp.cmpi .sge (BitVec.ofNat 32 (r.val % 128)) (BitVec.ofNat 32 k.val))
    (W (ix3 ⟨n.val / 128, by omega⟩ ⟨r.val % 128, by omega⟩ k) * V (ix2 ⟨r.val / 128 * 128 + k.val, by omega⟩ n)) (0 : EReal)) + B (ix2 ⟨r.val % 128, by omega⟩ n))

/-- Two gatings read at the same entries agree. -/
theorem gate_congr (U U' : EReal) (f f' : Fin 128 → EReal) (hU : U = U') (hf : ∀ k, f k = f' k) {b b' : EReal} (hb : b = b') :
    U * ((∑ k, f k) + b) = U' * ((∑ k, f' k) + b') := by
  rw [hU, hb, Finset.sum_congr rfl fun k _ => hf k]

theorem sel_congr (n n' : ℕ) (k : Fin 128) (z z' : EReal) (hn : n = n') (hz : z = z') :
    Scalar.select (IntOp.cmpi .sge (BitVec.ofNat 32 n) (BitVec.ofNat 32 k.val)) z (0 : EReal) = Scalar.select (IntOp.cmpi .sge (BitVec.ofNat 32 n') (BitVec.ofNat 32 k.val)) z' 0 := by
  rw [hn, hz]

theorem sel_congr_add (n n' : ℕ) (k : Fin 128) (z z' : EReal) (hn : n = n') (hz : z = z') :
    Scalar.select (IntOp.cmpi .sge (BitVec.ofNat 32 n) (BitVec.ofNat 32 k.val)) z (0 : EReal) = Scalar.select (IntOp.cmpi .sge (IntOp.addi (BitVec.ofNat 32 n') 0#32) (BitVec.ofNat 32 k.val)) z' 0 := by
  rw [hn, hz]
  exact congrArg (fun w => Scalar.select (IntOp.cmpi .sge w (BitVec.ofNat 32 k.val)) z' (0 : EReal)) (BitVec.add_zero _).symm

/-- The reference's gating at a row and a channel. -/
theorem ref_eq (X0 : FVec Ideal Cert.LocalReferenceIdeal.S16384x5120 .bf16) (X3 X4 : FVec Ideal Cert.LocalReferenceIdeal.S512 .f32) (X5 : FVec Ideal Cert.LocalReferenceIdeal.S4x128x128 .f32) (X6 : FVec Ideal Cert.LocalReferenceIdeal.S4x128 .f32)
    (U : FVec Ideal S256x512 .f32) (V : FVec Ideal S256x512 .bf16) (W : Vec Ideal S4x128x128 .f32) (B : Vec Ideal S128x512 .f32) (r : Fin 256) (n : Fin 512) (i : Cert.LocalReferenceIdeal.S16384x512.Idx) (t : ℕ)
    (hr : (i 0).val = t * 256 + r.val) (hn : (i 1).val = n.val)
    (hU : ∀ s : Cert.LocalReferenceIdeal.S2x8192x512.Idx, (s 0).val * 8192 + (s 1).val = t * 256 + r.val → (s 2).val = n.val → U (ix2 r n) = Cert.LocalReferenceIdeal.Read.val_main_v16 (F := Ideal) X0 s)
    (hV : ∀ (q : Fin 256) (s : Cert.LocalReferenceIdeal.S2x8192x512.Idx), (s 0).val * 8192 + (s 1).val = t * 256 + q.val → (s 2).val = n.val → V (ix2 q n) = Cert.LocalReferenceIdeal.Read.val_main_v53 (F := Ideal) X0 X3 X4 s)
    (hW : W = X5) (hB : ∀ a : Fin 128, B (ix2 a n) = X6 (ix2 ⟨n.val / 128, by omega⟩ a)) :
    gate U V W B r n = Cert.LocalReferenceIdeal.Read.val_main_v69 (F := Ideal) X0 X3 X4 X5 X6 i := by
  have hi : (i 0).val < 16384 := (i 0).isLt
  pointwise [Cert.LocalReferenceIdeal.Read.val_main_v69, Cert.LocalReferenceIdeal.Read.val_main_v68, Cert.LocalReferenceIdeal.Read.val_main_v67, Cert.LocalReferenceIdeal.Read.val_main_v66, Cert.LocalReferenceIdeal.Read.val_main_v65, Cert.LocalReferenceIdeal.Read.val_main_v64, Cert.LocalReferenceIdeal.Read.val_main_v63, Cert.LocalReferenceIdeal.Read.val_main_v62, Cert.LocalReferenceIdeal.Read.val_main_v61, Cert.LocalReferenceIdeal.Read.val_main_v60, Cert.LocalReferenceIdeal.Read.val_main_v59, Cert.LocalReferenceIdeal.Read.val_main_v58, Cert.LocalReferenceIdeal.Read.val_main_v57, Cert.LocalReferenceIdeal.Read.val_main_v56, Cert.LocalReferenceIdeal.Read.val_main_v55, Cert.LocalReferenceIdeal.Read.val_main_v54, Cert.LocalReferenceIdeal.Read.val_main_cst_12, Cert.LocalReferenceIdeal.Read.val_main_call0_v5, Cert.LocalReferenceIdeal.Read.val_main_call0_cst, Cert.LocalReferenceIdeal.Read.val_main_call0_v4, Cert.LocalReferenceIdeal.Read.val_main_call0_v3, Cert.LocalReferenceIdeal.Read.val_main_call0_v2, Cert.LocalReferenceIdeal.Read.val_main_call0_v1, Cert.LocalReferenceIdeal.Read.val_main_call0_c, Cert.LocalReferenceIdeal.Read.val_main_call0_v0]
  unfold gate
  refine gate_congr _ _ _ _ (hU _ ?_ hn) (fun k => ?_) ((hB _).trans (congrArg X6 (congrArg₂ ix2 (Fin.ext ?_) (Fin.ext ?_))))
  · show (i 0).val / 8192 * 8192 + (i 0).val % 8192 = _
    omega
  · refine sel_congr_add _ _ k _ _ ?_ ?_
    · show r.val % 128 = (i 0).val % 8192 % 128
      omega
    · rw [mul_comm, hW]
      refine congrArg₂ (· * ·) (hV _ _ ?_ hn) (congrArg X5 (congrArg₂ (fun a b => ix3 a b k) (Fin.ext ?_) (Fin.ext ?_)))
      · show (i 0).val / 8192 * 8192 + ((i 0).val % 8192 / 128 * 128 + k.val) = t * 256 + (r.val / 128 * 128 + k.val)
        omega
      · show n.val / 128 = (i 1).val / 128
        rw [hn]
      · show r.val % 128 = (i 0).val % 8192 % 128
        omega
  · show n.val / 128 = (i 1).val / 128
    rw [hn]
  · show r.val % 128 = (i 0).val % 8192 % 128
    omega

theorem piece24 (U : FVec Ideal S256x512 .f32) (V : FVec Ideal S256x512 .bf16) (W : Vec Ideal S4x128x128 .f32) (B : Vec Ideal S128x512 .f32) (x : S128x128.Idx) (r : Fin 256) (n : Fin 512)
    (hr : r.val = 0 + (x 0).val) (hn : n.val = 0 + (x 1).val) :
    k0_pay24 U V k0_pay22 (View.ld W r0_4) (View.ld B r0_23) x = gate U V W B r n := by
  have h0 : (x 0).val < 128 := (x 0).isLt
  have h1 : (x 1).val < 128 := (x 1).isLt
  pointwise [k0_pay24, k0_pay22, k0_pay23]
  unfold gate
  refine gate_congr _ _ _ _ (congrArg U (congrArg₂ ix2 (Fin.ext ?_) (Fin.ext ?_))) (fun k => sel_congr _ _ k _ _ ?_ (congrArg₂ (· * ·) (congrArg W (congrArg₂ (fun a b => ix3 a b k) (Fin.ext ?_) (Fin.ext ?_))) (congrArg V (congrArg₂ ix2 (Fin.ext ?_) (Fin.ext ?_))))) (congrArg B (congrArg₂ ix2 (Fin.ext ?_) (Fin.ext ?_)))
  all_goals
    (try dsimp only)
    (try simp only [Fin.val_zero, Fin.val_one, Fin.val_two])
    omega

theorem piece25 (U : FVec Ideal S256x512 .f32) (V : FVec Ideal S256x512 .bf16) (W : Vec Ideal S4x128x128 .f32) (B : Vec Ideal S128x512 .f32) (x : S128x128.Idx) (r : Fin 256) (n : Fin 512)
    (hr : r.val = 128 + (x 0).val) (hn : n.val = 0 + (x 1).val) :
    k0_pay25 U V k0_pay22 (View.ld W r0_4) (View.ld B r0_23) x = gate U V W B r n := by
  have h0 : (x 0).val < 128 := (x 0).isLt
  have h1 : (x 1).val < 128 := (x 1).isLt
  pointwise [k0_pay25, k0_pay22, k0_pay23]
  unfold gate
  refine gate_congr _ _ _ _ (congrArg U (congrArg₂ ix2 (Fin.ext ?_) (Fin.ext ?_))) (fun k => sel_congr _ _ k _ _ ?_ (congrArg₂ (· * ·) (congrArg W (congrArg₂ (fun a b => ix3 a b k) (Fin.ext ?_) (Fin.ext ?_))) (congrArg V (congrArg₂ ix2 (Fin.ext ?_) (Fin.ext ?_))))) (congrArg B (congrArg₂ ix2 (Fin.ext ?_) (Fin.ext ?_)))
  all_goals
    (try dsimp only)
    (try simp only [Fin.val_zero, Fin.val_one, Fin.val_two])
    omega

theorem piece27 (U : FVec Ideal S256x512 .f32) (V : FVec Ideal S256x512 .bf16) (W : Vec Ideal S4x128x128 .f32) (B : Vec Ideal S128x512 .f32) (x : S128x128.Idx) (r : Fin 256) (n : Fin 512)
    (hr : r.val = 0 + (x 0).val) (hn : n.val = 128 + (x 1).val) :
    k0_pay27 U V (iota .tc S128x128 32 [0] iota_S128x128_d0_w32) (iota .tc S128x128 32 [1] iota_S128x128_d1_w32) (View.ld W r0_9) (View.ld B r0_26) x = gate U V W B r n := by
  have h0 : (x 0).val < 128 := (x 0).isLt
  have h1 : (x 1).val < 128 := (x 1).isLt
  pointwise [k0_pay27, k0_pay26]
  unfold gate
  refine gate_congr _ _ _ _ (congrArg U (congrArg₂ ix2 (Fin.ext ?_) (Fin.ext ?_))) (fun k => sel_congr _ _ k _ _ ?_ (congrArg₂ (· * ·) (congrArg W (congrArg₂ (fun a b => ix3 a b k) (Fin.ext ?_) (Fin.ext ?_))) (congrArg V (congrArg₂ ix2 (Fin.ext ?_) (Fin.ext ?_))))) (congrArg B (congrArg₂ ix2 (Fin.ext ?_) (Fin.ext ?_)))
  all_goals
    (try dsimp only)
    (try simp only [Fin.val_zero, Fin.val_one, Fin.val_two])
    omega

theorem piece28 (U : FVec Ideal S256x512 .f32) (V : FVec Ideal S256x512 .bf16) (W : Vec Ideal S4x128x128 .f32) (B : Vec Ideal S128x512 .f32) (x : S128x128.Idx) (r : Fin 256) (n : Fin 512)
    (hr : r.val = 128 + (x 0).val) (hn : n.val = 128 + (x 1).val) :
    k0_pay28 U V (k0_pay26 (iota .tc S128x128 32 [0] iota_S128x128_d0_w32) (iota .tc S128x128 32 [1] iota_S128x128_d1_w32) (View.ld W r0_9)) (View.ld B r0_26) x = gate U V W B r n := by
  have h0 : (x 0).val < 128 := (x 0).isLt
  have h1 : (x 1).val < 128 := (x 1).isLt
  pointwise [k0_pay28, k0_pay26]
  unfold gate
  refine gate_congr _ _ _ _ (congrArg U (congrArg₂ ix2 (Fin.ext ?_) (Fin.ext ?_))) (fun k => sel_congr _ _ k _ _ ?_ (congrArg₂ (· * ·) (congrArg W (congrArg₂ (fun a b => ix3 a b k) (Fin.ext ?_) (Fin.ext ?_))) (congrArg V (congrArg₂ ix2 (Fin.ext ?_) (Fin.ext ?_))))) (congrArg B (congrArg₂ ix2 (Fin.ext ?_) (Fin.ext ?_)))
  all_goals
    (try dsimp only)
    (try simp only [Fin.val_zero, Fin.val_one, Fin.val_two])
    omega

theorem piece30 (U : FVec Ideal S256x512 .f32) (V : FVec Ideal S256x512 .bf16) (W : Vec Ideal S4x128x128 .f32) (B : Vec Ideal S128x512 .f32) (x : S128x128.Idx) (r : Fin 256) (n : Fin 512)
    (hr : r.val = 0 + (x 0).val) (hn : n.val = 256 + (x 1).val) :
    k0_pay30 U V (iota .tc S128x128 32 [0] iota_S128x128_d0_w32) (iota .tc S128x128 32 [1] iota_S128x128_d1_w32) (View.ld W r0_14) (View.ld B r0_29) x = gate U V W B r n := by
  have h0 : (x 0).val < 128 := (x 0).isLt
  have h1 : (x 1).val < 128 := (x 1).isLt
  pointwise [k0_pay30, k0_pay29]
  unfold gate
  refine gate_congr _ _ _ _ (congrArg U (congrArg₂ ix2 (Fin.ext ?_) (Fin.ext ?_))) (fun k => sel_congr _ _ k _ _ ?_ (congrArg₂ (· * ·) (congrArg W (congrArg₂ (fun a b => ix3 a b k) (Fin.ext ?_) (Fin.ext ?_))) (congrArg V (congrArg₂ ix2 (Fin.ext ?_) (Fin.ext ?_))))) (congrArg B (congrArg₂ ix2 (Fin.ext ?_) (Fin.ext ?_)))
  all_goals
    (try dsimp only)
    (try simp only [Fin.val_zero, Fin.val_one, Fin.val_two])
    omega

theorem piece31 (U : FVec Ideal S256x512 .f32) (V : FVec Ideal S256x512 .bf16) (W : Vec Ideal S4x128x128 .f32) (B : Vec Ideal S128x512 .f32) (x : S128x128.Idx) (r : Fin 256) (n : Fin 512)
    (hr : r.val = 128 + (x 0).val) (hn : n.val = 256 + (x 1).val) :
    k0_pay31 U V (iota .tc S128x128 32 [0] iota_S128x128_d0_w32) (iota .tc S128x128 32 [1] iota_S128x128_d1_w32) (View.ld W r0_14) (View.ld B r0_29) x = gate U V W B r n := by
  have h0 : (x 0).val < 128 := (x 0).isLt
  have h1 : (x 1).val < 128 := (x 1).isLt
  pointwise [k0_pay31, k0_pay29]
  unfold gate
  refine gate_congr _ _ _ _ (congrArg U (congrArg₂ ix2 (Fin.ext ?_) (Fin.ext ?_))) (fun k => sel_congr _ _ k _ _ ?_ (congrArg₂ (· * ·) (congrArg W (congrArg₂ (fun a b => ix3 a b k) (Fin.ext ?_) (Fin.ext ?_))) (congrArg V (congrArg₂ ix2 (Fin.ext ?_) (Fin.ext ?_))))) (congrArg B (congrArg₂ ix2 (Fin.ext ?_) (Fin.ext ?_)))
  all_goals
    (try dsimp only)
    (try simp only [Fin.val_zero, Fin.val_one, Fin.val_two])
    omega

theorem piece2 (U : FVec Ideal S256x512 .f32) (V : FVec Ideal S256x512 .bf16) (W : Vec Ideal S4x128x128 .f32) (B : Vec Ideal S128x512 .f32) (x : S128x128.Idx) (r : Fin 256) (n : Fin 512)
    (hr : r.val = 0 + (x 0).val) (hn : n.val = 384 + (x 1).val) :
    k0_pay2 U V (k0_pay32 (iota .tc S128x128 32 [0] iota_S128x128_d0_w32) (iota .tc S128x128 32 [1] iota_S128x128_d1_w32)) (View.ld W r0_19) (View.ld B r0_32) x = gate U V W B r n := by
  have h0 : (x 0).val < 128 := (x 0).isLt
  have h1 : (x 1).val < 128 := (x 1).isLt
  pointwise [k0_pay2, k0_pay1, k0_pay32]
  unfold gate
  refine gate_congr _ _ _ _ (congrArg U (congrArg₂ ix2 (Fin.ext ?_) (Fin.ext ?_))) (fun k => sel_congr _ _ k _ _ ?_ (congrArg₂ (· * ·) (congrArg W (congrArg₂ (fun a b => ix3 a b k) (Fin.ext ?_) (Fin.ext ?_))) (congrArg V (congrArg₂ ix2 (Fin.ext ?_) (Fin.ext ?_))))) (congrArg B (congrArg₂ ix2 (Fin.ext ?_) (Fin.ext ?_)))
  all_goals
    (try dsimp only)
    (try simp only [Fin.val_zero, Fin.val_one, Fin.val_two])
    omega

theorem piece3 (U : FVec Ideal S256x512 .f32) (V : FVec Ideal S256x512 .bf16) (W : Vec Ideal S4x128x128 .f32) (B : Vec Ideal S128x512 .f32) (x : S128x128.Idx) (r : Fin 256) (n : Fin 512)
    (hr : r.val = 128 + (x 0).val) (hn : n.val = 384 + (x 1).val) :
    k0_pay3 U V (k0_pay32 (iota .tc S128x128 32 [0] iota_S128x128_d0_w32) (iota .tc S128x128 32 [1] iota_S128x128_d1_w32)) (View.ld W r0_19) (View.ld B r0_32) x = gate U V W B r n := by
  have h0 : (x 0).val < 128 := (x 0).isLt
  have h1 : (x 1).val < 128 := (x 1).isLt
  pointwise [k0_pay3, k0_pay1, k0_pay32]
  unfold gate
  refine gate_congr _ _ _ _ (congrArg U (congrArg₂ ix2 (Fin.ext ?_) (Fin.ext ?_))) (fun k => sel_congr _ _ k _ _ ?_ (congrArg₂ (· * ·) (congrArg W (congrArg₂ (fun a b => ix3 a b k) (Fin.ext ?_) (Fin.ext ?_))) (congrArg V (congrArg₂ ix2 (Fin.ext ?_) (Fin.ext ?_))))) (congrArg B (congrArg₂ ix2 (Fin.ext ?_) (Fin.ext ?_)))
  all_goals
    (try dsimp only)
    (try simp only [Fin.val_zero, Fin.val_one, Fin.val_two])
    omega

/-- The second output's value: row r of block t is row 256 t + r of the reference's. -/
theorem value (c : Dev nD) (t : Fin cfg0.N) (r : Fin 256) (n : Fin 512) (i : S16384x512.Idx) (hr : (i 0).val = t.val * 256 + r.val) (hn : (i 1).val = n.val) :
    gate (gl (iblk m c 2 t)) (nrm (gl (iblk m c 3 t)) (iblk m c 8 t) (iblk m c 9 t)) (iblk m c 10 t) (iblk m c 11 t) r n
      = Cert.LocalReferenceIdeal.Read.val_main_v69 (F := Ideal) (m ((c : Thread nD τ).loc main_arg0)) (m ((c : Thread nD τ).loc main_arg3)) (m ((c : Thread nD τ).loc main_arg4)) (m ((c : Thread nD τ).loc main_arg5)) (m ((c : Thread nD τ).loc main_arg6)) i := by
  obtain ⟨-, -, -, -, -, -, -, ht⟩ := idx t
  refine ref_eq _ _ _ _ _ _ _ _ _ r n i t.val hr hn (fun s h0 h1 => ?_) (fun q s h0 h1 => ?_) (funext fun y => read10 m c t y) (fun a => read11 m c t a n)
  · exact gl_eq_u _ _ (ix2 r n) s (ix2 ⟨t.val * 256 + r.val, by omega⟩ ⟨2560 + n.val, by omega⟩) (read2 m c t _ _ rfl rfl) h0.symm (congrArg (2560 + ·) h1.symm)
  · have hs : ∀ (e : Fin 512) (s' : Cert.LocalReferenceIdeal.S2x8192x512.Idx), s' 0 = s 0 → s' 1 = s 1 → (s' 2).val = e.val →
        gl (iblk m c 3 t) (ix2 q e) = Cert.LocalReferenceIdeal.Read.val_main_v29 (F := Ideal) (m ((c : Thread nD τ).loc main_arg0)) s' := fun e s' e0 e1 e2 =>
      gl_eq_v _ _ (ix2 q e) s' (ix2 ⟨t.val * 256 + q.val, by omega⟩ ⟨3072 + e.val, by omega⟩) (read3 m c t _ _ rfl rfl) (by rw [e0, e1]; exact h0.symm) (congrArg (3072 + ·) e2.symm)
    have hc : n = s 2 := Fin.ext h1.symm
    refine nrm_eq _ _ _ _ _ _ (ix2 q n) s ?_ ?_ (fun e => hs e _ rfl rfl rfl) (hs n s rfl rfl h1)
    · exact (read8 m c t n).trans (congrArg (fun z => (m ((c : Thread nD τ).loc main_arg3) : FVec Ideal S512 .f32) (ix1 z)) hc)
    · exact (read9 m c t n).trans (congrArg (fun z => (m ((c : Thread nD τ).loc main_arg4) : FVec Ideal S512 .f32) (ix1 z)) hc)

set_option maxHeartbeats 1000000 in
/-- The second output's block from the input blocks: its eight stores are the gating's pieces. -/
theorem block_eq (i : grid0.Coords) (x0 : Vec Ideal S256x512 .bf16) (x1 : Vec Ideal S16x512 .bf16) (x2 x3 : Vec Ideal S256x512 .bf16) (x4 : Vec Ideal S4x256x256 .bf16) (x5 : Vec Ideal S4x256x16 .bf16) (x6 : Vec Ideal S4x128x128 .bf16) (x7 x8 x9 : Vec Ideal S1x512 .f32) (x10 : Vec Ideal S4x128x128 .f32) (x11 : Vec Ideal S128x512 .f32) (y : S256x512.Idx) :
    out0_13 i x0 x1 x2 x3 x4 x5 x6 x7 x8 x9 x10 x11 y = gate (gl x2) (nrm (gl x3) x8 x9) x10 x11 (y 0) (y 1) := by
  have e2 : View.ld x2 r0_0 = x2 := View.ld_unit_zero (by decide) _ _
  have e3 : View.ld x3 r0_0 = x3 := View.ld_unit_zero (by decide) _ _
  have e8 : View.ld x8 r0_22 = x8 := View.ld_unit_zero (by decide) _ _
  have e9 : View.ld x9 r0_22 = x9 := View.ld_unit_zero (by decide) _ _
  have hU : k0_pay37 i x0 x1 x2 x3 x4 x5 x6 x7 x8 x9 x10 x11 = gl x2 := by unfold k0_pay37; rw [e2]; rfl
  have hV : k0_pay38 i x0 x1 x2 x3 x4 x5 x6 x7 x8 x9 x10 x11 = nrm (gl x3) x8 x9 := by unfold k0_pay38; rw [e3, e8, e9]; rfl
  unfold out0_13
  rw [hU, hV]
  generalize gl x2 = U
  generalize nrm (gl x3) x8 x9 = V
  refine View.canon_eq_of_allAt _ y _ (cover0_13 _ _ _ _ _ _ _ _ y) ?_
  refine View.allAt_cons_unit _ _ _ _ _ (fun x h => piece3 U V x10 x11 x (y 0) (y 1) (h 0) (h 1)) ?_
  refine View.allAt_cons_unit _ _ _ _ _ (fun x h => piece2 U V x10 x11 x (y 0) (y 1) (h 0) (h 1)) ?_
  refine View.allAt_cons_unit _ _ _ _ _ (fun x h => piece31 U V x10 x11 x (y 0) (y 1) (h 0) (h 1)) ?_
  refine View.allAt_cons_unit _ _ _ _ _ (fun x h => piece30 U V x10 x11 x (y 0) (y 1) (h 0) (h 1)) ?_
  refine View.allAt_cons_unit _ _ _ _ _ (fun x h => piece28 U V x10 x11 x (y 0) (y 1) (h 0) (h 1)) ?_
  refine View.allAt_cons_unit _ _ _ _ _ (fun x h => piece27 U V x10 x11 x (y 0) (y 1) (h 0) (h 1)) ?_
  refine View.allAt_cons_unit _ _ _ _ _ (fun x h => piece25 U V x10 x11 x (y 0) (y 1) (h 0) (h 1)) ?_
  refine View.allAt_cons_unit _ _ _ _ _ (fun x h => piece24 U V x10 x11 x (y 0) (y 1) (h 0) (h 1)) ?_
  exact View.allAt_nil _ _

theorem final13 (c : Dev nD) : (dats m 0 c).arrAt 13 (cfgs 0).N
    = Cert.LocalReferenceIdeal.Read.val_main_v69 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t _ y => ?_
  blk_simp
  rw [after0_13]
  refine (block_eq _ _ _ _ _ _ _ _ _ _ _ _ _ y).trans (value m c t (y 0) (y 1) _ ?_ ?_)
  · blk_simp [idx t]
  · blk_simp [idx t]

end Cert.LocalIdeal.Value
-- ==== Proof.GateValue.lean ====
/- The forget-gate projection's value: the four columns read from its output array are the reference's term of the arguments. -/
module

public import proofs.«01_k».proof.Proof.Gen.GateIdeal.Frame
public import proofs.«01_k».proof.Proof.Gen.GateReferenceIdeal.Run
public import proofs.«01_k».proof.Proof.Gen.GateReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen

variable (m : (ℓ : Loc nD τ sig) → Buf (Elt Ideal) ℓ)

theorem idx : ∀ t : Fin cfg0.N, win0_0.index t = ![(grid0.coords t 0).val, 0] ∧ win0_1.index t = ![0, (grid0.coords t 1).val]
    ∧ win0_2.index t = ![(grid0.coords t 0).val, (grid0.coords t 1).val] ∧ (grid0.coords t 0).val < 8 ∧ (grid0.coords t 1).val < 1 :=
  (by decide +kernel : ∀ t : Fin grid0.N, _)

/-- The padded weights, as the call reads them. -/
def wts (c : Dev nD) : FVec Ideal S1024x128 .f32 := V m c main_v2

/-- One of the first four columns of the padded weights is a column of the weights. -/
theorem wts_apply (c : Dev nD) (y : S1024x128.Idx) (i : S2x1024x5124.Idx) (h0 : (i 0).val = 0) (h1 : (i 1).val = (y 0).val)
    (h2 : (i 2).val = 5120 + (y 1).val) (hy : (y 1).val < 4) : wts m c y = m ((c : Thread nD τ).loc main_arg1) i := by
  have hv : ∃ z : FVec Ideal S_ .f32, V m c main_v2 = pad S1024x128 ![0, 0] ![0, 124] ![0, 0]
      (shapeCast S1024x4 (extractStridedSlice S1x1024x4 ![0, 0, 5120] (m ((c : Thread nD τ).loc main_arg1) : FVec Ideal S2x1024x5124 .f32) slices_S2x1024x5124_S1x1024x4_0_0_5120)
        shapeCasts_S1x1024x4_S1024x4) z pads_S1024x4_S1024x128_000_01240 h_S_ := by
    refine ⟨sitofp .f32 (constantI S_ 32 0#32), ?_⟩
    show StableHlo.after (List.flatten [hostOps0, hostOps0_1, hostOps0_2]) _ main_v2 = _
    simp only [List.flatten_cons, List.flatten_nil, List.append_nil, List.cons_append, List.nil_append]
    after_results <;> rfl
  obtain ⟨z, hz⟩ := hv
  unfold wts
  rw [hz]
  unfold pad
  have hin : ∀ a : Fin S1024x4.rank, (![0, 0] : Fin 2 → Nat) a ≤ (y (a.cast rfl)).val ∧ ((y (a.cast rfl)).val - (![0, 0] : Fin 2 → Nat) a) % ((![0, 0] : Fin 2 → Nat) a + 1) = 0
      ∧ ((y (a.cast rfl)).val - (![0, 0] : Fin 2 → Nat) a) / ((![0, 0] : Fin 2 → Nat) a + 1) < S1024x4.size a := by
    intro a
    have hk : (y 0).val < 1024 := (y 0).isLt
    fin_cases a
    · exact ⟨Nat.zero_le _, Nat.mod_one _, by show ((y 0).val - 0) / 1 < 1024; omega⟩
    · exact ⟨Nat.zero_le _, Nat.mod_one _, by show ((y 1).val - 0) / 1 < 4; omega⟩
  rw [dif_pos hin]
  have hk : (y 0).val < 1024 := (y 0).isLt
  refine (shapeCast_apply _ _ _ (fun a => match a with | ⟨0, _⟩ => ⟨0, Nat.one_pos⟩ | ⟨1, _⟩ => ⟨(y 0).val, hk⟩ | ⟨2, _⟩ => ⟨(y 1).val, hy⟩ : S1x1024x4.Idx) ?_).trans ?_
  · rw [Shape.rowMajor_val_three, Shape.rowMajor_val_two]
    show (0 * 1024 + (y 0).val) * 4 + (y 1).val = ((y 0).val - 0) / 1 * 4 + ((y 1).val - 0) / 1
    omega
  · unfold extractStridedSlice
    congr 1
    funext a
    apply Fin.ext
    fin_cases a
    · exact h0.symm
    · show 0 + (y 0).val = (i 1).val
      omega
    · exact h2.symm

/-- A block of the weights at an index. -/
theorem weights (c : Dev nD) (t : Fin cfg0.N) (y i : S1024x128.Idx) (h : ∀ a, (i a).val = win0_1.index t a * S1024x128.size a + (y a).val) :
    iblk m c 1 t y = wts m c i := by
  unfold iblk wts
  generalize hV : V m c = W
  show W main_v2 _ = _
  congr 1
  funext a
  apply Fin.ext
  rw [h a]
  blk_simp

/-- A block of the residual stream at an index. -/
theorem stream (c : Dev nD) (t : Fin cfg0.N) (y : S2048x1024.Idx) (i : S2x8192x1024.Idx)
    (h : ((i 0).val * 8192 + (i 1).val) = (grid0.coords t 0).val * 2048 + (y 0).val) (h' : (i 2).val = (y 1).val) :
    iblk m c 0 t y = m ((c : Thread nD τ).loc main_arg0) i := by
  unfold iblk
  have hv : V m c main_v4 = (truncf .bf16 (shapeCast S16384x1024 (m ((c : Thread nD τ).loc main_arg0) : FVec Ideal S2x8192x1024 .f32) shapeCasts_S2x8192x1024_S16384x1024) bitsLt_bf16_f32 : FVec Ideal S16384x1024 .bf16) := by
    show StableHlo.after (List.flatten [hostOps0, hostOps0_1, hostOps0_2]) _ main_v4 = _
    simp only [List.flatten_cons, List.flatten_nil, List.append_nil, List.cons_append, List.nil_append]
    after_results <;> rfl
  generalize hV : V m c = W at hv ⊢
  show W main_v4 _ = _
  rw [hv]
  show shapeCast S16384x1024 (m ((c : Thread nD τ).loc main_arg0) : FVec Ideal S2x8192x1024 .f32) shapeCasts_S2x8192x1024_S16384x1024 _ = _
  refine shapeCast_apply _ _ _ i ?_
  rw [Shape.rowMajor_val_three, Shape.rowMajor_val_two]
  blk_simp [idx t]
  rw [h, h']

/-- Row `r` of the stream is row `r % 8192` of batch element `r / 8192`. -/
abbrev row (r : Fin 16384) (k : Fin 1024) : S2x8192x1024.Idx := fun a => match a with
  | ⟨0, _⟩ => ⟨r.val / 8192, by show r.val / 8192 < 2; omega⟩
  | ⟨1, _⟩ => ⟨r.val % 8192, Nat.mod_lt _ (by decide)⟩
  | ⟨2, _⟩ => k

abbrev at2 (k : Fin 1024) (n : Fin 128) : S1024x128.Idx := fun a => match a with
  | ⟨0, _⟩ => k
  | ⟨1, _⟩ => n

/-- The residual stream. -/
abbrev xs (c : Dev nD) : FVec Ideal S2x8192x1024 .f32 := m ((c : Thread nD τ).loc main_arg0)

/-- The product of the stream and the padded weights, all 128 columns of it. -/
def whole (c : Dev nD) : FVec Ideal S16384x128 .f32 := fun p =>
  ∑ k : Fin 1024, (xs m c (row (p 0) k) * wts m c (at2 k (p 1)) : EReal)

theorem point (c : Dev nD) (t : Fin cfg0.N) (y : S2048x128.Idx) :
    k0_pay1 (iblk m c 0 t) (iblk m c 1 t) y = whole m c (((cfg0.win 2).blk t).view.emb y) := by
  have he0 : (((cfg0.win 2).blk t).view.emb y 0 : ℕ) = (grid0.coords t 0).val * 2048 + (y 0).val := by blk_simp [idx t]
  have he1 : (((cfg0.win 2).blk t).view.emb y 1 : ℕ) = (grid0.coords t 1).val * 128 + (y 1).val := by blk_simp [idx t]
  generalize ((cfg0.win 2).blk t).view.emb y = p at he0 he1
  pointwise [k0_pay1, whole]
  refine Finset.sum_congr rfl fun k _ => congrArg₂ (· * ·) ?_ ?_
  · refine stream m c t _ _ ?_ rfl
    show ((p 0 : ℕ) / 8192) * 8192 + (p 0 : ℕ) % 8192 = (grid0.coords t 0).val * 2048 + (y 0).val
    omega
  · refine weights m c t _ _ fun a => ?_
    fin_cases a
    · blk_simp [idx t]
      rfl
    · refine he1.trans ?_
      blk_simp [idx t]
      rfl

theorem region (c : Dev nD) : (dats m 0 c).arrAt 2 (cfgs 0).N = whole m c := by
  refine (dats m 0 c).arrAt_eq_of_covers 2 _ (by decide +kernel) fun t _ y => ?_
  blk_simp
  rw [after0_2]; frame_out
  exact point m c t y

/-- The four columns returned are the reference's. -/
theorem columns (c : Dev nD) : shapeCast S2x8192x4 (extractStridedSlice S16384x4 ![0, 0] (whole m c) slices_S16384x128_S16384x4_0_0) shapeCasts_S16384x4_S2x8192x4
    = Cert.GateReferenceIdeal.Read.val_main_v3 (F := Ideal) (m ((c : Thread nD τ).loc main_arg0)) (m ((c : Thread nD τ).loc main_arg1)) := by
  funext i
  pointwise [whole, Cert.GateReferenceIdeal.Read.val_main_v3, Cert.GateReferenceIdeal.Read.val_main_v2, Cert.GateReferenceIdeal.Read.val_main_v1, Cert.GateReferenceIdeal.Read.val_main_v0]
  refine Finset.sum_congr rfl fun k _ => congrArg₂ (· * ·) ?_ ?_
  · refine congrArg (xs m c) ?_
    have h1 : (i 1).val < 8192 := (i 1).isLt
    funext a
    apply Fin.ext
    fin_cases a
    · show ((i 0).val * 8192 + (i 1).val) / 8192 = (i 0).val
      omega
    · show ((i 0).val * 8192 + (i 1).val) % 8192 = (i 1).val
      omega
    · rfl
  · exact wts_apply m c _ _ rfl rfl rfl (i 2).isLt

theorem tail (c : Dev nD) : Pipeline.afterTail₀ cfgs (dats m) 0 (V0 m) [hostOps1] c main_v7
    = Cert.GateReferenceIdeal.Read.val_main_v3 (F := Ideal) (m ((c : Thread nD τ).loc main_arg0)) (m ((c : Thread nD τ).loc main_arg1)) := by
  unfold Pipeline.afterTail₀
  have hw := Pipeline.withArrays_arr (cfgs 0).spec launch0.win.arr_inj c (V0 m c) (fun w => (dats m 0 c).arrAt w (cfgs 0).N) 2
  generalize Pipeline.withArrays (cfgs 0).spec c (V0 m c) (fun w => (dats m 0 c).arrAt w (cfgs 0).N) = W at hw ⊢
  have hw' : W (Proc.devRef .tc main_v5) = whole m c := hw.trans (region m c)
  refine Eq.trans ?_ (columns m c)
  rw [← hw']
  show StableHlo.after hostOps1 W main_v7 = _
  after_results <;> rfl

end Cert.GateIdeal.Value
-- ==== Proof.FoxBody.lean ====
/- The fox attention kernel's body at one grid point: what its guarded parts leave in the
   running maximum, the running sum, the accumulator and the output block. -/
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.VecWindow

@[expose] public section

set_option maxRecDepth 65536

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of queries begins at this step: its block of keys is the first. -/
abbrev cI (v3 : BitVec 32) : Prop := Scalar.cmpi .ne (Scalar.extui (Scalar.cmpi .eq v3 0#32)) 0#32 = 1#1
/-- The step's block of keys lies before its block of queries and is needed. -/
abbrev cU (v1 v3 v10 : BitVec 32) : Prop :=
  Scalar.cmpi .ne (Scalar.extui (Scalar.andi (Scalar.cmpi .slt v3 v1) (Scalar.cmpi .eq v10 1#32))) 0#32 = 1#1
/-- The step is on the diagonal. -/
abbrev cD (v1 v3 : BitVec 32) : Prop := k0_cond3 v1 v3 = 1#1

/-- The running maximum, the running sum and the accumulator. -/
abbrev St (F : FTy → Type) : Type := Vec F S1024x1 .f32 × Vec F S1024x1 .f32 × Vec F S1024x128 .f32

/-- The decay at the first query of the block. -/
def hd (x9 : Vec F S1x1x1024 .f32) : Vec F S1x1x1 .f32 :=
  View.ld x9 (Rect.unit (s := S1x1x1024) ![0, 0, 0] S1x1x1.size inb_S1x1x1024_S1x1x1_0_0_0)

/-- What the first guarded part leaves: the state begun where the block of queries begins. -/
noncomputable def stI (v3 : BitVec 32) (s : St F) : St F := if cI v3 then (k0_pay1, k0_pay2, k0_pay3) else s
/-- What the second guarded part leaves: a block of keys before the diagonal taken in, where it is needed. -/
noncomputable def stU (v1 v3 v10 : BitVec 32) (x6 x7 x8 : Vec F S1024x128 .bf16) (x9 x10 : Vec F S1x1x1024 .f32) (s : St F) : St F :=
  if cU v1 v3 v10 then
    (k0_pay5 (k0_pay10 x6 x7 (hd x9) x10 s.1), k0_pay13 x6 x7 (hd x9) x10 s.1 s.2.1,
      k0_pay4 (k0_pay14 x6 x7 (hd x9) x10 s.1 s.2.2) (k0_pay15 x6 x7 (hd x9) x10 s.1) x8)
  else s
/-- What the third guarded part leaves: the diagonal's block of keys taken in. -/
noncomputable def stD (v1 v3 : BitVec 32) (x6 x7 x8 : Vec F S1024x128 .bf16) (x9 x10 : Vec F S1x1x1024 .f32) (s : St F) : St F :=
  if cD v1 v3 then
    (k0_pay7 (k0_pay17 x6 x7 (hd x9) x10 s.1), k0_pay20 x6 x7 (hd x9) x10 s.1 s.2.1,
      k0_pay6 (k0_pay18 x6 x7 (hd x9) x10 s.1) (k0_pay19 x6 x7 (hd x9) x10 s.1) s.2.2 x8)
  else s
/-- What a step leaves of the state. -/
noncomputable def stN (v1 v3 v10 : BitVec 32) (x6 x7 x8 : Vec F S1024x128 .bf16) (x9 x10 : Vec F S1x1x1024 .f32) (s : St F) : St F :=
  stD v1 v3 x6 x7 x8 x9 x10 (stU v1 v3 v10 x6 x7 x8 x9 x10 (stI v3 s))
/-- What a step leaves in the output block, `s` the state it leaves. -/
noncomputable def stO (v1 v3 : BitVec 32) (x11 : Vec F S1024x128 .bf16) (s : St F) : Vec F S1024x128 .bf16 :=
  if cD v1 v3 then k0_pay8 s.2.2 s.2.1 else x11

theorem atD_0 (pf : pre0.Contents (Elt F)) (i : grid0.Coords) : pf.atD 0 (k0_off1 i)
    = (pf 0 : S36.Idx → BitVec 32) ((Rect.unit (s := S36) (k0_off1 i) S1.size (k0_off1_inb i)).emb (Shape.Idx.first (numel1_S1.symm ▸ Nat.one_pos))) := by
  have h1 : ∀ a, S1.size a = 1 := fun a => by fin_cases a <;> rfl
  have hb : ∀ a, k0_off1 i a + 1 ≤ S36.size a := fun a => by have := k0_off1_inb i a; rw [h1 a] at this; exact this
  have e : (fun a => ⟨k0_off1 i a, hb a⟩ : S36.Idx) = (Rect.unit (s := S36) (k0_off1 i) S1.size (k0_off1_inb i)).emb (Shape.Idx.first (numel1_S1.symm ▸ Nat.one_pos)) :=
    funext fun a => Fin.ext (by
      show k0_off1 i a = k0_off1 i a + 1 * ((Shape.Idx.first (numel1_S1.symm ▸ Nat.one_pos) : S1.Idx) a).val
      have := ((Shape.Idx.first (numel1_S1.symm ▸ Nat.one_pos) : S1.Idx) a).isLt
      have e1 := h1 a
      omega)
  show (if h : ∀ a, k0_off1 i a + 1 ≤ S36.size a then (pf 0 : S36.Idx → BitVec 32) (fun a => ⟨k0_off1 i a, h a⟩) else default) = _
  rw [dif_pos hb]; exact congrArg (pf 0 : S36.Idx → BitVec 32) e
theorem atD_1 (pf : pre0.Contents (Elt F)) (i : grid0.Coords) : pf.atD 1 (k0_off1 i)
    = (pf 1 : S36.Idx → BitVec 32) ((Rect.unit (s := S36) (k0_off1 i) S1.size (k0_off1_inb i)).emb (Shape.Idx.first (numel1_S1.symm ▸ Nat.one_pos))) := by
  have h1 : ∀ a, S1.size a = 1 := fun a => by fin_cases a <;> rfl
  have hb : ∀ a, k0_off1 i a + 1 ≤ S36.size a := fun a => by have := k0_off1_inb i a; rw [h1 a] at this; exact this
  have e : (fun a => ⟨k0_off1 i a, hb a⟩ : S36.Idx) = (Rect.unit (s := S36) (k0_off1 i) S1.size (k0_off1_inb i)).emb (Shape.Idx.first (numel1_S1.symm ▸ Nat.one_pos)) :=
    funext fun a => Fin.ext (by
      show k0_off1 i a = k0_off1 i a + 1 * ((Shape.Idx.first (numel1_S1.symm ▸ Nat.one_pos) : S1.Idx) a).val
      have := ((Shape.Idx.first (numel1_S1.symm ▸ Nat.one_pos) : S1.Idx) a).isLt
      have e1 := h1 a
      omega)
  show (if h : ∀ a, k0_off1 i a + 1 ≤ S36.size a then (pf 1 : S36.Idx → BitVec 32) (fun a => ⟨k0_off1 i a, h a⟩) else default) = _
  rw [dif_pos hb]; exact congrArg (pf 1 : S36.Idx → BitVec 32) e
theorem atD_2 (pf : pre0.Contents (Elt F)) (i : grid0.Coords) : pf.atD 2 (k0_off3 i)
    = (pf 2 : S8x36.Idx → BitVec 32) ((Rect.unit (s := S8x36) (k0_off3 i) S1x1.size (k0_off3_inb i)).emb (Shape.Idx.first (numel1_S1x1.symm ▸ Nat.one_pos))) := by
  have h1 : ∀ a, S1x1.size a = 1 := fun a => by fin_cases a <;> rfl
  have hb : ∀ a, k0_off3 i a + 1 ≤ S8x36.size a := fun a => by have := k0_off3_inb i a; rw [h1 a] at this; exact this
  have e : (fun a => ⟨k0_off3 i a, hb a⟩ : S8x36.Idx) = (Rect.unit (s := S8x36) (k0_off3 i) S1x1.size (k0_off3_inb i)).emb (Shape.Idx.first (numel1_S1x1.symm ▸ Nat.one_pos)) :=
    funext fun a => Fin.ext (by
      show k0_off3 i a = k0_off3 i a + 1 * ((Shape.Idx.first (numel1_S1x1.symm ▸ Nat.one_pos) : S1x1.Idx) a).val
      have := ((Shape.Idx.first (numel1_S1x1.symm ▸ Nat.one_pos) : S1x1.Idx) a).isLt
      have e1 := h1 a
      omega)
  show (if h : ∀ a, k0_off3 i a + 1 ≤ S8x36.size a then (pf 2 : S8x36.Idx → BitVec 32) (fun a => ⟨k0_off3 i a, h a⟩) else default) = _
  rw [dif_pos hb]; exact congrArg (pf 2 : S8x36.Idx → BitVec 32) e
theorem rw_1024x128 {κ : Kind} {sp : Space} {e : EltTy} (v : View sig κ sp S1024x128 e) (f : v.ty.Contents (Elt F)) (h : ∀ a, (![0, 0] : Fin _ → ℕ) a + (![1024, 128] : Fin _ → ℕ) a ≤ S1024x128.size a)
    (w : S1024x128.Idx → Elt F e) (L : List (View.Piece (Elt F) S1024x128 e)) :
    v.read (Elt F) (v.writes (Elt F) f (⟨Rect.unit (s := S1024x128) ![0, 0] ![1024, 128] h, w⟩ :: L)) = w := View.read_writes_full v f h w L
theorem raw_1024x128 {κ : Kind} {sp : Space} {e : EltTy} (v : View sig κ sp S1024x128 e) (f : v.ty.Contents (Elt F)) (h h' : ∀ a, (![0, 0] : Fin _ → ℕ) a + (![1024, 128] : Fin _ → ℕ) a ≤ S1024x128.size a)
    (w : S1024x128.Idx → Elt F e) (L : List (View.Piece (Elt F) S1024x128 e)) :
    v.readAt (Elt F) (Rect.unit (s := S1024x128) ![0, 0] ![1024, 128] h').toLoadRect (v.writes (Elt F) f (⟨Rect.unit (s := S1024x128) ![0, 0] ![1024, 128] h, w⟩ :: L)) = w := View.readAt_writes_full v f h' h w L
theorem ra_1024x128 {κ : Kind} {sp : Space} {e : EltTy} (v : View sig κ sp S1024x128 e) (f : v.ty.Contents (Elt F)) (h : ∀ a, (![0, 0] : Fin _ → ℕ) a + (![1024, 128] : Fin _ → ℕ) a ≤ S1024x128.size a) :
    v.readAt (Elt F) (Rect.unit (s := S1024x128) ![0, 0] ![1024, 128] h).toLoadRect f = v.read (Elt F) f := View.readAt_full v f h
theorem rc_1024x128 {κ : Kind} {sp : Space} {e : EltTy} (v : View sig κ sp S1024x128 e) (h h' : ∀ a, (![0, 0] : Fin _ → ℕ) a + (![1024, 128] : Fin _ → ℕ) a ≤ S1024x128.size a)
    (w : S1024x128.Idx → Elt F e) (L : List (View.Piece (Elt F) S1024x128 e)) :
    v.readCov (⟨Rect.unit (s := S1024x128) ![0, 0] ![1024, 128] h, w⟩ :: L) (Rect.unit (s := S1024x128) ![0, 0] ![1024, 128] h').toLoadRect = w := View.readCov_full v h' h w L

theorem rw_1024x1 {κ : Kind} {sp : Space} {e : EltTy} (v : View sig κ sp S1024x1 e) (f : v.ty.Contents (Elt F)) (h : ∀ a, (![0, 0] : Fin _ → ℕ) a + (![1024, 1] : Fin _ → ℕ) a ≤ S1024x1.size a)
    (w : S1024x1.Idx → Elt F e) (L : List (View.Piece (Elt F) S1024x1 e)) :
    v.read (Elt F) (v.writes (Elt F) f (⟨Rect.unit (s := S1024x1) ![0, 0] ![1024, 1] h, w⟩ :: L)) = w := View.read_writes_full v f h w L
theorem raw_1024x1 {κ : Kind} {sp : Space} {e : EltTy} (v : View sig κ sp S1024x1 e) (f : v.ty.Contents (Elt F)) (h h' : ∀ a, (![0, 0] : Fin _ → ℕ) a + (![1024, 1] : Fin _ → ℕ) a ≤ S1024x1.size a)
    (w : S1024x1.Idx → Elt F e) (L : List (View.Piece (Elt F) S1024x1 e)) :
    v.readAt (Elt F) (Rect.unit (s := S1024x1) ![0, 0] ![1024, 1] h').toLoadRect (v.writes (Elt F) f (⟨Rect.unit (s := S1024x1) ![0, 0] ![1024, 1] h, w⟩ :: L)) = w := View.readAt_writes_full v f h' h w L
theorem ra_1024x1 {κ : Kind} {sp : Space} {e : EltTy} (v : View sig κ sp S1024x1 e) (f : v.ty.Contents (Elt F)) (h : ∀ a, (![0, 0] : Fin _ → ℕ) a + (![1024, 1] : Fin _ → ℕ) a ≤ S1024x1.size a) :
    v.readAt (Elt F) (Rect.unit (s := S1024x1) ![0, 0] ![1024, 1] h).toLoadRect f = v.read (Elt F) f := View.readAt_full v f h
theorem rc_1024x1 {κ : Kind} {sp : Space} {e : EltTy} (v : View sig κ sp S1024x1 e) (h h' : ∀ a, (![0, 0] : Fin _ → ℕ) a + (![1024, 1] : Fin _ → ℕ) a ≤ S1024x1.size a)
    (w : S1024x1.Idx → Elt F e) (L : List (View.Piece (Elt F) S1024x1 e)) :
    v.readCov (⟨Rect.unit (s := S1024x1) ![0, 0] ![1024, 1] h, w⟩ :: L) (Rect.unit (s := S1024x1) ![0, 0] ![1024, 1] h').toLoadRect = w := View.readCov_full v h' h w L

theorem rw_1x1x1024 {κ : Kind} {sp : Space} {e : EltTy} (v : View sig κ sp S1x1x1024 e) (f : v.ty.Contents (Elt F)) (h : ∀ a, (![0, 0, 0] : Fin _ → ℕ) a + (![1, 1, 1024] : Fin _ → ℕ) a ≤ S1x1x1024.size a)
    (w : S1x1x1024.Idx → Elt F e) (L : List (View.Piece (Elt F) S1x1x1024 e)) :
    v.read (Elt F) (v.writes (Elt F) f (⟨Rect.unit (s := S1x1x1024) ![0, 0, 0] ![1, 1, 1024] h, w⟩ :: L)) = w := View.read_writes_full v f h w L
theorem raw_1x1x1024 {κ : Kind} {sp : Space} {e : EltTy} (v : View sig κ sp S1x1x1024 e) (f : v.ty.Contents (Elt F)) (h h' : ∀ a, (![0, 0, 0] : Fin _ → ℕ) a + (![1, 1, 1024] : Fin _ → ℕ) a ≤ S1x1x1024.size a)
    (w : S1x1x1024.Idx → Elt F e) (L : List (View.Piece (Elt F) S1x1x1024 e)) :
    v.readAt (Elt F) (Rect.unit (s := S1x1x1024) ![0, 0, 0] ![1, 1, 1024] h').toLoadRect (v.writes (Elt F) f (⟨Rect.unit (s := S1x1x1024) ![0, 0, 0] ![1, 1, 1024] h, w⟩ :: L)) = w := View.readAt_writes_full v f h' h w L
theorem ra_1x1x1024 {κ : Kind} {sp : Space} {e : EltTy} (v : View sig κ sp S1x1x1024 e) (f : v.ty.Contents (Elt F)) (h : ∀ a, (![0, 0, 0] : Fin _ → ℕ) a + (![1, 1, 1024] : Fin _ → ℕ) a ≤ S1x1x1024.size a) :
    v.readAt (Elt F) (Rect.unit (s := S1x1x1024) ![0, 0, 0] ![1, 1, 1024] h).toLoadRect f = v.read (Elt F) f := View.readAt_full v f h
theorem rc_1x1x1024 {κ : Kind} {sp : Space} {e : EltTy} (v : View sig κ sp S1x1x1024 e) (h h' : ∀ a, (![0, 0, 0] : Fin _ → ℕ) a + (![1, 1, 1024] : Fin _ → ℕ) a ≤ S1x1x1024.size a)
    (w : S1x1x1024.Idx → Elt F e) (L : List (View.Piece (Elt F) S1x1x1024 e)) :
    v.readCov (⟨Rect.unit (s := S1x1x1024) ![0, 0, 0] ![1, 1, 1024] h, w⟩ :: L) (Rect.unit (s := S1x1x1024) ![0, 0, 0] ![1, 1, 1024] h').toLoadRect = w := View.readCov_full v h' h w L

theorem eq_true_or_false' (p : Prop) : p = True ∨ p = False := (Classical.em p).elim (fun h => .inl (eq_true h)) (fun h => .inr (eq_false h))

set_option maxHeartbeats 4000000 in
theorem body_run (c : Dev nD) (E : Set ℕ) (i : grid0.Coords)
    (arg2 : Memref sig .tc .smem S36 .i32) (harg2 : arg2.IsWhole) (arg3 : Memref sig .tc .smem S36 .i32) (harg3 : arg3.IsWhole)
    (arg4 : Memref sig .tc .smem S8x36 .i32) (harg4 : arg4.IsWhole) (arg5 : Memref sig .tc .smem S8x36 .i32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S1024x128 .bf16) (harg8 : arg8.IsWhole) (arg9 : Memref sig .tc .vmem S1x1x1024 .f32) (harg9 : arg9.IsWhole)
    (arg10 : Memref sig .tc .vmem S1x1x1024 .f32) (harg10 : arg10.IsWhole) (arg11 : Memref sig .tc .vmem S1024x128 .bf16) (harg11 : arg11.IsWhole)
    (arg12 : Memref sig .tc .vmem S1024x1 .f32) (harg12 : arg12.IsWhole) (arg13 : Memref sig .tc .vmem S1024x1 .f32) (harg13 : arg13.IsWhole)
    (arg14 : Memref sig .tc .vmem S1024x128 .f32) (harg14 : arg14.IsWhole)
    (pf : pre0.Contents (Elt F)) (v1 v3 v10 : BitVec 32) (h1 : pf.atD 0 (k0_off1 i) = v1) (h3 : pf.atD 1 (k0_off1 i) = v3) (h10 : pf.atD 2 (k0_off3 i) = v10)
    (x6 x7 x8 : Vec F S1024x128 .bf16) (x9 x10 : Vec F S1x1x1024 .f32) (x11 : Vec F S1024x128 .bf16)
    (M L : Vec F S1024x1 .f32) (A : Vec F S1024x128 .f32) (K : PUnit → sProp 𝕄) :
    iprop(owns (c : Thread nD τ) arg2 fullShare.right (pf 0) ∗ owns (c : Thread nD τ) arg3 fullShare.right (pf 1) ∗ owns (c : Thread nD τ) arg4 fullShare.right (pf 2)
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10 ∗ owns (c : Thread nD τ) arg11 fullShare x11
        ∗ owns (c : Thread nD τ) arg12 fullShare M ∗ owns (c : Thread nD τ) arg13 fullShare L ∗ owns (c : Thread nD τ) arg14 fullShare A
        ∗ (iprop(owns (c : Thread nD τ) arg2 fullShare.right (pf 0) ∗ owns (c : Thread nD τ) arg3 fullShare.right (pf 1) ∗ owns (c : Thread nD τ) arg4 fullShare.right (pf 2)
          ∗ owns (c : Thread nD τ) arg6 fullShare x6 ∗ owns (c : Thread nD τ) arg7 fullShare x7 ∗ owns (c : Thread nD τ) arg8 fullShare x8
          ∗ owns (c : Thread nD τ) arg9 fullShare x9 ∗ owns (c : Thread nD τ) arg10 fullShare x10
          ∗ owns (c : Thread nD τ) arg11 fullShare (stO v1 v3 x11 (stN v1 v3 v10 x6 x7 x8 x9 x10 (M, L, A)))
          ∗ owns (c : Thread nD τ) arg12 fullShare (stN v1 v3 v10 x6 x7 x8 x9 x10 (M, L, A)).1
          ∗ owns (c : Thread nD τ) arg13 fullShare (stN v1 v3 v10 x6 x7 x8 x9 x10 (M, L, A)).2.1
          ∗ owns (c : Thread nD τ) arg14 fullShare (stN v1 v3 v10 x6 x7 x8 x9 x10 (M, L, A)).2.2) -∗ K ⟨⟩))
      ⊢ wp frame (wpE (defs₀ (F := F)) Variants.none c none) E
          (cc0_fox_attention i arg2 harg2 arg3 harg3 arg4 harg4 arg5 harg5
            arg6 harg6 arg7 harg7 arg8 harg8 arg9 harg9 arg10 harg10 arg11 harg11 arg12 harg12 arg13 harg13 arg14 harg14) K := by
  simp only [cc0_fox_attention_eq_skeleton]; unfold cc0_fox_attention_skel
  simp only [k0_part1_eq_skeleton, k0_part2_eq_skeleton]
  unfold owns
  iintro ⟨⟨%f2, %hf2, T0⟩, ⟨%f3, %hf3, T1⟩, ⟨%f4, %hf4, T2⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf6 hf7 hf8 hf9 hf10 hf11 hf12 hf13 hf14
  sl_exec
  have hw1 : body_run.sl.r c i arg2 f2 = v1 := by
    show View.read (Elt F) arg2.view f2 ((Rect.unit (s := S36) (k0_off1 i) S1.size (k0_off1_inb i)).emb (Shape.Idx.first (numel1_S1.symm ▸ Nat.one_pos))) = v1
    rw [hf2, ← h1]
    exact (atD_0 pf i).symm
  have hw3 : body_run.sl.r_1 c i arg3 f3 = v3 := by
    show View.read (Elt F) arg3.view f3 ((Rect.unit (s := S36) (k0_off1 i) S1.size (k0_off1_inb i)).emb (Shape.Idx.first (numel1_S1.symm ▸ Nat.one_pos))) = v3
    rw [hf3, ← h3]
    exact (atD_1 pf i).symm
  have hw10 : body_run.sl.r_2 c i arg4 f4 = v10 := by
    show View.read (Elt F) arg4.view f4 ((Rect.unit (s := S8x36) (k0_off3 i) S1x1.size (k0_off3_inb i)).emb (Shape.Idx.first (numel1_S1x1.symm ▸ Nat.one_pos))) = v10
    rw [hf4, ← h10]
    exact (atD_2 pf i).symm
  sl_step
  iapply Hk
  isplitl [T0]
  · iexists f2; isplitr; · ipureintro; exact hf2
    iexact T0
  isplitl [T1]
  · iexists f3; isplitr; · ipureintro; exact hf3
    iexact T1
  isplitl [T2]
  · iexists f4; isplitr; · ipureintro; exact hf4
    iexact T2
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr; swap; · iexact H11
    ipureintro
    repeat (first | delta body_run.sl.v33 | delta body_run.sl.v42 | delta body_run.sl.v50 | delta body_run.sl.v68 | delta body_run.sl.v69 | delta body_run.sl.v38 | delta body_run.sl.v47 | delta body_run.sl.v55 | delta body_run.sl.r_3 | delta body_run.sl.r_4 | delta body_run.sl.r_5 | delta body_run.sl.r_6 | delta body_run.sl.r_7 | delta body_run.sl.r_8 | delta body_run.sl.H13_1 | delta body_run.sl.H14_1 | delta body_run.sl.H11_1)
    simp only [hw1, hw3, hw10]
    clear hw1 hw3 hw10 h1 h3 h10 hf2 hf3 hf4
    rcases eq_true_or_false' (cI v3) with hI | hI <;> rcases eq_true_or_false' (cU v1 v3 v10) with hU | hU <;> rcases eq_true_or_false' (cD v1 v3) with hD | hD <;>
      simp only [stN, stD, stU, stI, stO, hI, hU, hD, ↓reduceDIte, ↓reduceIte, rw_1024x128, raw_1024x128, ra_1024x128, rc_1024x1, rc_1024x128, rw_1024x1, raw_1024x1, ra_1024x1, ra_1x1x1024, hd] <;> rfl
  isplitl [H12]
  · iexists _; isplitr; swap; · iexact H12
    ipureintro
    repeat (first | delta body_run.sl.v33 | delta body_run.sl.v42 | delta body_run.sl.v50 | delta body_run.sl.v68 | delta body_run.sl.v69 | delta body_run.sl.v38 | delta body_run.sl.v47 | delta body_run.sl.v55 | delta body_run.sl.r_3 | delta body_run.sl.r_4 | delta body_run.sl.r_5 | delta body_run.sl.r_6 | delta body_run.sl.r_7 | delta body_run.sl.r_8 | delta body_run.sl.H13_1 | delta body_run.sl.H14_1 | delta body_run.sl.H11_1)
    simp only [hw1, hw3, hw10]
    clear hw1 hw3 hw10 h1 h3 h10 hf2 hf3 hf4
    rcases eq_true_or_false' (cI v3) with hI | hI <;> rcases eq_true_or_false' (cU v1 v3 v10) with hU | hU <;> rcases eq_true_or_false' (cD v1 v3) with hD | hD <;>
      simp only [stN, stD, stU, stI, stO, hI, hU, hD, ↓reduceDIte, ↓reduceIte, rw_1024x128, raw_1024x128, ra_1024x128, rc_1024x1, rc_1024x128, rw_1024x1, raw_1024x1, ra_1024x1, ra_1x1x1024, hd] <;> rfl
  isplitl [H13]
  · iexists _; isplitr; swap; · iexact H13
    ipureintro
    repeat (first | delta body_run.sl.v33 | delta body_run.sl.v42 | delta body_run.sl.v50 | delta body_run.sl.v68 | delta body_run.sl.v69 | delta body_run.sl.v38 | delta body_run.sl.v47 | delta body_run.sl.v55 | delta body_run.sl.r_3 | delta body_run.sl.r_4 | delta body_run.sl.r_5 | delta body_run.sl.r_6 | delta body_run.sl.r_7 | delta body_run.sl.r_8 | delta body_run.sl.H13_1 | delta body_run.sl.H14_1 | delta body_run.sl.H11_1)
    simp only [hw1, hw3, hw10]
    clear hw1 hw3 hw10 h1 h3 h10 hf2 hf3 hf4
    rcases eq_true_or_false' (cI v3) with hI | hI <;> rcases eq_true_or_false' (cU v1 v3 v10) with hU | hU <;> rcases eq_true_or_false' (cD v1 v3) with hD | hD <;>
      simp only [stN, stD, stU, stI, stO, hI, hU, hD, ↓reduceDIte, ↓reduceIte, rw_1024x128, raw_1024x128, ra_1024x128, rc_1024x1, rc_1024x128, rw_1024x1, raw_1024x1, ra_1024x1, ra_1x1x1024, hd] <;> rfl
  · iexists _; isplitr; swap; · iexact H14
    ipureintro
    repeat (first | delta body_run.sl.v33 | delta body_run.sl.v42 | delta body_run.sl.v50 | delta body_run.sl.v68 | delta body_run.sl.v69 | delta body_run.sl.v38 | delta body_run.sl.v47 | delta body_run.sl.v55 | delta body_run.sl.r_3 | delta body_run.sl.r_4 | delta body_run.sl.r_5 | delta body_run.sl.r_6 | delta body_run.sl.r_7 | delta body_run.sl.r_8 | delta body_run.sl.H13_1 | delta body_run.sl.H14_1 | delta body_run.sl.H11_1)
    simp only [hw1, hw3, hw10]
    clear hw1 hw3 hw10 h1 h3 h10 hf2 hf3 hf4
    rcases eq_true_or_false' (cI v3) with hI | hI <;> rcases eq_true_or_false' (cU v1 v3 v10) with hU | hU <;> rcases eq_true_or_false' (cD v1 v3) with hD | hD <;>
      simp only [stN, stD, stU, stI, stO, hI, hU, hD, ↓reduceDIte, ↓reduceIte, rw_1024x128, raw_1024x128, ra_1024x128, rc_1024x1, rc_1024x128, rw_1024x1, raw_1024x1, ra_1024x1, ra_1x1x1024, hd] <;> rfl

end Cert.KernelIdeal.Fox

end
-- ==== Proof.FoxHost.lean ====
module

public import proofs.«01_k».proof.Proof.FoxBody
public import proofs.«01_k».proof.Proof.Gen.KernelIdeal.Launch
public import Idealize.ShloMosaic.Lib.StableHlo.RunRead

@[expose] public section

set_option maxRecDepth 65536
open Idealize.ShloMosaic Idealize.ShloMosaic.TcCoe Idealize.SL

/-! What the host leaves in the arrays of the call: the four tables, the two float arrays. -/

namespace Cert.KernelIdeal.Fox

open Cert.KernelIdeal Cert.KernelIdeal.Gen

variable {F : FTy → Type} [FloatOps F] [Named F]

/-- The stretches of host operations before the call, in order. -/
noncomputable abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- What an array holds when the call starts. -/
noncomputable abbrev V (m : (ℓ : Loc nD τ sig) → Buf (Elt F) ℓ) (c : Dev nD) (b : Ref sig .tc) :=
  StableHlo.after (opss (F := F)).flatten (fun b => m (c, b)) b

variable (m : (ℓ : Loc nD τ sig) → Buf (Elt F) ℓ) (c : Dev nD)

theorem V_main_c : V m c main_c = fun i => lit0 (S36.rowMajor i) := by
  unfold V
  simp only [List.flatten_cons, List.flatten_nil, List.append_nil]
  after_reads_simp
  rfl

/-- Whether a block of keys is needed by a block of queries, one bit each. -/
noncomputable def nd : S8x8x8.Idx → BitVec 1 :=
  cmpi .ne (m (c, main_arg2)) (broadcastInDim S8x8x8 ![] bcast_S_S8x8x8 (constantI S_ 32 0#32))

/-- The needed bits of the row of query block 0. -/
noncomputable def B0 : S8x1.Idx → BitVec 1 :=
  shapeCast S8x1 (extractStridedSlice S8x1x1 ![0, 0, 0] (nd m c) slices_S8x8x8_S8x1x1_0_0_0) shapeCasts_S8x1x1_S8x1

/-- The key blocks fetched in the row of query block 0, before the running minimum and after. -/
noncomputable def W0 : S8x1.Idx → BitVec 32 :=
  select (B0 m c) (broadcastInDim S8x1 ![1] bcast_S1_S8x1_1 (iotaInDim S1 32 0))
    (broadcastInDim S8x1 ![] bcast_S_S8x1 (constantI S_ 32 0#32))
@[inherit_doc W0] noncomputable def R0 : S8x1.Idx → BitVec 32 :=
  Host.reduceWindow IntOp.minsi ![1, 1] ![1, 1] ![0, 0] ![0, 0] (W0 m c)
    (broadcastInDim S_ ![] bcast_S_S_ (constantI S_ 32 2147483647#32)) reduceWindows_S8x1_S8x1_w1s1p0_0_w1s1p0_0 h_S_

/-- The needed bits of the row of query block 1. -/
noncomputable def B1 : S8x2.Idx → BitVec 1 :=
  shapeCast S8x2 (extractStridedSlice S8x1x2 ![0, 1, 0] (nd m c) slices_S8x8x8_S8x1x2_0_1_0) shapeCasts_S8x1x2_S8x2

/-- The key blocks fetched in the row of query block 1, before the running minimum and after. -/
noncomputable def W1 : S8x2.Idx → BitVec 32 :=
  select (B1 m c) (broadcastInDim S8x2 ![1] bcast_S2_S8x2_1 (iotaInDim S2 32 0))
    (broadcastInDim S8x2 ![] bcast_S_S8x2 (constantI S_ 32 1#32))
@[inherit_doc W1] noncomputable def R1 : S8x2.Idx → BitVec 32 :=
  Host.reduceWindow IntOp.minsi ![1, 2] ![1, 1] ![0, 0] ![0, 1] (W1 m c)
    (broadcastInDim S_ ![] bcast_S_S_ (constantI S_ 32 2147483647#32)) reduceWindows_S8x2_S8x2_w1s1p0_0_w2s1p0_1 h_S_

/-- The needed bits of the row of query block 2. -/
noncomputable def B2 : S8x3.Idx → BitVec 1 :=
  shapeCast S8x3 (extractStridedSlice S8x1x3 ![0, 2, 0] (nd m c) slices_S8x8x8_S8x1x3_0_2_0) shapeCasts_S8x1x3_S8x3

/-- The key blocks fetched in the row of query block 2, before the running minimum and after. -/
noncomputable def W2 : S8x3.Idx → BitVec 32 :=
  select (B2 m c) (broadcastInDim S8x3 ![1] bcast_S3_S8x3_1 (iotaInDim S3 32 0))
    (broadcastInDim S8x3 ![] bcast_S_S8x3 (constantI S_ 32 2#32))
@[inherit_doc W2] noncomputable def R2 : S8x3.Idx → BitVec 32 :=
  Host.reduceWindow IntOp.minsi ![1, 3] ![1, 1] ![0, 0] ![0, 2] (W2 m c)
    (broadcastInDim S_ ![] bcast_S_S_ (constantI S_ 32 2147483647#32)) reduceWindows_S8x3_S8x3_w1s1p0_0_w3s1p0_2 h_S_

/-- The needed bits of the row of query block 3. -/
noncomputable def B3 : S8x4.Idx → BitVec 1 :=
  shapeCast S8x4 (extractStridedSlice S8x1x4 ![0, 3, 0] (nd m c) slices_S8x8x8_S8x1x4_0_3_0) shapeCasts_S8x1x4_S8x4

/-- The key blocks fetched in the row of query block 3, before the running minimum and after. -/
noncomputable def W3 : S8x4.Idx → BitVec 32 :=
  select (B3 m c) (broadcastInDim S8x4 ![1] bcast_S4_S8x4_1 (iotaInDim S4 32 0))
    (broadcastInDim S8x4 ![] bcast_S_S8x4 (constantI S_ 32 3#32))
@[inherit_doc W3] noncomputable def R3 : S8x4.Idx → BitVec 32 :=
  Host.reduceWindow IntOp.minsi ![1, 4] ![1, 1] ![0, 0] ![0, 3] (W3 m c)
    (broadcastInDim S_ ![] bcast_S_S_ (constantI S_ 32 2147483647#32)) reduceWindows_S8x4_S8x4_w1s1p0_0_w4s1p0_3 h_S_

/-- The needed bits of the row of query block 4. -/
noncomputable def B4 : S8x5.Idx → BitVec 1 :=
  shapeCast S8x5 (extractStridedSlice S8x1x5 ![0, 4, 0] (nd m c) slices_S8x8x8_S8x1x5_0_4_0) shapeCasts_S8x1x5_S8x5

/-- The key blocks fetched in the row of query block 4, before the running minimum and after. -/
noncomputable def W4 : S8x5.Idx → BitVec 32 :=
  select (B4 m c) (broadcastInDim S8x5 ![1] bcast_S5_S8x5_1 (iotaInDim S5 32 0))
    (broadcastInDim S8x5 ![] bcast_S_S8x5 (constantI S_ 32 4#32))
@[inherit_doc W4] noncomputable def R4 : S8x5.Idx → BitVec 32 :=
  Host.reduceWindow IntOp.minsi ![1, 5] ![1, 1] ![0, 0] ![0, 4] (W4 m c)
    (broadcastInDim S_ ![] bcast_S_S_ (constantI S_ 32 2147483647#32)) reduceWindows_S8x5_S8x5_w1s1p0_0_w5s1p0_4 h_S_

/-- The needed bits of the row of query block 5. -/
noncomputable def B5 : S8x6.Idx → BitVec 1 :=
  shapeCast S8x6 (extractStridedSlice S8x1x6 ![0, 5, 0] (nd m c) slices_S8x8x8_S8x1x6_0_5_0) shapeCasts_S8x1x6_S8x6

/-- The key blocks fetched in the row of query block 5, before the running minimum and after. -/
noncomputable def W5 : S8x6.Idx → BitVec 32 :=
  select (B5 m c) (broadcastInDim S8x6 ![1] bcast_S6_S8x6_1 (iotaInDim S6 32 0))
    (broadcastInDim S8x6 ![] bcast_S_S8x6 (constantI S_ 32 5#32))
@[inherit_doc W5] noncomputable def R5 : S8x6.Idx → BitVec 32 :=
  Host.reduceWindow IntOp.minsi ![1, 6] ![1, 1] ![0, 0] ![0, 5] (W5 m c)
    (broadcastInDim S_ ![] bcast_S_S_ (constantI S_ 32 2147483647#32)) reduceWindows_S8x6_S8x6_w1s1p0_0_w6s1p0_5 h_S_

/-- The needed bits of the row of query block 6. -/
noncomputable def B6 : S8x7.Idx → BitVec 1 :=
  shapeCast S8x7 (extractStridedSlice S8x1x7 ![0, 6, 0] (nd m c) slices_S8x8x8_S8x1x7_0_6_0) shapeCasts_S8x1x7_S8x7

/-- The key blocks fetched in the row of query block 6, before the running minimum and after. -/
noncomputable def W6 : S8x7.Idx → BitVec 32 :=
  select (B6 m c) (broadcastInDim S8x7 ![1] bcast_S7_S8x7_1 (iotaInDim S7 32 0))
    (broadcastInDim S8x7 ![] bcast_S_S8x7 (constantI S_ 32 6#32))
@[inherit_doc W6] noncomputable def R6 : S8x7.Idx → BitVec 32 :=
  Host.reduceWindow IntOp.minsi ![1, 7] ![1, 1] ![0, 0] ![0, 6] (W6 m c)
    (broadcastInDim S_ ![] bcast_S_S_ (constantI S_ 32 2147483647#32)) reduceWindows_S8x7_S8x7_w1s1p0_0_w7s1p0_6 h_S_

/-- The needed bits of the row of query block 7. -/
noncomputable def B7 : S8x8.Idx → BitVec 1 :=
  shapeCast S8x8 (extractStridedSlice S8x1x8 ![0, 7, 0] (nd m c) slices_S8x8x8_S8x1x8_0_7_0) shapeCasts_S8x1x8_S8x8

/-- The key blocks fetched in the row of query block 7, before the running minimum and after. -/
noncomputable def W7 : S8x8.Idx → BitVec 32 :=
  select (B7 m c) (broadcastInDim S8x8 ![1] bcast_S8_S8x8_1 (iotaInDim S8 32 0))
    (broadcastInDim S8x8 ![] bcast_S_S8x8 (constantI S_ 32 7#32))
@[inherit_doc W7] noncomputable def R7 : S8x8.Idx → BitVec 32 :=
  Host.reduceWindow IntOp.minsi ![1, 8] ![1, 1] ![0, 0] ![0, 7] (W7 m c)
    (broadcastInDim S_ ![] bcast_S_S_ (constantI S_ 32 2147483647#32)) reduceWindows_S8x8_S8x8_w1s1p0_0_w8s1p0_7 h_S_

theorem V_main_v44 : V m c main_v44 = extui 32 (concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1) natLt_1_32 := by
  unfold V
  simp only [List.flatten_cons, List.flatten_nil, List.append_nil]
  after_reads_simp
  dsimp only [Matrix.cons_val]
  refine congrArg (fun z => extui 32 z natLt_1_32) (StableHlo.concatenate_congr _ _ ?_ _ _)
  simp only [List.cons.injEq, Sigma.mk.injEq, heq_eq_eq, true_and, and_true]
  refine ⟨?_, ?_, ?_, ?_, ?_, ?_, ?_, ?_⟩
  all_goals (after_reads_simp; rfl)

theorem V_main_v45 : V m c main_v45 = concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 := by
  unfold V
  simp only [List.flatten_cons, List.flatten_nil, List.append_nil]
  after_reads_simp
  dsimp only [Matrix.cons_val]
  refine StableHlo.concatenate_congr _ _ ?_ _ _
  simp only [List.cons.injEq, Sigma.mk.injEq, heq_eq_eq, true_and, and_true]
  refine ⟨?_, ?_, ?_, ?_, ?_, ?_, ?_, ?_⟩
  · unfold R0 W0 B0 nd
    after_reads_simp
    simp -implicitDefEqProofs only [StableHlo.TRef.toBuf, StableHlo.TRef.ofBuf, cast_cast, cast_eq, id]
    rfl
  · unfold R1 W1 B1 nd
    after_reads_simp
    simp -implicitDefEqProofs only [StableHlo.TRef.toBuf, StableHlo.TRef.ofBuf, cast_cast, cast_eq, id]
    rfl
  · unfold R2 W2 B2 nd
    after_reads_simp
    simp -implicitDefEqProofs only [StableHlo.TRef.toBuf, StableHlo.TRef.ofBuf, cast_cast, cast_eq, id]
    rfl
  · unfold R3 W3 B3 nd
    after_reads_simp
    simp -implicitDefEqProofs only [StableHlo.TRef.toBuf, StableHlo.TRef.ofBuf, cast_cast, cast_eq, id]
    rfl
  · unfold R4 W4 B4 nd
    after_reads_simp
    simp -implicitDefEqProofs only [StableHlo.TRef.toBuf, StableHlo.TRef.ofBuf, cast_cast, cast_eq, id]
    rfl
  · unfold R5 W5 B5 nd
    after_reads_simp
    simp -implicitDefEqProofs only [StableHlo.TRef.toBuf, StableHlo.TRef.ofBuf, cast_cast, cast_eq, id]
    rfl
  · unfold R6 W6 B6 nd
    after_reads_simp
    simp -implicitDefEqProofs only [StableHlo.TRef.toBuf, StableHlo.TRef.ofBuf, cast_cast, cast_eq, id]
    rfl
  · unfold R7 W7 B7 nd
    after_reads_simp
    simp -implicitDefEqProofs only [StableHlo.TRef.toBuf, StableHlo.TRef.ofBuf, cast_cast, cast_eq, id]
    rfl

theorem V_main_c_0 : V m c main_c_0 = fun i => lit1 (S36.rowMajor i) := by
  unfold V
  simp only [List.flatten_cons, List.flatten_nil, List.append_nil]
  after_reads_simp
  rfl

theorem V_main_v2 : V m c main_v2 = broadcastInDim S8x1x8192 ![0, 2] bcast_S8x8192_S8x1x8192_0_2 (m (c, main_arg1)) := by
  unfold V
  simp only [List.flatten_cons, List.flatten_nil, List.append_nil]
  after_reads_simp

theorem V_main_arg0 : V m c main_arg0 = m (c, main_arg0) := by
  unfold V
  simp only [List.flatten_cons, List.flatten_nil, List.append_nil]
  after_reads_simp

theorem V_main_arg1 : V m c main_arg1 = m (c, main_arg1) := by
  unfold V
  simp only [List.flatten_cons, List.flatten_nil, List.append_nil]
  after_reads_simp

theorem V_main_arg2 : V m c main_arg2 = m (c, main_arg2) := by
  unfold V
  simp only [List.flatten_cons, List.flatten_nil, List.append_nil]
  after_reads_simp

end Cert.KernelIdeal.Fox
-- ==== Proof.FoxTables.lean ====
module

public import proofs.«01_k».proof.Proof.FoxHost
public import Idealize.ShloMosaic.Lib.ValueIdxCore
public import Idealize.ShloMosaic.Lib.Pipeline.Value

@[expose] public section

set_option maxRecDepth 65536
open Idealize.ShloMosaic Idealize.ShloMosaic.TcCoe Idealize.SL
open Idealize.ShloMosaic.ValueIdx

/-! The entries of the tables: which step works on which block of queries and of keys, whether the keys
    are needed, and which block of keys the step fetches. -/

namespace Cert.KernelIdeal.Fox

open Cert.KernelIdeal Cert.KernelIdeal.Gen

/-- A fold of signed minima is one of the values folded and at most each of them. -/
theorem foldl_minsi {ι : Type} (g : ι → BitVec 32) (l : List ι) (v : BitVec 32) :
    (l.foldl (fun r n => IntOp.minsi r (g n)) v = v ∨ ∃ n ∈ l, l.foldl (fun r n => IntOp.minsi r (g n)) v = g n)
      ∧ (l.foldl (fun r n => IntOp.minsi r (g n)) v).toInt ≤ v.toInt
      ∧ ∀ n ∈ l, (l.foldl (fun r n => IntOp.minsi r (g n)) v).toInt ≤ (g n).toInt := by
  induction l generalizing v with
  | nil => exact ⟨.inl rfl, le_refl _, fun n hn => absurd hn (by simp)⟩
  | cons a l ih =>
    obtain ⟨h1, h2, h3⟩ := ih (IntOp.minsi v (g a))
    have hm : (IntOp.minsi v (g a) = v ∨ IntOp.minsi v (g a) = g a) ∧ (IntOp.minsi v (g a)).toInt ≤ v.toInt
        ∧ (IntOp.minsi v (g a)).toInt ≤ (g a).toInt := by
      unfold IntOp.minsi
      by_cases h : v.slt (g a) = true
      · have := BitVec.slt_iff_toInt_lt.1 h
        rw [if_pos h]; exact ⟨.inl rfl, le_refl _, le_of_lt this⟩
      · have : ¬ v.toInt < (g a).toInt := fun hh => h (BitVec.slt_iff_toInt_lt.2 hh)
        rw [if_neg h]; exact ⟨.inr rfl, not_lt.1 this, le_refl _⟩
    rw [List.foldl_cons]
    refine ⟨?_, le_trans h2 hm.2.1, ?_⟩
    · rcases h1 with h1 | ⟨n, hn, h1⟩
      · rcases hm.1 with h | h
        · exact .inl (h1.trans h)
        · exact .inr ⟨a, List.mem_cons_self, h1.trans h⟩
      · exact .inr ⟨n, List.mem_cons_of_mem _ hn, h1⟩
    · intro n hn
      rcases List.mem_cons.1 hn with rfl | hn
      · exact le_trans h2 hm.2.2
      · exact h3 n hn

theorem toInt_small (a : ℕ) (h : a < 8) : (BitVec.ofNat 32 a).toInt = a := by
  interval_cases a <;> rfl

/-- The running minimum from the right of a row whose entry `j` is `j` where marked and `q` elsewhere: at most `q`,
    and the entry itself where it is marked or the last. -/
theorem row_min {q n : ℕ} (hn : n = q + 1) (hq : q < 8) (B : (⟨2, ![8, n]⟩ : Shape).Idx → BitVec 1)
    (x : (⟨2, ![8, n]⟩ : Shape).Idx → BitVec 32)
    (hx : ∀ b j, x (ix2 b j) = if B (ix2 b j) = 1#1 then BitVec.ofNat 32 j.val else BitVec.ofNat 32 q)
    (init : S_.Idx → BitVec 32) (hi : ∀ i, init i = 2147483647#32)
    (h : (⟨2, ![8, n]⟩ : Shape).ReduceWindows (![1, n] : Fin 2 → ℕ) ![1, 1] ![0, 0] ![0, q] (⟨2, ![8, n]⟩ : Shape))
    (hu : 0 < S_.numel) (b : Fin 8) (k : Fin n) :
    ∃ k' : ℕ, k' ≤ q ∧ Host.reduceWindow IntOp.minsi ![1, n] ![1, 1] ![0, 0] ![0, q] x init h hu (ix2 b k) = BitVec.ofNat 32 k'
      ∧ (B (ix2 b k) = 1#1 ∨ k.val = q → k' = k.val) := by
  have hk := k.isLt
  have hb := b.isLt
  let sy := (⟨2, ![1, n]⟩ : Shape).rowMajor.symm
  let g : Fin (⟨2, ![1, n]⟩ : Shape).numel → BitVec 32 := fun m =>
    if h : k.val + (sy m 1).val < n then x (ix2 b ⟨k.val + (sy m 1).val, h⟩) else 2147483647#32
  have hfold : Host.reduceWindow IntOp.minsi ![1, n] ![1, 1] ![0, 0] ![0, q] x init h hu (ix2 b k)
      = (List.finRange (⟨2, ![1, n]⟩ : Shape).numel).foldl (fun r m => IntOp.minsi r (g m)) 2147483647#32 := by
    unfold Host.reduceWindow
    dsimp only
    rw [hi]
    refine congrArg (fun z : BitVec 32 → Fin (⟨2, ![1, n]⟩ : Shape).numel → BitVec 32 => List.foldl z 2147483647#32 (List.finRange _)) ?_
    funext r m
    refine congrArg (IntOp.minsi r) ?_
    have e0 : (sy m 0).val = 0 := by
      have := (sy m 0).isLt
      change _ < 1 at this
      omega
    split
    · next hin =>
      have h1 := (hin 1).2
      change k.val * 1 + (sy m 1).val - 0 < n at h1
      have h2 : k.val + (sy m 1).val < n := by omega
      have hg : g m = x (ix2 b ⟨k.val + (sy m 1).val, h2⟩) := dif_pos h2
      rw [hg]
      refine congrArg x (funext fun a => Fin.ext ?_)
      match a with
      | ⟨0, _⟩ => show b.val * 1 + (sy m 0).val - 0 = b.val; rw [e0]; omega
      | ⟨1, _⟩ => show k.val * 1 + (sy m 1).val - 0 = k.val + (sy m 1).val; omega
    · next hin =>
      have hg : ¬ k.val + (sy m 1).val < n → g m = 2147483647#32 := fun h2 => dif_neg h2
      refine (hg fun h2 => hin fun a => ?_).symm
      match a with
      | ⟨0, _⟩ => show 0 ≤ b.val * 1 + (sy m 0).val ∧ b.val * 1 + (sy m 0).val - 0 < 8; rw [e0]; omega
      | ⟨1, _⟩ => show 0 ≤ k.val * 1 + (sy m 1).val ∧ k.val * 1 + (sy m 1).val - 0 < n; omega
  rw [hfold]
  obtain ⟨h1, h2, h3⟩ := foldl_minsi g (List.finRange _) 2147483647#32
  -- an entry of the window is the initial value or an entry of the row at `k` or right of it
  have gv : ∀ m, g m = 2147483647#32 ∨ ∃ j : Fin n, k ≤ j ∧ g m = x (ix2 b j) := by
    intro m
    by_cases hin : k.val + (sy m 1).val < n
    · exact .inr ⟨⟨_, hin⟩, Nat.le_add_right _ _, dif_pos hin⟩
    · exact .inl (dif_neg hin)
  -- the window's first entry is the row's entry `k`
  have g0 : ∃ m, g m = x (ix2 b k) := by
    refine ⟨(⟨2, ![1, n]⟩ : Shape).rowMajor (ix2 (0 : Fin 1) (⟨0, by omega⟩ : Fin n)), ?_⟩
    have es : (sy ((⟨2, ![1, n]⟩ : Shape).rowMajor (ix2 (0 : Fin 1) (⟨0, by omega⟩ : Fin n))) 1).val = 0 := by
      show (((⟨2, ![1, n]⟩ : Shape).rowMajor.symm ((⟨2, ![1, n]⟩ : Shape).rowMajor _)) 1).val = 0
      rw [Equiv.symm_apply_apply]
      rfl
    refine (dif_pos (by rw [es]; exact hk)).trans (congrArg (fun j => x (ix2 b j)) (Fin.ext ?_))
    show k.val + _ = k.val
    rw [es]; rfl
  obtain ⟨m0, hm0⟩ := g0
  have hle := h3 m0 (List.mem_finRange _)
  rw [hm0] at hle
  -- an entry of the row is between its column and `q`
  have xv : ∀ j : Fin n, ∃ v : ℕ, x (ix2 b j) = BitVec.ofNat 32 v ∧ j.val ≤ v ∧ v ≤ q ∧ (B (ix2 b j) = 1#1 → v = j.val) := by
    intro j
    have := j.isLt
    rw [hx]
    by_cases hB : B (ix2 b j) = 1#1
    · exact ⟨j.val, if_pos hB, le_refl _, by omega, fun _ => rfl⟩
    · exact ⟨q, if_neg hB, by omega, le_refl _, fun h => absurd h hB⟩
  obtain ⟨v, hv, hv1, hv2, hv3⟩ := xv k
  rw [hv, toInt_small v (by omega)] at hle
  have hfin : ∃ j : Fin n, k ≤ j ∧ (List.finRange _).foldl (fun r m => IntOp.minsi r (g m)) 2147483647#32 = x (ix2 b j) := by
    have hmax : (List.finRange _).foldl (fun r m => IntOp.minsi r (g m)) 2147483647#32 ≠ 2147483647#32 := by
      intro he
      rw [he] at hle
      have : (2147483647#32 : BitVec 32).toInt = 2147483647 := rfl
      omega
    rcases h1 with h1 | ⟨m, -, h1⟩
    · exact absurd h1 hmax
    · rcases gv m with h | ⟨j, hj, h⟩
      · exact absurd (h1.trans h) hmax
      · exact ⟨j, hj, h1.trans h⟩
  obtain ⟨j, hj, hfj⟩ := hfin
  obtain ⟨w, hw, hw1, hw2, -⟩ := xv j
  refine ⟨w, hw2, hfj.trans hw, fun hk' => ?_⟩
  rw [hfj, hw, toInt_small w (by omega)] at hle
  have hj' : k.val ≤ j.val := hj
  rcases hk' with hk' | hk'
  · have := hv3 hk'; omega
  · omega

/-- The block of queries and the block of keys of a step. -/
noncomputable def qS (s : Fin 36) : Fin 8 := ⟨(lit0 s).toNat % 8, Nat.mod_lt _ (by decide)⟩
@[inherit_doc qS] noncomputable def kS (s : Fin 36) : Fin 8 := ⟨(lit1 s).toNat % 8, Nat.mod_lt _ (by decide)⟩

theorem lit0_eq (s : Fin 36) : lit0 s = BitVec.ofNat 32 (qS s).val := by revert s; decide
theorem lit1_eq (s : Fin 36) : lit1 s = BitVec.ofNat 32 (kS s).val := by revert s; decide
theorem kS_le (s : Fin 36) : kS s ≤ qS s := by revert s; decide

section
variable {F : FTy → Type} [FloatOps F] [Named F]
variable (m : (ℓ : Loc nD τ sig) → Buf (Elt F) ℓ) (c : Dev nD)

/-- A row of the bits, cut out and its unit axis dropped, at an entry. -/
theorem row_bits {α : Type} {n : ℕ} (q : Fin 8) (x : S8x8x8.Idx → α) (hs : S8x8x8.Slices ![0, q.val, 0] (⟨3, ![8, 1, n]⟩ : Shape))
    (hc : (⟨3, ![8, 1, n]⟩ : Shape).ShapeCasts (⟨2, ![8, n]⟩ : Shape)) (hn : n ≤ 8) (b : Fin 8) (j : Fin n) :
    shapeCast ⟨2, ![8, n]⟩ (extractStridedSlice ⟨3, ![8, 1, n]⟩ ![0, q.val, 0] x hs) hc (ix2 b j)
      = x (ix3 b q ⟨j.val, lt_of_lt_of_le j.isLt hn⟩) := by
  rw [shapeCast_apply _ hc (ix2 b j) (ix3 b (0 : Fin 1) j) (by
    rw [Shape.rowMajor_val_three, Shape.rowMajor_val_two]
    show (b.val * 1 + 0) * n + j.val = b.val * n + j.val
    rw [Nat.mul_one, Nat.add_zero])]
  unfold extractStridedSlice
  refine congrArg x (funext fun a => Fin.ext ?_)
  match a with
  | ⟨0, _⟩ => show 0 + b.val = b.val; omega
  | ⟨1, _⟩ => show q.val + 0 = q.val; omega
  | ⟨2, _⟩ => show 0 + j.val = j.val; omega

theorem B0_at (b : Fin 8) (j : Fin 1) : B0 m c (ix2 b j) = nd m c (ix3 b (0 : Fin 8) ⟨j.val, by omega⟩) :=
  row_bits (n := 1) (0 : Fin 8) (nd m c) _ _ (by decide) b j
theorem W0_at (b : Fin 8) (j : Fin 1) :
    W0 m c (ix2 b j) = if B0 m c (ix2 b j) = 1#1 then BitVec.ofNat 32 j.val else BitVec.ofNat 32 0 := by
  have hj : j = 0 := Subsingleton.elim _ _
  subst hj
  rfl
theorem R0_at (b : Fin 8) (j : Fin 1) : ∃ k' : ℕ, k' ≤ 0 ∧ R0 m c (ix2 b j) = BitVec.ofNat 32 k'
    ∧ (nd m c (ix3 b (0 : Fin 8) ⟨j.val, by omega⟩) = 1#1 ∨ j.val = 0 → k' = j.val) := by
  have h := row_min (q := 0) (n := 1) rfl (by decide) (B0 m c) (W0 m c) (W0_at m c) _ (fun _ => rfl)
    (by decide) h_S_ b j
  rw [B0_at] at h
  exact h
theorem catB0_at (b : Fin 8) (j : Fin 1) (s : Fin 36) (hs : s.val = 0 + j.val) :
    concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1 (ix2 b s) = B0 m c (ix2 b j) :=
  concatenate_apply_piece (t := S8x36) 1 _ _ (ix2 b s) 0 (by show 0 < 8; decide) S8x1 (B0 m c) rfl rfl 0 rfl (ix2 b j)
    (fun a ha => match a with | ⟨0, _⟩ => rfl | ⟨1, _⟩ => absurd rfl ha) hs.symm
theorem catR0_at (b : Fin 8) (j : Fin 1) (s : Fin 36) (hs : s.val = 0 + j.val) :
    concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 (ix2 b s) = R0 m c (ix2 b j) :=
  concatenate_apply_piece (t := S8x36) 1 _ _ (ix2 b s) 0 (by show 0 < 8; decide) S8x1 (R0 m c) rfl rfl 0 rfl (ix2 b j)
    (fun a ha => match a with | ⟨0, _⟩ => rfl | ⟨1, _⟩ => absurd rfl ha) hs.symm

theorem B1_at (b : Fin 8) (j : Fin 2) : B1 m c (ix2 b j) = nd m c (ix3 b (1 : Fin 8) ⟨j.val, by omega⟩) :=
  row_bits (n := 2) (1 : Fin 8) (nd m c) _ _ (by decide) b j
theorem W1_at (b : Fin 8) (j : Fin 2) :
    W1 m c (ix2 b j) = if B1 m c (ix2 b j) = 1#1 then BitVec.ofNat 32 j.val else BitVec.ofNat 32 1 := rfl
theorem R1_at (b : Fin 8) (j : Fin 2) : ∃ k' : ℕ, k' ≤ 1 ∧ R1 m c (ix2 b j) = BitVec.ofNat 32 k'
    ∧ (nd m c (ix3 b (1 : Fin 8) ⟨j.val, by omega⟩) = 1#1 ∨ j.val = 1 → k' = j.val) := by
  have h := row_min (q := 1) (n := 2) rfl (by decide) (B1 m c) (W1 m c) (W1_at m c) _ (fun _ => rfl)
    (by decide) h_S_ b j
  rw [B1_at] at h
  exact h
theorem catB1_at (b : Fin 8) (j : Fin 2) (s : Fin 36) (hs : s.val = 1 + j.val) :
    concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1 (ix2 b s) = B1 m c (ix2 b j) :=
  concatenate_apply_piece (t := S8x36) 1 _ _ (ix2 b s) 1 (by show 1 < 8; decide) S8x2 (B1 m c) rfl rfl 1 rfl (ix2 b j)
    (fun a ha => match a with | ⟨0, _⟩ => rfl | ⟨1, _⟩ => absurd rfl ha) hs.symm
theorem catR1_at (b : Fin 8) (j : Fin 2) (s : Fin 36) (hs : s.val = 1 + j.val) :
    concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 (ix2 b s) = R1 m c (ix2 b j) :=
  concatenate_apply_piece (t := S8x36) 1 _ _ (ix2 b s) 1 (by show 1 < 8; decide) S8x2 (R1 m c) rfl rfl 1 rfl (ix2 b j)
    (fun a ha => match a with | ⟨0, _⟩ => rfl | ⟨1, _⟩ => absurd rfl ha) hs.symm

theorem B2_at (b : Fin 8) (j : Fin 3) : B2 m c (ix2 b j) = nd m c (ix3 b (2 : Fin 8) ⟨j.val, by omega⟩) :=
  row_bits (n := 3) (2 : Fin 8) (nd m c) _ _ (by decide) b j
theorem W2_at (b : Fin 8) (j : Fin 3) :
    W2 m c (ix2 b j) = if B2 m c (ix2 b j) = 1#1 then BitVec.ofNat 32 j.val else BitVec.ofNat 32 2 := rfl
theorem R2_at (b : Fin 8) (j : Fin 3) : ∃ k' : ℕ, k' ≤ 2 ∧ R2 m c (ix2 b j) = BitVec.ofNat 32 k'
    ∧ (nd m c (ix3 b (2 : Fin 8) ⟨j.val, by omega⟩) = 1#1 ∨ j.val = 2 → k' = j.val) := by
  have h := row_min (q := 2) (n := 3) rfl (by decide) (B2 m c) (W2 m c) (W2_at m c) _ (fun _ => rfl)
    (by decide) h_S_ b j
  rw [B2_at] at h
  exact h
theorem catB2_at (b : Fin 8) (j : Fin 3) (s : Fin 36) (hs : s.val = 3 + j.val) :
    concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1 (ix2 b s) = B2 m c (ix2 b j) :=
  concatenate_apply_piece (t := S8x36) 1 _ _ (ix2 b s) 2 (by show 2 < 8; decide) S8x3 (B2 m c) rfl rfl 3 rfl (ix2 b j)
    (fun a ha => match a with | ⟨0, _⟩ => rfl | ⟨1, _⟩ => absurd rfl ha) hs.symm
theorem catR2_at (b : Fin 8) (j : Fin 3) (s : Fin 36) (hs : s.val = 3 + j.val) :
    concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 (ix2 b s) = R2 m c (ix2 b j) :=
  concatenate_apply_piece (t := S8x36) 1 _ _ (ix2 b s) 2 (by show 2 < 8; decide) S8x3 (R2 m c) rfl rfl 3 rfl (ix2 b j)
    (fun a ha => match a with | ⟨0, _⟩ => rfl | ⟨1, _⟩ => absurd rfl ha) hs.symm

theorem B3_at (b : Fin 8) (j : Fin 4) : B3 m c (ix2 b j) = nd m c (ix3 b (3 : Fin 8) ⟨j.val, by omega⟩) :=
  row_bits (n := 4) (3 : Fin 8) (nd m c) _ _ (by decide) b j
theorem W3_at (b : Fin 8) (j : Fin 4) :
    W3 m c (ix2 b j) = if B3 m c (ix2 b j) = 1#1 then BitVec.ofNat 32 j.val else BitVec.ofNat 32 3 := rfl
theorem R3_at (b : Fin 8) (j : Fin 4) : ∃ k' : ℕ, k' ≤ 3 ∧ R3 m c (ix2 b j) = BitVec.ofNat 32 k'
    ∧ (nd m c (ix3 b (3 : Fin 8) ⟨j.val, by omega⟩) = 1#1 ∨ j.val = 3 → k' = j.val) := by
  have h := row_min (q := 3) (n := 4) rfl (by decide) (B3 m c) (W3 m c) (W3_at m c) _ (fun _ => rfl)
    (by decide) h_S_ b j
  rw [B3_at] at h
  exact h
theorem catB3_at (b : Fin 8) (j : Fin 4) (s : Fin 36) (hs : s.val = 6 + j.val) :
    concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1 (ix2 b s) = B3 m c (ix2 b j) :=
  concatenate_apply_piece (t := S8x36) 1 _ _ (ix2 b s) 3 (by show 3 < 8; decide) S8x4 (B3 m c) rfl rfl 6 rfl (ix2 b j)
    (fun a ha => match a with | ⟨0, _⟩ => rfl | ⟨1, _⟩ => absurd rfl ha) hs.symm
theorem catR3_at (b : Fin 8) (j : Fin 4) (s : Fin 36) (hs : s.val = 6 + j.val) :
    concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 (ix2 b s) = R3 m c (ix2 b j) :=
  concatenate_apply_piece (t := S8x36) 1 _ _ (ix2 b s) 3 (by show 3 < 8; decide) S8x4 (R3 m c) rfl rfl 6 rfl (ix2 b j)
    (fun a ha => match a with | ⟨0, _⟩ => rfl | ⟨1, _⟩ => absurd rfl ha) hs.symm

theorem B4_at (b : Fin 8) (j : Fin 5) : B4 m c (ix2 b j) = nd m c (ix3 b (4 : Fin 8) ⟨j.val, by omega⟩) :=
  row_bits (n := 5) (4 : Fin 8) (nd m c) _ _ (by decide) b j
theorem W4_at (b : Fin 8) (j : Fin 5) :
    W4 m c (ix2 b j) = if B4 m c (ix2 b j) = 1#1 then BitVec.ofNat 32 j.val else BitVec.ofNat 32 4 := rfl
theorem R4_at (b : Fin 8) (j : Fin 5) : ∃ k' : ℕ, k' ≤ 4 ∧ R4 m c (ix2 b j) = BitVec.ofNat 32 k'
    ∧ (nd m c (ix3 b (4 : Fin 8) ⟨j.val, by omega⟩) = 1#1 ∨ j.val = 4 → k' = j.val) := by
  have h := row_min (q := 4) (n := 5) rfl (by decide) (B4 m c) (W4 m c) (W4_at m c) _ (fun _ => rfl)
    (by decide) h_S_ b j
  rw [B4_at] at h
  exact h
theorem catB4_at (b : Fin 8) (j : Fin 5) (s : Fin 36) (hs : s.val = 10 + j.val) :
    concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1 (ix2 b s) = B4 m c (ix2 b j) :=
  concatenate_apply_piece (t := S8x36) 1 _ _ (ix2 b s) 4 (by show 4 < 8; decide) S8x5 (B4 m c) rfl rfl 10 rfl (ix2 b j)
    (fun a ha => match a with | ⟨0, _⟩ => rfl | ⟨1, _⟩ => absurd rfl ha) hs.symm
theorem catR4_at (b : Fin 8) (j : Fin 5) (s : Fin 36) (hs : s.val = 10 + j.val) :
    concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 (ix2 b s) = R4 m c (ix2 b j) :=
  concatenate_apply_piece (t := S8x36) 1 _ _ (ix2 b s) 4 (by show 4 < 8; decide) S8x5 (R4 m c) rfl rfl 10 rfl (ix2 b j)
    (fun a ha => match a with | ⟨0, _⟩ => rfl | ⟨1, _⟩ => absurd rfl ha) hs.symm

theorem B5_at (b : Fin 8) (j : Fin 6) : B5 m c (ix2 b j) = nd m c (ix3 b (5 : Fin 8) ⟨j.val, by omega⟩) :=
  row_bits (n := 6) (5 : Fin 8) (nd m c) _ _ (by decide) b j
theorem W5_at (b : Fin 8) (j : Fin 6) :
    W5 m c (ix2 b j) = if B5 m c (ix2 b j) = 1#1 then BitVec.ofNat 32 j.val else BitVec.ofNat 32 5 := rfl
theorem R5_at (b : Fin 8) (j : Fin 6) : ∃ k' : ℕ, k' ≤ 5 ∧ R5 m c (ix2 b j) = BitVec.ofNat 32 k'
    ∧ (nd m c (ix3 b (5 : Fin 8) ⟨j.val, by omega⟩) = 1#1 ∨ j.val = 5 → k' = j.val) := by
  have h := row_min (q := 5) (n := 6) rfl (by decide) (B5 m c) (W5 m c) (W5_at m c) _ (fun _ => rfl)
    (by decide) h_S_ b j
  rw [B5_at] at h
  exact h
theorem catB5_at (b : Fin 8) (j : Fin 6) (s : Fin 36) (hs : s.val = 15 + j.val) :
    concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1 (ix2 b s) = B5 m c (ix2 b j) :=
  concatenate_apply_piece (t := S8x36) 1 _ _ (ix2 b s) 5 (by show 5 < 8; decide) S8x6 (B5 m c) rfl rfl 15 rfl (ix2 b j)
    (fun a ha => match a with | ⟨0, _⟩ => rfl | ⟨1, _⟩ => absurd rfl ha) hs.symm
theorem catR5_at (b : Fin 8) (j : Fin 6) (s : Fin 36) (hs : s.val = 15 + j.val) :
    concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 (ix2 b s) = R5 m c (ix2 b j) :=
  concatenate_apply_piece (t := S8x36) 1 _ _ (ix2 b s) 5 (by show 5 < 8; decide) S8x6 (R5 m c) rfl rfl 15 rfl (ix2 b j)
    (fun a ha => match a with | ⟨0, _⟩ => rfl | ⟨1, _⟩ => absurd rfl ha) hs.symm

theorem B6_at (b : Fin 8) (j : Fin 7) : B6 m c (ix2 b j) = nd m c (ix3 b (6 : Fin 8) ⟨j.val, by omega⟩) :=
  row_bits (n := 7) (6 : Fin 8) (nd m c) _ _ (by decide) b j
theorem W6_at (b : Fin 8) (j : Fin 7) :
    W6 m c (ix2 b j) = if B6 m c (ix2 b j) = 1#1 then BitVec.ofNat 32 j.val else BitVec.ofNat 32 6 := rfl
theorem R6_at (b : Fin 8) (j : Fin 7) : ∃ k' : ℕ, k' ≤ 6 ∧ R6 m c (ix2 b j) = BitVec.ofNat 32 k'
    ∧ (nd m c (ix3 b (6 : Fin 8) ⟨j.val, by omega⟩) = 1#1 ∨ j.val = 6 → k' = j.val) := by
  have h := row_min (q := 6) (n := 7) rfl (by decide) (B6 m c) (W6 m c) (W6_at m c) _ (fun _ => rfl)
    (by decide) h_S_ b j
  rw [B6_at] at h
  exact h
theorem catB6_at (b : Fin 8) (j : Fin 7) (s : Fin 36) (hs : s.val = 21 + j.val) :
    concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1 (ix2 b s) = B6 m c (ix2 b j) :=
  concatenate_apply_piece (t := S8x36) 1 _ _ (ix2 b s) 6 (by show 6 < 8; decide) S8x7 (B6 m c) rfl rfl 21 rfl (ix2 b j)
    (fun a ha => match a with | ⟨0, _⟩ => rfl | ⟨1, _⟩ => absurd rfl ha) hs.symm
theorem catR6_at (b : Fin 8) (j : Fin 7) (s : Fin 36) (hs : s.val = 21 + j.val) :
    concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 (ix2 b s) = R6 m c (ix2 b j) :=
  concatenate_apply_piece (t := S8x36) 1 _ _ (ix2 b s) 6 (by show 6 < 8; decide) S8x7 (R6 m c) rfl rfl 21 rfl (ix2 b j)
    (fun a ha => match a with | ⟨0, _⟩ => rfl | ⟨1, _⟩ => absurd rfl ha) hs.symm

theorem B7_at (b : Fin 8) (j : Fin 8) : B7 m c (ix2 b j) = nd m c (ix3 b (7 : Fin 8) ⟨j.val, by omega⟩) :=
  row_bits (n := 8) (7 : Fin 8) (nd m c) _ _ (by decide) b j
theorem W7_at (b : Fin 8) (j : Fin 8) :
    W7 m c (ix2 b j) = if B7 m c (ix2 b j) = 1#1 then BitVec.ofNat 32 j.val else BitVec.ofNat 32 7 := rfl
theorem R7_at (b : Fin 8) (j : Fin 8) : ∃ k' : ℕ, k' ≤ 7 ∧ R7 m c (ix2 b j) = BitVec.ofNat 32 k'
    ∧ (nd m c (ix3 b (7 : Fin 8) ⟨j.val, by omega⟩) = 1#1 ∨ j.val = 7 → k' = j.val) := by
  have h := row_min (q := 7) (n := 8) rfl (by decide) (B7 m c) (W7 m c) (W7_at m c) _ (fun _ => rfl)
    (by decide) h_S_ b j
  rw [B7_at] at h
  exact h
theorem catB7_at (b : Fin 8) (j : Fin 8) (s : Fin 36) (hs : s.val = 28 + j.val) :
    concatenate S8x36 1 [⟨S8x1, B0 m c⟩, ⟨S8x2, B1 m c⟩, ⟨S8x3, B2 m c⟩, ⟨S8x4, B3 m c⟩, ⟨S8x5, B4 m c⟩, ⟨S8x6, B5 m c⟩, ⟨S8x7, B6 m c⟩, ⟨S8x8, B7 m c⟩] concatenates_S8x1_S8x2_S8x3_S8x4_S8x5_S8x6_S8x7_S8x8_S8x36_d1 (ix2 b s) = B7 m c (ix2 b j) :=
  concatenate_apply_piece (t := S8x36) 1 _ _ (ix2 b s) 7 (by show 7 < 8; decide) S8x8 (B7 m c) rfl rfl 28 rfl (ix2 b j)
    (fun a ha => match a with | ⟨0, _⟩ => rfl | ⟨1, _⟩ => absurd rfl ha) hs.symm
theorem catR7_at (b : Fin 8) (j : Fin 8) (s : Fin 36) (hs : s.val = 28 + j.val) :
    concatenate S8x36 1 [⟨S8x1, R0 m c⟩, ⟨S8x2, R1 m c⟩, ⟨S8x3, R2 m c⟩, ⟨S8x4, R3 m c⟩, ⟨S8x5, R4 m c⟩, ⟨S8x6, R5 m c⟩, ⟨S8x7, R6 m c⟩, ⟨S8x8, R7 m c⟩] concatenates_S8x1_S8x2_S8x3_S8x4_S8x5_S8x6_S8x7_S8x8_S8x36_d1 (ix2 b s) = R7 m c (ix2 b j) :=
  concatenate_apply_piece (t := S8x36) 1 _ _ (ix2 b s) 7 (by show 7 < 8; decide) S8x8 (R7 m c) rfl rfl 28 rfl (ix2 b j)
    (fun a ha => match a with | ⟨0, _⟩ => rfl | ⟨1, _⟩ => absurd rfl ha) hs.symm

theorem q_at (s : Fin 36) : V m c main_c (ix1 s) = BitVec.ofNat 32 (qS s).val := by
  rw [V_main_c]
  show lit0 (S36.rowMajor (ix1 s)) = _
  rw [show S36.rowMajor (ix1 s) = s from Fin.ext (by rw [Shape.rowMajor_val_one]), lit0_eq]

theorem k_at (s : Fin 36) : V m c main_c_0 (ix1 s) = BitVec.ofNat 32 (kS s).val := by
  rw [V_main_c_0]
  show lit1 (S36.rowMajor (ix1 s)) = _
  rw [show S36.rowMajor (ix1 s) = s from Fin.ext (by rw [Shape.rowMajor_val_one]), lit1_eq]

theorem need_at (b : Fin 8) (s : Fin 36) : V m c main_v44 (ix2 b s) = (nd m c (ix3 b (qS s) (kS s))).setWidth 32 := by
  rw [V_main_v44]
  show BitVec.setWidth 32 (concatenate S8x36 1 _ _ (ix2 b s)) = _
  refine congrArg (BitVec.setWidth 32) ?_
  match s with
  | ⟨0, _⟩ => exact (catB0_at m c b (0 : Fin 1) _ rfl).trans (B0_at m c b _)
  | ⟨1, _⟩ => exact (catB1_at m c b (0 : Fin 2) _ rfl).trans (B1_at m c b _)
  | ⟨2, _⟩ => exact (catB1_at m c b (1 : Fin 2) _ rfl).trans (B1_at m c b _)
  | ⟨3, _⟩ => exact (catB2_at m c b (0 : Fin 3) _ rfl).trans (B2_at m c b _)
  | ⟨4, _⟩ => exact (catB2_at m c b (1 : Fin 3) _ rfl).trans (B2_at m c b _)
  | ⟨5, _⟩ => exact (catB2_at m c b (2 : Fin 3) _ rfl).trans (B2_at m c b _)
  | ⟨6, _⟩ => exact (catB3_at m c b (0 : Fin 4) _ rfl).trans (B3_at m c b _)
  | ⟨7, _⟩ => exact (catB3_at m c b (1 : Fin 4) _ rfl).trans (B3_at m c b _)
  | ⟨8, _⟩ => exact (catB3_at m c b (2 : Fin 4) _ rfl).trans (B3_at m c b _)
  | ⟨9, _⟩ => exact (catB3_at m c b (3 : Fin 4) _ rfl).trans (B3_at m c b _)
  | ⟨10, _⟩ => exact (catB4_at m c b (0 : Fin 5) _ rfl).trans (B4_at m c b _)
  | ⟨11, _⟩ => exact (catB4_at m c b (1 : Fin 5) _ rfl).trans (B4_at m c b _)
  | ⟨12, _⟩ => exact (catB4_at m c b (2 : Fin 5) _ rfl).trans (B4_at m c b _)
  | ⟨13, _⟩ => exact (catB4_at m c b (3 : Fin 5) _ rfl).trans (B4_at m c b _)
  | ⟨14, _⟩ => exact (catB4_at m c b (4 : Fin 5) _ rfl).trans (B4_at m c b _)
  | ⟨15, _⟩ => exact (catB5_at m c b (0 : Fin 6) _ rfl).trans (B5_at m c b _)
  | ⟨16, _⟩ => exact (catB5_at m c b (1 : Fin 6) _ rfl).trans (B5_at m c b _)
  | ⟨17, _⟩ => exact (catB5_at m c b (2 : Fin 6) _ rfl).trans (B5_at m c b _)
  | ⟨18, _⟩ => exact (catB5_at m c b (3 : Fin 6) _ rfl).trans (B5_at m c b _)
  | ⟨19, _⟩ => exact (catB5_at m c b (4 : Fin 6) _ rfl).trans (B5_at m c b _)
  | ⟨20, _⟩ => exact (catB5_at m c b (5 : Fin 6) _ rfl).trans (B5_at m c b _)
  | ⟨21, _⟩ => exact (catB6_at m c b (0 : Fin 7) _ rfl).trans (B6_at m c b _)
  | ⟨22, _⟩ => exact (catB6_at m c b (1 : Fin 7) _ rfl).trans (B6_at m c b _)
  | ⟨23, _⟩ => exact (catB6_at m c b (2 : Fin 7) _ rfl).trans (B6_at m c b _)
  | ⟨24, _⟩ => exact (catB6_at m c b (3 : Fin 7) _ rfl).trans (B6_at m c b _)
  | ⟨25, _⟩ => exact (catB6_at m c b (4 : Fin 7) _ rfl).trans (B6_at m c b _)
  | ⟨26, _⟩ => exact (catB6_at m c b (5 : Fin 7) _ rfl).trans (B6_at m c b _)
  | ⟨27, _⟩ => exact (catB6_at m c b (6 : Fin 7) _ rfl).trans (B6_at m c b _)
  | ⟨28, _⟩ => exact (catB7_at m c b (0 : Fin 8) _ rfl).trans (B7_at m c b _)
  | ⟨29, _⟩ => exact (catB7_at m c b (1 : Fin 8) _ rfl).trans (B7_at m c b _)
  | ⟨30, _⟩ => exact (catB7_at m c b (2 : Fin 8) _ rfl).trans (B7_at m c b _)
  | ⟨31, _⟩ => exact (catB7_at m c b (3 : Fin 8) _ rfl).trans (B7_at m c b _)
  | ⟨32, _⟩ => exact (catB7_at m c b (4 : Fin 8) _ rfl).trans (B7_at m c b _)
  | ⟨33, _⟩ => exact (catB7_at m c b (5 : Fin 8) _ rfl).trans (B7_at m c b _)
  | ⟨34, _⟩ => exact (catB7_at m c b (6 : Fin 8) _ rfl).trans (B7_at m c b _)
  | ⟨35, _⟩ => exact (catB7_at m c b (7 : Fin 8) _ rfl).trans (B7_at m c b _)
  | ⟨_ + 36, h⟩ => exact absurd h (by omega)

theorem keff_at (b : Fin 8) (s : Fin 36) : ∃ k' : Fin 8, k' ≤ qS s ∧ V m c main_v45 (ix2 b s) = BitVec.ofNat 32 k'.val
    ∧ (nd m c (ix3 b (qS s) (kS s)) = 1#1 ∨ kS s = qS s → k' = kS s) := by
  rw [V_main_v45]
  suffices H : ∃ k' : ℕ, k' ≤ (qS s).val ∧ concatenate S8x36 1 _ _ (ix2 b s) = BitVec.ofNat 32 k'
      ∧ (nd m c (ix3 b (qS s) (kS s)) = 1#1 ∨ (kS s).val = (qS s).val → k' = (kS s).val) by
    obtain ⟨k', h1, h2, h3⟩ := H
    have := (qS s).isLt
    exact ⟨⟨k', by omega⟩, h1, h2, fun h => Fin.ext (h3 (h.imp id (congrArg Fin.val)))⟩
  match s with
  | ⟨0, _⟩ => rw [catR0_at m c b (0 : Fin 1) _ rfl]; exact R0_at m c b _
  | ⟨1, _⟩ => rw [catR1_at m c b (0 : Fin 2) _ rfl]; exact R1_at m c b _
  | ⟨2, _⟩ => rw [catR1_at m c b (1 : Fin 2) _ rfl]; exact R1_at m c b _
  | ⟨3, _⟩ => rw [catR2_at m c b (0 : Fin 3) _ rfl]; exact R2_at m c b _
  | ⟨4, _⟩ => rw [catR2_at m c b (1 : Fin 3) _ rfl]; exact R2_at m c b _
  | ⟨5, _⟩ => rw [catR2_at m c b (2 : Fin 3) _ rfl]; exact R2_at m c b _
  | ⟨6, _⟩ => rw [catR3_at m c b (0 : Fin 4) _ rfl]; exact R3_at m c b _
  | ⟨7, _⟩ => rw [catR3_at m c b (1 : Fin 4) _ rfl]; exact R3_at m c b _
  | ⟨8, _⟩ => rw [catR3_at m c b (2 : Fin 4) _ rfl]; exact R3_at m c b _
  | ⟨9, _⟩ => rw [catR3_at m c b (3 : Fin 4) _ rfl]; exact R3_at m c b _
  | ⟨10, _⟩ => rw [catR4_at m c b (0 : Fin 5) _ rfl]; exact R4_at m c b _
  | ⟨11, _⟩ => rw [catR4_at m c b (1 : Fin 5) _ rfl]; exact R4_at m c b _
  | ⟨12, _⟩ => rw [catR4_at m c b (2 : Fin 5) _ rfl]; exact R4_at m c b _
  | ⟨13, _⟩ => rw [catR4_at m c b (3 : Fin 5) _ rfl]; exact R4_at m c b _
  | ⟨14, _⟩ => rw [catR4_at m c b (4 : Fin 5) _ rfl]; exact R4_at m c b _
  | ⟨15, _⟩ => rw [catR5_at m c b (0 : Fin 6) _ rfl]; exact R5_at m c b _
  | ⟨16, _⟩ => rw [catR5_at m c b (1 : Fin 6) _ rfl]; exact R5_at m c b _
  | ⟨17, _⟩ => rw [catR5_at m c b (2 : Fin 6) _ rfl]; exact R5_at m c b _
  | ⟨18, _⟩ => rw [catR5_at m c b (3 : Fin 6) _ rfl]; exact R5_at m c b _
  | ⟨19, _⟩ => rw [catR5_at m c b (4 : Fin 6) _ rfl]; exact R5_at m c b _
  | ⟨20, _⟩ => rw [catR5_at m c b (5 : Fin 6) _ rfl]; exact R5_at m c b _
  | ⟨21, _⟩ => rw [catR6_at m c b (0 : Fin 7) _ rfl]; exact R6_at m c b _
  | ⟨22, _⟩ => rw [catR6_at m c b (1 : Fin 7) _ rfl]; exact R6_at m c b _
  | ⟨23, _⟩ => rw [catR6_at m c b (2 : Fin 7) _ rfl]; exact R6_at m c b _
  | ⟨24, _⟩ => rw [catR6_at m c b (3 : Fin 7) _ rfl]; exact R6_at m c b _
  | ⟨25, _⟩ => rw [catR6_at m c b (4 : Fin 7) _ rfl]; exact R6_at m c b _
  | ⟨26, _⟩ => rw [catR6_at m c b (5 : Fin 7) _ rfl]; exact R6_at m c b _
  | ⟨27, _⟩ => rw [catR6_at m c b (6 : Fin 7) _ rfl]; exact R6_at m c b _
  | ⟨28, _⟩ => rw [catR7_at m c b (0 : Fin 8) _ rfl]; exact R7_at m c b _
  | ⟨29, _⟩ => rw [catR7_at m c b (1 : Fin 8) _ rfl]; exact R7_at m c b _
  | ⟨30, _⟩ => rw [catR7_at m c b (2 : Fin 8) _ rfl]; exact R7_at m c b _
  | ⟨31, _⟩ => rw [catR7_at m c b (3 : Fin 8) _ rfl]; exact R7_at m c b _
  | ⟨32, _⟩ => rw [catR7_at m c b (4 : Fin 8) _ rfl]; exact R7_at m c b _
  | ⟨33, _⟩ => rw [catR7_at m c b (5 : Fin 8) _ rfl]; exact R7_at m c b _
  | ⟨34, _⟩ => rw [catR7_at m c b (6 : Fin 8) _ rfl]; exact R7_at m c b _
  | ⟨35, _⟩ => rw [catR7_at m c b (7 : Fin 8) _ rfl]; exact R7_at m c b _
  | ⟨_ + 36, h⟩ => exact absurd h (by omega)

end

end Cert.KernelIdeal.Fox
-- ==== Proof.FoxAdm.lean ====
module

public import proofs.«01_k».proof.Proof.FoxTables

@[expose] public section

set_option maxRecDepth 65536
open Idealize.ShloMosaic Idealize.ShloMosaic.TcCoe Idealize.SL
open Idealize.ShloMosaic.ValueIdx

/-! The tables as the call finds them: every block that they name lies inside its array, and the words that a
    grid point reads from them. -/

namespace Cert.KernelIdeal.Fox

open Cert.KernelIdeal Cert.KernelIdeal.Gen

variable {F : FTy → Type} [FloatOps F] [Named F]
variable (m : (ℓ : Loc nD τ sig) → Buf (Elt F) ℓ)

/-- What the four tables hold when the call starts. -/
noncomputable def tabs : pre0.Contents (Elt F) := fun k => V m 0 (pre0.ref k)

/-- The block of keys that a step fetches. -/
noncomputable def kE (b : Fin 8) (s : Fin 36) : Fin 8 := (keff_at m 0 b s).choose
theorem kE_le (b : Fin 8) (s : Fin 36) : kE m b s ≤ qS s := (keff_at m 0 b s).choose_spec.1
theorem kE_at (b : Fin 8) (s : Fin 36) : V m 0 main_v45 (ix2 b s) = BitVec.ofNat 32 (kE m b s).val :=
  (keff_at m 0 b s).choose_spec.2.1
theorem kE_eq (b : Fin 8) (s : Fin 36) (h : nd m 0 (ix3 b (qS s) (kS s)) = 1#1 ∨ kS s = qS s) : kE m b s = kS s :=
  (keff_at m 0 b s).choose_spec.2.2 h

/-- A grid point's pair of batch and head, and its step. -/
abbrev bOf (i : grid0.Coords) : Fin 8 := i 0
@[inherit_doc bOf] abbrev sOf (i : grid0.Coords) : Fin 36 := i 1

theorem off1_val (i : grid0.Coords) : k0_off1 i 0 = (sOf i).val := by
  have h : ∀ s : Fin 36, (BitVec.ofNat 32 s.val).toNat = s.val := by decide
  exact h (i 1)

theorem off2_val (i : grid0.Coords) : k0_off2 i 0 = (bOf i).val ∧ k0_off2 i 1 = (sOf i).val := by
  have h : ∀ s : Fin 36, (BitVec.ofNat 32 s.val).toNat = s.val := by decide
  have h' : ∀ s : Fin 8, (BitVec.ofNat 32 s.val).toNat = s.val := by decide
  exact ⟨h' (i 0), h (i 1)⟩

theorem emb1 (i : grid0.Coords) (h1 : 0 < (Rect.unit (s := S36) (k0_off1 i) S1.size (k0_off1_inb i)).shape.numel) :
    (Rect.unit (s := S36) (k0_off1 i) S1.size (k0_off1_inb i)).emb (Shape.Idx.first h1) = ix1 (sOf i) := by
  funext a
  match a with
  | ⟨0, _⟩ =>
    refine Fin.ext ?_
    show k0_off1 i 0 + 0 * 1 = _
    rw [off1_val]; rfl

theorem emb2 (i : grid0.Coords) (h1 : 0 < (Rect.unit (s := S8x36) (k0_off2 i) S1x1.size (k0_off2_inb i)).shape.numel) :
    (Rect.unit (s := S8x36) (k0_off2 i) S1x1.size (k0_off2_inb i)).emb (Shape.Idx.first h1) = ix2 (bOf i) (sOf i) := by
  funext a
  match a with
  | ⟨0, _⟩ =>
    refine Fin.ext ?_
    show k0_off2 i 0 + 0 * 1 = _
    rw [(off2_val i).1]; rfl
  | ⟨1, _⟩ =>
    refine Fin.ext ?_
    show k0_off2 i 1 + 0 * 1 = _
    rw [(off2_val i).2]; rfl

theorem emb3 (i : grid0.Coords) (h1 : 0 < (Rect.unit (s := S8x36) (k0_off3 i) S1x1.size (k0_off3_inb i)).shape.numel) :
    (Rect.unit (s := S8x36) (k0_off3 i) S1x1.size (k0_off3_inb i)).emb (Shape.Idx.first h1) = ix2 (bOf i) (sOf i) :=
  emb2 i h1

theorem w1_eq (i : grid0.Coords) : (tabs m).atD 0 (k0_off1 i) = BitVec.ofNat 32 (qS (sOf i)).val := by
  rw [atD_0, emb1]; exact q_at m 0 _
theorem w3_eq (i : grid0.Coords) : (tabs m).atD 1 (k0_off1 i) = BitVec.ofNat 32 (kS (sOf i)).val := by
  rw [atD_1, emb1]; exact k_at m 0 _
theorem w10_eq (i : grid0.Coords) : (tabs m).atD 2 (k0_off3 i) = (nd m 0 (ix3 (bOf i) (qS (sOf i)) (kS (sOf i)))).setWidth 32 := by
  rw [atD_2, emb3]; exact need_at m 0 _ _

theorem at0 (i : grid0.Coords) : (tabs m).at 0 (Rect.unit (s := S36) (k0_off1 i) S1.size (k0_off1_inb i)) numel1_S1
    = BitVec.ofNat 32 (qS (sOf i)).val :=
  (congrArg (V m 0 main_c) (emb1 i _)).trans (q_at m 0 _)
theorem at3 (i : grid0.Coords) : (tabs m).at 3 (Rect.unit (s := S8x36) (k0_off2 i) S1x1.size (k0_off2_inb i)) numel1_S1x1
    = BitVec.ofNat 32 (kE m (bOf i) (sOf i)).val :=
  (congrArg (V m 0 main_v45) (emb2 i _)).trans (kE_at m _ _)

theorem tr0_eq (i : grid0.Coords) : cc0_transform_0 k0_off1_inb numel1_S1 (tabs m) i
    = ![(bOf i).val / 4 * 8 + (qS (sOf i)).val, 28 + (bOf i).val % 4] := by
  have h := at0 m i
  unfold cc0_transform_0
  dsimp only
  erw [h]
  clear h
  generalize qS (sOf i) = q
  unfold bOf
  generalize (i 0) = b
  revert b q
  decide +kernel

theorem tr1_eq (i : grid0.Coords) : cc0_transform_1 k0_off2_inb numel1_S1x1 (tabs m) i
    = ![(bOf i).val / 4 * 8 + (kE m (bOf i) (sOf i)).val, 32 + (bOf i).val % 4] := by
  have h := at3 m i
  unfold cc0_transform_1
  dsimp only
  erw [h]
  clear h
  generalize kE m (bOf i) (sOf i) = q
  unfold bOf
  generalize (i 0) = b
  revert b q
  decide +kernel

theorem tr2_eq (i : grid0.Coords) : cc0_transform_2 k0_off2_inb numel1_S1x1 (tabs m) i
    = ![(bOf i).val / 4 * 8 + (kE m (bOf i) (sOf i)).val, 36 + (bOf i).val % 4] := by
  have h := at3 m i
  unfold cc0_transform_2
  dsimp only
  erw [h]
  clear h
  generalize kE m (bOf i) (sOf i) = q
  unfold bOf
  generalize (i 0) = b
  revert b q
  decide +kernel

theorem tr3_eq (i : grid0.Coords) : cc0_transform_3 k0_off1_inb numel1_S1 (tabs m) i
    = ![(bOf i).val, 0, (qS (sOf i)).val] := by
  have h := at0 m i
  unfold cc0_transform_3
  dsimp only
  erw [h]
  clear h
  generalize qS (sOf i) = q
  unfold bOf
  generalize (i 0) = b
  revert b q
  decide +kernel

theorem tr4_eq (i : grid0.Coords) : cc0_transform_4 k0_off2_inb numel1_S1x1 (tabs m) i
    = ![(bOf i).val, 0, (kE m (bOf i) (sOf i)).val] := by
  have h := at3 m i
  unfold cc0_transform_4
  dsimp only
  erw [h]
  clear h
  generalize kE m (bOf i) (sOf i) = q
  unfold bOf
  generalize (i 0) = b
  revert b q
  decide +kernel

theorem tr5_eq (i : grid0.Coords) : cc0_transform_5 k0_off1_inb numel1_S1 (tabs m) i
    = ![(bOf i).val / 4 * 8 + (qS (sOf i)).val, (bOf i).val % 4] := by
  have h := at0 m i
  unfold cc0_transform_5
  dsimp only
  erw [h]
  clear h
  generalize qS (sOf i) = q
  unfold bOf
  generalize (i 0) = b
  revert b q
  decide +kernel

theorem okw0 : ∀ b q : Fin 8, ∃ h : (∀ a, ((![b.val / 4 * 8 + q.val, 28 + b.val % 4] : Fin 2 → ℕ) a + 1) * S1024x128.size a ≤ S16384x5120.size a), EltTy.bits .bf16 = 32 ∨ (Rect.block (s := S16384x5120) S1024x128.size ![b.val / 4 * 8 + q.val, 28 + b.val % 4] h).WholeWords (EltTy.packing .bf16) := by decide +kernel
theorem okw1 : ∀ b q : Fin 8, ∃ h : (∀ a, ((![b.val / 4 * 8 + q.val, 32 + b.val % 4] : Fin 2 → ℕ) a + 1) * S1024x128.size a ≤ S16384x5120.size a), EltTy.bits .bf16 = 32 ∨ (Rect.block (s := S16384x5120) S1024x128.size ![b.val / 4 * 8 + q.val, 32 + b.val % 4] h).WholeWords (EltTy.packing .bf16) := by decide +kernel
theorem okw2 : ∀ b q : Fin 8, ∃ h : (∀ a, ((![b.val / 4 * 8 + q.val, 36 + b.val % 4] : Fin 2 → ℕ) a + 1) * S1024x128.size a ≤ S16384x5120.size a), EltTy.bits .bf16 = 32 ∨ (Rect.block (s := S16384x5120) S1024x128.size ![b.val / 4 * 8 + q.val, 36 + b.val % 4] h).WholeWords (EltTy.packing .bf16) := by decide +kernel
theorem okw5 : ∀ b q : Fin 8, ∃ h : (∀ a, ((![b.val / 4 * 8 + q.val, b.val % 4] : Fin 2 → ℕ) a + 1) * S1024x128.size a ≤ S16384x512.size a), EltTy.bits .bf16 = 32 ∨ (Rect.block (s := S16384x512) S1024x128.size ![b.val / 4 * 8 + q.val, b.val % 4] h).WholeWords (EltTy.packing .bf16) := by decide +kernel
theorem okw3 : ∀ b q : Fin 8, ∃ h : (∀ a, ((![b.val, 0, q.val] : Fin 3 → ℕ) a + 1) * S1x1x1024.size a ≤ S8x1x8192.size a), EltTy.bits .f32 = 32 ∨ (Rect.block (s := S8x1x8192) S1x1x1024.size ![b.val, 0, q.val] h).WholeWords (EltTy.packing .f32) := by
  decide +kernel

/-- Every block that the tables name lies inside its array. -/
theorem tabs_ok : ok0 (tabs m) := by
  refine ⟨fun i => ?_, fun i => ?_, fun i => ?_, fun i => ?_, fun i => ?_, fun i => ?_⟩
  · rw [tr0_eq]; exact okw0 _ _
  · rw [tr1_eq]; exact okw1 _ _
  · rw [tr2_eq]; exact okw2 _ _
  · rw [tr3_eq]; exact okw3 _ _
  · rw [tr4_eq]; exact okw3 _ _
  · rw [tr5_eq]; exact okw5 _ _

/-- The tables with their blocks in bounds. -/
noncomputable def adm : (pcfg0 (F := F)).Adm := ⟨tabs m, tabs_ok m⟩

end Cert.KernelIdeal.Fox
-- ==== Proof.FoxFrame.lean ====
/- The fox attention kernel's run: what its buffers hold at every grid point, its termination and its frame. -/
module

public import proofs.«01_k».proof.Proof.FoxAdm

@[expose] public section

set_option maxRecDepth 65536

namespace Cert.KernelIdeal.Fox

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The words of a grid point: its block of queries, its block of keys, whether they are needed. -/
noncomputable def w1 (i : grid0.Coords) : BitVec 32 := BitVec.ofNat 32 (qS (sOf i)).val
@[inherit_doc w1] noncomputable def w3 (i : grid0.Coords) : BitVec 32 := BitVec.ofNat 32 (kS (sOf i)).val
@[inherit_doc w1] noncomputable def w10 (i : grid0.Coords) : BitVec 32 := (nd m 0 (ix3 (bOf i) (qS (sOf i)) (kS (sOf i)))).setWidth 32

/-- The call at the tables' contents. -/
noncomputable abbrev cfgA : Pipeline.Cfg sig Λ₀ := cfg0 (adm m)

/-- A window's block at a point. -/
noncomputable def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

noncomputable abbrev bq (c : Dev nD) (t : Fin (cfgA m).N) : Vec F S1024x128 .bf16 := iblk m c 0 t
noncomputable abbrev bk (c : Dev nD) (t : Fin (cfgA m).N) : Vec F S1024x128 .bf16 := iblk m c 1 t
noncomputable abbrev bv (c : Dev nD) (t : Fin (cfgA m).N) : Vec F S1024x128 .bf16 := iblk m c 2 t
noncomputable abbrev bcq (c : Dev nD) (t : Fin (cfgA m).N) : Vec F S1x1x1024 .f32 := iblk m c 3 t
noncomputable abbrev bck (c : Dev nD) (t : Fin (cfgA m).N) : Vec F S1x1x1024 .f32 := iblk m c 4 t

/-- A grid point's effect on the running maximum, the running sum and the accumulator. -/
noncomputable def stepN (c : Dev nD) (t : Fin (cfgA m).N) (s : St F) : St F :=
  stN (w1 (grid0.coords t)) (w3 (grid0.coords t)) (w10 m (grid0.coords t)) (bq m c t) (bk m c t) (bv m c t) (bcq m c t) (bck m c t) s

/-- Their contents before point `n`. -/
noncomputable def stAt (c : Dev nD) : ℕ → St F
  | 0 => Classical.choice ⟨(k0_pay1, k0_pay2, k0_pay3)⟩
  | n + 1 => if h : n < (cfgA m).N then stepN m c ⟨n, h⟩ (stAt c n) else stAt c n

theorem stAt_succ (c : Dev nD) (t : Fin (cfgA m).N) : stAt m c (t.val + 1) = stepN m c t (stAt m c t.val) := by
  rw [stAt, dif_pos t.isLt]

/-- What the output block holds after a point that writes it. -/
noncomputable def outAt (c : Dev nD) (t : Fin (cfgA m).N) : Vec F S1024x128 .bf16 :=
  k0_pay8 (stAt m c (t.val + 1)).2.2 (stAt m c (t.val + 1)).2.1

/-- The invariant before point `n`: the three scratch buffers, the generator's register and the four tables. -/
noncomputable def Inv (c : Dev nD) (n : ℕ) : sProp 𝕄 :=
  iprop(∃ s : St F, ⌜n ≠ 0 → s = stAt m c n⌝
    ∗ owns (c : Thread nD τ) (Memref.whole cc0_scratch0) fullShare s.1
    ∗ owns (c : Thread nD τ) (Memref.whole cc0_scratch1) fullShare s.2.1
    ∗ owns (c : Thread nD τ) (Memref.whole cc0_scratch2) fullShare s.2.2
    ∗ (∃ r, prngReg c r)
    ∗ owns (c : Thread nD τ) (Memref.whole main_c) fullShare.right (tabs m 0)
    ∗ owns (c : Thread nD τ) (Memref.whole main_c_0) fullShare.right (tabs m 1)
    ∗ owns (c : Thread nD τ) (Memref.whole main_v44) fullShare.right (tabs m 2)
    ∗ owns (c : Thread nD τ) (Memref.whole main_v45) fullShare.right (tabs m 3))

/-- The proof data of the one call. -/
noncomputable def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Inv m c t.val
  q w := Pipeline.shareOf spec0 w
  owed _ := 0

theorem A_eq (c : Dev nD) (w : Fin (cfgA m).W) : (dats m 0 c).A w = V m c (Pipeline.arrRef spec0 w) := by
  dsimp only [dats]
theorem after_0 (c : Dev nD) (t : Fin (cfgA m).N) : (dats m 0 c).after 0 t = iblk m c 0 t := by dsimp only [dats]; rfl
theorem after_1 (c : Dev nD) (t : Fin (cfgA m).N) : (dats m 0 c).after 1 t = iblk m c 1 t := by dsimp only [dats]; rfl
theorem after_2 (c : Dev nD) (t : Fin (cfgA m).N) : (dats m 0 c).after 2 t = iblk m c 2 t := by dsimp only [dats]; rfl
theorem after_3 (c : Dev nD) (t : Fin (cfgA m).N) : (dats m 0 c).after 3 t = iblk m c 3 t := by dsimp only [dats]; rfl
theorem after_4 (c : Dev nD) (t : Fin (cfgA m).N) : (dats m 0 c).after 4 t = iblk m c 4 t := by dsimp only [dats]; rfl
theorem after_5 (c : Dev nD) (t : Fin (cfgA m).N) : (dats m 0 c).after 5 t = outAt m c t := by dsimp only [dats]; rfl

theorem Φ_eq (c : Dev nD) (t : Fin ((cfgA m).N + 1)) : (dats m 0 c).Φ t = Inv m c t.val := by dsimp only [dats]

theorem before_0 (c : Dev nD) (t : Fin (cfgA m).N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin (cfgA m).N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin (cfgA m).N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin (cfgA m).N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin (cfgA m).N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; rfl)

/-! ## The points that write the output -/

theorem cD_iff (q k : Fin 8) : cD (BitVec.ofNat 32 q.val) (BitVec.ofNat 32 k.val) ↔ k = q := by
  revert q k; decide
theorem cI_iff (k : Fin 8) : cI (BitVec.ofNat 32 k.val) ↔ k = 0 := by
  revert k; decide

/-- Off the diagonal of blocks the next point has the same block of queries, of the same batch and head. -/
theorem next_row : ∀ t : Fin grid0.N, kS (sOf (grid0.coords t)) ≠ qS (sOf (grid0.coords t)) →
    ∃ h : t.val + 1 < grid0.N, bOf (grid0.coords ⟨t.val + 1, h⟩) = bOf (grid0.coords t)
      ∧ qS (sOf (grid0.coords ⟨t.val + 1, h⟩)) = qS (sOf (grid0.coords t)) := by
  decide +kernel

theorem flush_off (t : Fin (cfgA m).N) (h : kS (sOf (grid0.coords t)) ≠ qS (sOf (grid0.coords t))) :
    ((cfgA m).win 5).flush t = false := by
  obtain ⟨h1, h2, h3⟩ := next_row t h
  have hix : ((cfgA m).win 5).index ⟨t.val + 1, h1⟩ = ((cfgA m).win 5).index t := by
    show cc0_transform_5 k0_off1_inb numel1_S1 (tabs m) (grid0.coords ⟨t.val + 1, h1⟩) = cc0_transform_5 k0_off1_inb numel1_S1 (tabs m) (grid0.coords t)
    rw [tr5_eq, tr5_eq, h2, h3]
  unfold Window.flush
  rw [Bool.and_eq_false_iff]
  right
  rw [Bool.or_eq_false_iff]
  exact ⟨decide_eq_false (ne_of_lt h1), decide_eq_false fun ⟨_, hne⟩ => hne hix⟩

theorem cond3_word (q k : Fin 8) : (!(k0_cond3 (BitVec.ofNat 32 q.val) (BitVec.ofNat 32 k.val) == 1#1)) = !decide (k = q) := by
  revert q k; decide

theorem idle_word (a b : BitVec 32) (q k : Fin 8) (ha : a = BitVec.ofNat 32 q.val) (hb : b = BitVec.ofNat 32 k.val) :
    (!(k0_cond3 a b == 1#1)) = !decide (k = q) := by
  rw [ha, hb]; exact cond3_word q k

theorem idle5 (i : grid0.Coords) : idle0 (tabs m) 5 i = !decide (kS (sOf i) = qS (sOf i)) :=
  idle_word ((tabs m).atD 0 (k0_off1 i)) ((tabs m).atD 1 (k0_off1 i)) _ _ (w1_eq m i) (w3_eq m i)

theorem idle5_diag (i : grid0.Coords) (h : kS (sOf i) = qS (sOf i)) : idle0 (tabs m) 5 i = false := by
  rw [idle5, decide_eq_true h]; rfl
theorem idle5_off (i : grid0.Coords) (h : kS (sOf i) ≠ qS (sOf i)) : idle0 (tabs m) 5 i = true := by
  rw [idle5, decide_eq_false h]; rfl

/-! ## The body at a point -/

noncomputable abbrev msA (w : Fin (cfgA m).W) (t : Fin (cfgA m).N) := ((cfgA m).win w).stage ((cfgA m).slots t w)

/-- The body as the call spells it at a point. -/
noncomputable abbrev bodyAt (t : Fin (cfgA m).N) :=
  cc0_fox_attention (F := F) (grid0.coords t) (Memref.whole main_c) (Memref.isWhole_whole _) (Memref.whole main_c_0) (Memref.isWhole_whole _)
    (Memref.whole main_v44) (Memref.isWhole_whole _) (Memref.whole main_v45) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (Memref.whole cc0_scratch0) (Memref.isWhole_whole _) (Memref.whole cc0_scratch1) (Memref.isWhole_whole _)
    (Memref.whole cc0_scratch2) (Memref.isWhole_whole _)

theorem defs₀_row (t : Fin (cfgA m).N) :
    defs₀ (F := F) .tc (cfgA m).body ((cfgA m).bodyArgs t ((cfgA m).slots t)) = bodyAt m t := by
  unfold defs₀; rw [Defs.onTc_tc]

/-- A block of queries begins from the same state whatever was held before. -/
theorem stN_first (v1 v3 v10 : BitVec 32) (x6 x7 x8 : Vec F S1024x128 .bf16) (x9 x10 : Vec F S1x1x1024 .f32) (s s' : St F) (h : cI v3) :
    stN v1 v3 v10 x6 x7 x8 x9 x10 s = stN v1 v3 v10 x6 x7 x8 x9 x10 s' := by
  unfold stN stI; rw [if_pos h, if_pos h]

theorem stO_diag (v1 v3 : BitVec 32) (x11 : Vec F S1024x128 .bf16) (s : St F) (h : cD v1 v3) : stO v1 v3 x11 s = k0_pay8 s.2.2 s.2.1 := by
  unfold stO; rw [if_pos h]
theorem stO_off (v1 v3 : BitVec 32) (x11 : Vec F S1024x128 .bf16) (s : St F) (h : ¬ cD v1 v3) : stO v1 v3 x11 s = x11 := by
  unfold stO; rw [if_neg h]

theorem first_point : ∀ t : Fin grid0.N, t.val = 0 → kS (sOf (grid0.coords t)) = 0 := by
  decide +kernel

theorem step_eq (c : Dev nD) (t : Fin (cfgA m).N) (s : St F) (h : t.val ≠ 0 → s = stAt m c t.val) :
    stepN m c t s = stAt m c (t.val + 1) := by
  rw [stAt_succ]
  by_cases h0 : t.val = 0
  · unfold stepN w3
    rw [first_point t h0]
    exact stN_first _ _ _ _ _ _ _ _ _ _ ((cI_iff 0).2 rfl)
  · rw [h h0]

/-- What the output's buffer holds after a point: the block on the diagonal, what it held elsewhere. -/
noncomputable def leaves5 (c : Dev nD) (t : Fin (cfgA m).N) : sProp 𝕄 :=
  match (cfgA m).idle 5 ((cfgA m).grid.coords t) with
    | true => match ((cfgA m).win 5).flush t with
      | false => iprop(∃ d, owns (c : Thread nD τ) (msA m 5 t) fullShare ((dats m 0 c).before 5 t d))
      | true => owns (c : Thread nD τ) (msA m 5 t) fullShare ((dats m 0 c).after 5 t)
    | false => owns (c : Thread nD τ) (msA m 5 t) fullShare ((dats m 0 c).after 5 t)

theorem leaves5_eq (c : Dev nD) (t : Fin (cfgA m).N) (b : Bool) (hb : idle0 (tabs m) 5 (grid0.coords t) = b) :
    leaves5 m c t = match (generalizing := false) b with
    | true => match ((cfgA m).win 5).flush t with
      | false => iprop(∃ d, owns (c : Thread nD τ) (msA m 5 t) fullShare ((dats m 0 c).before 5 t d))
      | true => owns (c : Thread nD τ) (msA m 5 t) fullShare ((dats m 0 c).after 5 t)
    | false => owns (c : Thread nD τ) (msA m 5 t) fullShare ((dats m 0 c).after 5 t) := by
  subst hb; rfl

theorem leaves5_diag (c : Dev nD) (t : Fin (cfgA m).N) (h : kS (sOf (grid0.coords t)) = qS (sOf (grid0.coords t))) :
    leaves5 m c t = owns (c : Thread nD τ) (msA m 5 t) fullShare (outAt m c t) := by
  rw [leaves5_eq m c t false ((idle5 m _).trans (by rw [decide_eq_true h]; rfl)), after_5]

theorem leaves5_off (c : Dev nD) (t : Fin (cfgA m).N) (h : kS (sOf (grid0.coords t)) ≠ qS (sOf (grid0.coords t))) :
    leaves5 m c t = iprop(∃ d, owns (c : Thread nD τ) (msA m 5 t) fullShare ((dats m 0 c).before 5 t d)) := by
  rw [leaves5_eq m c t true ((idle5 m _).trans (by rw [decide_eq_false h]; rfl)), flush_off m t h]

theorem owns_congr {s : Shape} {e : EltTy} (c : Dev nD) (b : Memref sig .tc .vmem s e) (X Y : s.Idx → Elt F e) (h : X = Y) :
    (owns (c : Thread nD τ) b fullShare X : sProp 𝕄) ⊢ owns (c : Thread nD τ) b fullShare Y := by
  rw [h]

theorem sound_body (c : Dev nD) (t : Fin (cfgA m).N) :
    iprop((dats m 0 c).Φ t.castSucc ∗ (dats m 0 c).owesAt () t.castSucc
      ∗ (∃ d, owns (c : Thread nD τ) (msA m 0 t) fullShare ((dats m 0 c).before 0 t d))
      ∗ (∃ d, owns (c : Thread nD τ) (msA m 1 t) fullShare ((dats m 0 c).before 1 t d))
      ∗ (∃ d, owns (c : Thread nD τ) (msA m 2 t) fullShare ((dats m 0 c).before 2 t d))
      ∗ (∃ d, owns (c : Thread nD τ) (msA m 3 t) fullShare ((dats m 0 c).before 3 t d))
      ∗ (∃ d, owns (c : Thread nD τ) (msA m 4 t) fullShare ((dats m 0 c).before 4 t d))
      ∗ (∃ d, owns (c : Thread nD τ) (msA m 5 t) fullShare ((dats m 0 c).before 5 t d)))
    ⊢ wp frame (wpE (defs₀ (F := F)) Variants.none c none) Set.univ (bodyAt m t) fun _ =>
      iprop((dats m 0 c).Φ t.succ ∗ (dats m 0 c).owesAt () t.succ
        ∗ owns (c : Thread nD τ) (msA m 0 t) fullShare ((dats m 0 c).after 0 t)
        ∗ owns (c : Thread nD τ) (msA m 1 t) fullShare ((dats m 0 c).after 1 t)
        ∗ owns (c : Thread nD τ) (msA m 2 t) fullShare ((dats m 0 c).after 2 t)
        ∗ owns (c : Thread nD τ) (msA m 3 t) fullShare ((dats m 0 c).after 3 t)
        ∗ owns (c : Thread nD τ) (msA m 4 t) fullShare ((dats m 0 c).after 4 t)
        ∗ leaves5 m c t) := by
  simp only [before_0, before_1, before_2, before_3, before_4]
  rw [Φ_eq m c t.castSucc, Φ_eq m c t.succ, Fin.val_castSucc, Fin.val_succ,
    show (dats m 0 c).owesAt () t.succ = (dats m 0 c).owesAt () t.castSucc from rfl, after_0, after_1, after_2, after_3, after_4]
  unfold Inv
  iintro ⟨⟨%s, %hs, S0, S1, S2, Hp, T0, T1, T2, T3⟩, Ho, ⟨%d0, B0⟩, ⟨%d1, B1⟩, ⟨%d2, B2⟩, ⟨%d3, B3⟩, ⟨%d4, B4⟩, ⟨%d5, B5⟩⟩
  have hst := step_eq m c t s hs
  iapply (body_run (F := F) c Set.univ (grid0.coords t) _ _ _ _ _ _ _ _ _ _ _ _ _ _ _ _ _ _ _ _ _ _ _ _ _ _ (tabs m)
    (w1 (grid0.coords t)) (w3 (grid0.coords t)) (w10 m (grid0.coords t)) (w1_eq m _) (w3_eq m _) (w10_eq m _)
    (bq m c t) (bk m c t) (bv m c t) (bcq m c t) (bck m c t) ((dats m 0 c).before 5 t d5) s.1 s.2.1 s.2.2)
  isplitl [T0]; · iexact T0
  isplitl [T1]; · iexact T1
  isplitl [T2]; · iexact T2
  isplitl [B0]; · iexact B0
  isplitl [B1]; · iexact B1
  isplitl [B2]; · iexact B2
  isplitl [B3]; · iexact B3
  isplitl [B4]; · iexact B4
  isplitl [B5]; · iexact B5
  isplitl [S0]; · iexact S0
  isplitl [S1]; · iexact S1
  isplitl [S2]; · iexact S2
  iintro ⟨T0, T1, T2, B0, B1, B2, B3, B4, B5, S0, S1, S2⟩
  isplitl [S0 S1 S2 Hp T0 T1 T2 T3]
  · iexists (stepN m c t s)
    isplitr; · ipureintro; exact fun _ => hst
    isplitl [S0]; · iexact S0
    isplitl [S1]; · iexact S1
    isplitl [S2]; · iexact S2
    isplitl [Hp]; · iexact Hp
    isplitl [T0]; · iexact T0
    isplitl [T1]; · iexact T1
    isplitl [T2]; · iexact T2
    iexact T3
  isplitl [Ho]; · iexact Ho
  isplitl [B0]; · iexact B0
  isplitl [B1]; · iexact B1
  isplitl [B2]; · iexact B2
  isplitl [B3]; · iexact B3
  isplitl [B4]; · iexact B4
  by_cases hD : kS (sOf (grid0.coords t)) = qS (sOf (grid0.coords t))
  · rw [leaves5_diag m c t hD]
    have e : stO (w1 (grid0.coords t)) (w3 (grid0.coords t)) ((dats m 0 c).before 5 t d5) (stepN m c t s) = outAt m c t := by
      rw [hst]
      exact stO_diag _ _ _ _ ((cD_iff _ _).2 hD)
    iapply (owns_congr c _ _ _ e)
    iexact B5
  · rw [leaves5_off m c t hD]
    have e : stO (w1 (grid0.coords t)) (w3 (grid0.coords t)) ((dats m 0 c).before 5 t d5) (stepN m c t s) = (dats m 0 c).before 5 t d5 :=
      stO_off _ _ _ _ (fun h => hD ((cD_iff _ _).1 h))
    iexists d5
    iapply (owns_congr c _ _ _ e)
    iexact B5

set_option maxHeartbeats 2000000 in
theorem body_obligation (c : Dev nD) : BodyObligation (dats (F := F) m 0 c) (defs₀ (F := F)) Variants.none () Set.univ := fun t => by
  rw [bigSep_W0, bigSep_W0, defs₀_row]
  refine triple_restated (sound_body m c t) rfl (sep_mono .rfl (sep_mono .rfl (sep_mono .rfl (sep_mono .rfl (sep_mono .rfl (sep_mono .rfl (sep_mono .rfl .rfl))))))) fun _ => ?_
  refine sep_mono .rfl (sep_mono .rfl (sep_mono .rfl (sep_mono .rfl (sep_mono .rfl (sep_mono .rfl (sep_mono .rfl ?_))))))
  by_cases hD : kS (sOf (grid0.coords t)) = qS (sOf (grid0.coords t))
  · have hI : (cfgA m).idle 5 ((cfgA m).grid.coords t) = false := idle5_diag m (grid0.coords t) hD
    rw [leaves5_diag m c t hD, ← after_5]
    split
    · next h => exact absurd h Bool.false_ne_true
    split
    · next h => exact absurd (hI.symm.trans h) Bool.false_ne_true
    exact .rfl
  · have hI : (cfgA m).idle 5 ((cfgA m).grid.coords t) = true := idle5_off m (grid0.coords t) hD
    have hf : ((cfgA m).win 5).flush t = false := flush_off m t hD
    rw [leaves5_off m c t hD]
    split
    · next h => exact absurd h Bool.false_ne_true
    split
    · split
      · exact .rfl
      · next h => exact absurd (hf.symm.trans h) Bool.false_ne_true
    next h => exact absurd (h.symm.trans hI) Bool.false_ne_true

/-! ## The run and the frame -/

theorem tabs_at (c : Dev nD) (k : Fin 4) : V m c (pre0.ref k) = tabs m k := by
  obtain rfl : c = 0 := Subsingleton.elim _ _
  rfl

theorem table_owns (c : Dev nD) (b : Ref sig .tc) (f : Buf (Elt F) ((c : Thread nD τ).loc b)) :
    (((c : Thread nD τ).loc b) ↦{fullShare.right} f : sProp 𝕄) ⊢ owns (c : Thread nD τ) (Memref.whole b) fullShare.right f := by
  rw [owns_whole]

theorem Φ_in (c : Dev nD) : iprop(Pipeline.ΦA spec0 c ∗ Pipeline.ΦT pre0 (tabs m) c) ⊢ (Inv m c 0 : sProp 𝕄) := by
  unfold Pipeline.ΦA Pipeline.ΦT Pipeline.prefHeld Inv
  rw [scopedRest0_eq, bigSep_univ_eq_bigSepL [0, 1, 2, 3] (by decide) (by decide)]
  show iprop(_ ∗ (((c : Thread nD τ).loc main_c) ↦{fullShare.right} tabs m 0) ∗ (((c : Thread nD τ).loc main_c_0) ↦{fullShare.right} tabs m 1)
    ∗ (((c : Thread nD τ).loc main_v44) ↦{fullShare.right} tabs m 2) ∗ (((c : Thread nD τ).loc main_v45) ↦{fullShare.right} tabs m 3)) ⊢ _
  simp only [owns_whole]
  iintro ⟨⟨⟨⟨%f0, S0⟩, ⟨%f1, S1⟩, ⟨%f2, S2⟩⟩, Hp⟩, T0, T1, T2, T3⟩
  iexists (f0, f1, f2)
  isplitr; · ipureintro; exact fun h => absurd rfl h
  isplitl [S0]; · iexact S0
  isplitl [S1]; · iexact S1
  isplitl [S2]; · iexact S2
  isplitl [Hp]; · iexact Hp
  isplitl [T0]; · iapply (table_owns c main_c _); iexact T0
  isplitl [T1]; · iapply (table_owns c main_c_0 _); iexact T1
  isplitl [T2]; · iapply (table_owns c main_v44 _); iexact T2
  iapply (table_owns c main_v45 _); iexact T3

theorem Φ_out (c : Dev nD) (n : ℕ) : (Inv m c n : sProp 𝕄) ⊢ Pipeline.ΦA spec0 c := by
  unfold Pipeline.ΦA Inv
  rw [scopedRest0_eq]
  simp only [owns_whole]
  iintro ⟨%s, -, S0, S1, S2, Hp, -, -, -, -⟩
  isplitr [Hp]
  · isplitl [S0]; · iexists _; iexact S0
    isplitl [S1]; · iexists _; iexact S1
    iexists _; iexact S2
  iexact Hp

theorem hmain : Pipeline.HMainP (Ix := Unit) (Name := ℕ) (U := UR sig nD τ) (Lvl := ℕ) pcfgs 0 (defs₀ (F := F)) Variants.none m main (V m) := by
  refine Pipeline.hmainP_prefixes pcfgs 0 defs₀ Variants.none m main opss ?_ ?_ fun c => main_chain c
  · exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩
  · simp only [List.Forall]
    repeat' constructor

set_option maxHeartbeats 2000000 in
set_option backward.isDefEq.respectTransparency.types false in
theorem run_main_quiescent : θ_run defs (onTc (τ := τ) (main (F := F))) (s₀ m ρ)
    (fun r => (Pipeline.FramePost (Pipeline.pin pcfgs (fun _ => adm m)) (dats m) 0 (V m)) r ∧ r.2.sem = fun _ => 0) :=
  Pipeline.θ_run_frameP_track_shared (Q' := _) pcfgs (fun _ => adm m) (dats m) (0 : Fin 1) launch₀0 defs₀ Variants.none m ρ main
    (fun c => (body_obligation m c).loose) (fun _ _ _ => rfl) (fun _ _ => rfl) (V m) (hmain m) (A_eq m) (fun c k => tabs_at m c k)
    (fun c => Φ_in m c) (fun c => Φ_out m c _)

theorem run_main : θ_run defs (onTc (τ := τ) (main (F := F))) (s₀ m ρ) (Pipeline.FramePost (Pipeline.pin pcfgs (fun _ => adm m)) (dats m) 0 (V m)) :=
  (θ_run defs _ _).mono (fun _ h => h.1) (run_main_quiescent m ρ)

theorem windows_ne_arg1 : ∀ w : Fin 6, (spec0 w).arr.view.ref ≠ main_arg1 := by decide
theorem windows_ne_arg2 : ∀ w : Fin 6, (spec0 w).arr.view.ref ≠ main_arg2 := by decide

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) windows_ne_arg1)).trans (V_main_arg1 m c),
      ((h c).2 main_arg2 (Pipeline.mem_restRefs_of main_arg2 (by decide) windows_ne_arg2)).trans (V_main_arg2 m c)⟩) (run_main m ρ)

/-- The frame: every run terminates, the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Fox
-- ==== Proof.FoxMask.lean ====
module

public import proofs.«01_k».proof.Proof.Gen.ReferenceIdeal.Run
public import proofs.«01_k».proof.Proof.Gen.ReferenceIdeal.Read
public import Idealize.ShloMosaic.Lib.Pipeline.ValueKit
public import Idealize.ShloMosaic.Lib.WordCmp

@[expose] public section

set_option maxRecDepth 65536

namespace Cert.ReferenceIdeal.FoxRef

open Idealize.ShloMosaic Idealize.ShloMosaic.TcCoe Idealize.SL.Sem
open Cert.ReferenceIdeal Cert.ReferenceIdeal.Gen Cert.ReferenceIdeal.Read

variable (a0 : Vec Ideal S16384x5120 .bf16) (a1 : Vec Ideal S8x8192 .f32) (a2 : Vec Ideal S8x8x8 .i32)

/-- Head `b`'s entry `d` at position `p`, of the part of the projection that begins at column `col`. -/
noncomputable def hAt (col : ℕ) (hc : col + 512 ≤ 5120) (b : Fin 8) (p : Fin 8192) (d : Fin 128) : EReal :=
  a0 (ix2 (⟨b.val / 4 * 8192 + p.val, by omega⟩ : Fin 16384) (⟨col + (b.val % 4 * 128 + d.val), by omega⟩ : Fin 5120))

theorem q_at (b : Fin 8) (p : Fin 8192) (d : Fin 128) : val_main_v4 a0 (ix3 b p d) = hAt a0 3584 (by omega) b p d := by
  pointwise [val_main_v4, val_main_v3, val_main_v2, val_main_v1, val_main_v0, hAt]
theorem k_at (b : Fin 8) (p : Fin 8192) (d : Fin 128) : val_main_v10 a0 (ix3 b p d) = hAt a0 4096 (by omega) b p d := by
  pointwise [val_main_v10, val_main_v9, val_main_v8, val_main_v7, val_main_v0, hAt]
theorem v_at (b : Fin 8) (p : Fin 8192) (d : Fin 128) : val_main_v14 a0 (ix3 b p d) = hAt a0 4608 (by omega) b p d := by
  pointwise [val_main_v14, val_main_v13, val_main_v12, val_main_v11, val_main_v0, hAt]

/-- The scaled query at `p` times the key at `n`. -/
noncomputable def dotF (b : Fin 8) (p n : Fin 8192) : EReal :=
  ∑ x, hAt a0 3584 (by omega) b p x * Ideal.ofBits .f32 0x3DB504F3#32 * hAt a0 4096 (by omega) b n x

theorem score_at (b : Fin 8) (p n : Fin 8192) :
    val_main_v21 a0 a1 (ix3 b p n) = dotF a0 b p n + a1 (ix2 b p) - a1 (ix2 b n) := by
  have h : val_main_v21 a0 a1 (ix3 b p n) = ∑ x, val_main_v4 a0 (ix3 b p x) * Ideal.ofBits .f32 0x3DB504F3#32 * val_main_v10 a0 (ix3 b n x) + a1 (ix2 b p) - a1 (ix2 b n) := by
    pointwise [val_main_v21, val_main_v20, val_main_v19, val_main_v18, val_main_v17, val_main_v16, val_main_v15, val_main_v6, val_main_v5, val_main_cst]
  rw [h]
  unfold dotF
  simp only [q_at, k_at]

theorem ofNat_toInt (a : ℕ) (h : a < 8192) : (BitVec.ofNat 32 a).toInt = a := by
  rw [BitVec.toInt_eq_toNat_cond, BitVec.toNat_ofNat]
  omega

/-- The reference's floor division of a word by another. -/
def fdiv (x d : BitVec 32) : BitVec 32 := Scalar.select
  (IntOp.andi
    (IntOp.cmpi .ne (if x = 0 then 0 else if x.msb = true then -1 else 1 : BitVec 32) (if d = 0 then 0 else if d.msb = true then -1 else 1 : BitVec 32))
    (IntOp.cmpi .ne (IntOp.remsi .host x d) 0#32))
  (IntOp.subi (IntOp.divsi .host x d) 1#32)
  (IntOp.divsi .host x d)

theorem fdiv_block : ∀ p : Fin 8192, fdiv (BitVec.ofNat 32 p.val) 1024#32 = BitVec.ofNat 32 (p.val / 1024) := by
  decide +kernel

theorem blkq_at (p n : Fin 8192) : val_main_v28 (F := Ideal) (ix2 p n) = BitVec.ofNat 32 (p.val / 1024) := by
  have h : ∀ d : BitVec 32, d = id (constantI S_ 32 1024#32) ix0 → val_main_v28 (F := Ideal) (ix2 p n) = fdiv (BitVec.ofNat 32 p.val) d := by
    rintro d rfl
    pointwise [val_main_v28,val_main_v23, val_main_v22, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, fdiv]
  exact (h _ rfl).trans (fdiv_block p)
theorem blkk_at (p n : Fin 8192) : val_main_v29 (F := Ideal) (ix2 p n) = BitVec.ofNat 32 (n.val / 1024) := by
  have h : ∀ d : BitVec 32, d = id (constantI S_ 32 1024#32) ix0 → val_main_v29 (F := Ideal) (ix2 p n) = fdiv (BitVec.ofNat 32 n.val) d := by
    rintro d rfl
    pointwise [val_main_v29,val_main_v23, val_main_v22, val_main_c_0, val_main_call1_v0, val_main_call1_v1, val_main_call1_v2, val_main_call1_v3, val_main_call1_v4, val_main_call1_v5, val_main_call1_v6, val_main_call1_v7, val_main_call1_v8, val_main_call1_c, val_main_call1_v9, val_main_call1_v10, val_main_call1_v11, val_main_call1_c_0, val_main_call1_v12, val_main_call1_v13, fdiv]
  exact (h _ rfl).trans (fdiv_block n)

/-- Whether the query at `p` attends to the key at `n`. -/
def keep (b : Fin 8) (p n : Fin 8192) : Prop :=
  n.val ≤ p.val ∧ (p.val / 1024 = n.val / 1024 ∨ a2 (ix3 b (⟨p.val / 1024, by omega⟩ : Fin 8) (⟨n.val / 1024, by omega⟩ : Fin 8)) ≠ 0#32)

theorem and_iff : ∀ x y : BitVec 1, IntOp.andi x y = 1#1 ↔ x = 1#1 ∧ y = 1#1 := by decide
theorem or_iff : ∀ x y : BitVec 1, IntOp.ori x y = 1#1 ↔ x = 1#1 ∨ y = 1#1 := by decide
theorem bool_iff (p : Prop) [Decidable p] : BitVec.ofBool (decide p) = 1#1 ↔ p := by
  by_cases h : p <;> simp [h]
theorem ofNat_inj {x y : ℕ} (hx : x < 8192) (hy : y < 8192) : BitVec.ofNat 32 x = BitVec.ofNat 32 y ↔ x = y := by
  refine ⟨fun h => ?_, fun h => by rw [h]⟩
  have := congrArg BitVec.toNat h
  rw [BitVec.toNat_ofNat, BitVec.toNat_ofNat] at this
  omega

theorem keep_at (b : Fin 8) (p n : Fin 8192) : val_main_v38 (F := Ideal) a2 (ix3 b p n) = 1#1 ↔ keep a2 b p n := by
  have h : val_main_v38 (F := Ideal) a2 (ix3 b p n) = IntOp.andi (IntOp.cmpi .sge (BitVec.ofNat 32 p.val) (BitVec.ofNat 32 n.val))
      (IntOp.ori (IntOp.cmpi .eq (val_main_v28 (F := Ideal) (ix2 p n)) (val_main_v29 (F := Ideal) (ix2 p n)))
        (IntOp.cmpi .ne (a2 (ix3 b (⟨p.val / 1024, by omega⟩ : Fin 8) (⟨n.val / 1024, by omega⟩ : Fin 8))) 0#32)) := by
    pointwise [val_main_v38, val_main_v37, val_main_v36, val_main_v35, val_main_v34, val_main_v33, val_main_v32, val_main_v31, val_main_c_1, val_main_v30, val_main_v27, val_main_v26, val_main_v25, val_main_v24, val_main_v23, val_main_v22]
  rw [h, and_iff, or_iff, blkq_at, blkk_at, WordCmp.cmpi_sge_eq, WordCmp.cmpi_eq_eq, WordCmp.cmpi_ne_eq, bool_iff, bool_iff, bool_iff,
    ofNat_toInt _ p.isLt, ofNat_toInt _ n.isLt, ofNat_inj (by omega) (by omega)]
  exact and_congr_left fun _ => Int.ofNat_le

end Cert.ReferenceIdeal.FoxRef

end
-- ==== Proof.FoxRef.lean ====
module

public import proofs.«01_k».proof.Proof.FoxMask
public import proofs.«01_k».proof.Proof.Gen.ReferenceIdeal.Read
public import Idealize.ShloMosaic.Lib.Pipeline.ValueKit
public import Idealize.ShloMosaic.Lib.KernelVsHost

@[expose] public section

set_option maxRecDepth 65536

namespace Cert.ReferenceIdeal.FoxRef

open Idealize.ShloMosaic Idealize.ShloMosaic.TcCoe Idealize.SL.Sem
open Cert.ReferenceIdeal Cert.ReferenceIdeal.Gen Cert.ReferenceIdeal.Read

variable (a0 : Vec Ideal S16384x5120 .bf16) (a1 : Vec Ideal S8x8192 .f32) (a2 : Vec Ideal S8x8x8 .i32)

open Classical in
/-- The score of the key at `n` for the query at `p`, `⊥` where it is masked. -/
noncomputable def score (b : Fin 8) (p n : Fin 8192) : EReal :=
  if keep a2 b p n then dotF a0 b p n + a1 (ix2 b p) - a1 (ix2 b n) else ⊥

theorem neg_inf : Ideal.ofBits .f32 0xFF800000#32 = ⊥ := by simp [Ideal.ofBits, Ideal.ieee]

theorem masked_at (b : Fin 8) (p n : Fin 8192) : val_main_v39 a0 a1 a2 (ix3 b p n) = score a0 a1 a2 b p n := by
  have h : val_main_v39 a0 a1 a2 (ix3 b p n) = Scalar.select (val_main_v38 (F := Ideal) a2 (ix3 b p n)) (val_main_v21 a0 a1 (ix3 b p n)) (id (constant (F := Ideal) S_ .f32 0xFF800000#32) ix0) := by
    pointwise [val_main_v39, val_main_cst_2, val_main_call2_v0, val_main_call2_v1]
  rw [h, show (id (constant (F := Ideal) S_ .f32 0xFF800000#32) ix0 : EReal) = ⊥ from neg_inf, score_at]
  unfold score Scalar.select
  by_cases hk : keep a2 b p n
  · rw [if_pos hk]; exact if_pos ((keep_at a2 b p n).2 hk)
  · rw [if_neg hk]; exact if_neg fun hh => hk ((keep_at a2 b p n).1 hh)

theorem reduce_max (y : FVec Ideal S8x8192x8192 .f32) (b : Fin 8) (p : Fin 8192) :
    Host.reduce FloatOps.maximumf y (constant (F := Ideal) S_ .f32 0xFF800000#32) reducesTo_S8x8192x8192_S8x8192_d2 h_S_ (ix2 b p)
      = Finset.univ.sup fun n : Fin 8192 => y (ix3 b p n) := by
  have hr : S8x8192x8192.Reduces [2] S8x8192 := by decide
  refine (congrFun (hostReduce_maximumf_eq_multiReduction y 0xFF800000#32 reducesTo_S8x8192x8192_S8x8192_d2 h_S_ hr (by decide) (by decide)) (ix2 b p)).trans ?_
  rw [Ideal.multiReduction_maximumf_single, Ideal.ofBits_def, neg_inf]
  show Finset.fold max ⊥ _ _ = Finset.fold max ⊥ _ _
  refine Finset.fold_congr fun n _ => ?_
  exact congrArg y (funext fun a => Fin.ext (by match a with | ⟨0, _⟩ => rfl | ⟨1, _⟩ => rfl | ⟨2, _⟩ => rfl))

theorem rowmax_at (b : Fin 8) (p : Fin 8192) : val_main_v40 a0 a1 a2 (ix2 b p) = Finset.univ.sup (score a0 a1 a2 b p) := by
  have hs : ∀ n, val_main_v39 a0 a1 a2 (ix3 b p n) = score a0 a1 a2 b p n := masked_at a0 a1 a2 b p
  unfold val_main_v40 val_main_cst_3
  rw [reduce_max]
  exact congrArg (Finset.univ.sup) (funext hs)

theorem max_at (b : Fin 8) (p : Fin 8192) : val_main_v42 a0 a1 a2 (ix2 b p) = Finset.univ.sup (score a0 a1 a2 b p) := by
  rw [val_main_v42_apply, val_main_v41_apply, val_main_cst_4_apply, rowmax_at]
  generalize Finset.univ.sup (score a0 a1 a2 b p) = z
  rw [Ideal.ofBits_def, neg_inf]
  exact max_bot_left z

theorem weight_at (b : Fin 8) (p n : Fin 8192) :
    val_main_v46 a0 a1 a2 (ix3 b p n) = Ideal.exp (score a0 a1 a2 b p n - Finset.univ.sup (score a0 a1 a2 b p)) := by
  have h : val_main_v46 a0 a1 a2 (ix3 b p n) = Ideal.exp (val_main_v39 a0 a1 a2 (ix3 b p n) - val_main_v42 a0 a1 a2 (ix2 b p)) := by
    pointwise [val_main_v46, val_main_v45, val_main_v44, val_main_v43]
  rw [h, masked_at, max_at]

/-- The weight of the key at `n` for the query at `p`. -/
noncomputable def prob (b : Fin 8) (p n : Fin 8192) : EReal :=
  Ideal.div (Ideal.exp (score a0 a1 a2 b p n - Finset.univ.sup (score a0 a1 a2 b p)))
    (∑ k, Ideal.exp (score a0 a1 a2 b p k - Finset.univ.sup (score a0 a1 a2 b p)))

theorem prob_at (b : Fin 8) (p n : Fin 8192) : val_main_v50 a0 a1 a2 (ix3 b p n) = prob a0 a1 a2 b p n := by
  have h : val_main_v50 a0 a1 a2 (ix3 b p n) = Ideal.div (val_main_v46 a0 a1 a2 (ix3 b p n)) (∑ k, val_main_v46 a0 a1 a2 (ix3 b p k)) := by
    pointwise [val_main_v50, val_main_v49, val_main_v48, val_main_v47, val_main_cst_5]
  rw [h]
  unfold prob
  exact congrArg₂ Ideal.div (weight_at a0 a1 a2 b p n) (Finset.sum_congr rfl fun k _ => weight_at a0 a1 a2 b p k)

/-- The reference's result at row `r`, column `d`. -/
theorem result_at (r : Fin 16384) (d : Fin 512) :
    val_main_v55 a0 a1 a2 (ix2 r d) = ∑ n, prob a0 a1 a2 ⟨r.val / 8192 * 4 + d.val / 128, by omega⟩ ⟨r.val % 8192, by omega⟩ n
      * hAt a0 4608 (by omega) ⟨r.val / 8192 * 4 + d.val / 128, by omega⟩ n ⟨d.val % 128, by omega⟩ := by
  have h : val_main_v55 a0 a1 a2 (ix2 r d) = ∑ n, val_main_v50 a0 a1 a2 (ix3 (⟨r.val / 8192 * 4 + d.val / 128, by omega⟩ : Fin 8) (⟨r.val % 8192, by omega⟩ : Fin 8192) n)
      * val_main_v14 a0 (ix3 (⟨r.val / 8192 * 4 + d.val / 128, by omega⟩ : Fin 8) n (⟨d.val % 128, by omega⟩ : Fin 128)) := by
    pointwise [val_main_v55, val_main_v54, val_main_v53, val_main_v52, val_main_v51]
  rw [h]
  exact Finset.sum_congr rfl fun n _ => congrArg₂ (· * ·) (prob_at a0 a1 a2 _ _ n) (v_at a0 _ n _)

end Cert.ReferenceIdeal.FoxRef

end
-- ==== Proof.Softmax.lean ====
module

public import Idealize.ShloMosaic.Lib.Pipeline.ValueKit

@[expose] public section

/-! A softmax taken block by block: the running maximum, the running sum and the running weighted sum of the
blocks seen so far, in closed form, over the extended reals. A masked score is `⊥`, so a masked block changes nothing. -/

namespace Cert.Online

open Idealize.ShloMosaic

theorem exp_bot : Ideal.exp ⊥ = 0 := rfl
theorem exp_coe (r : ℝ) : Ideal.exp (r : EReal) = (Real.exp r : EReal) := rfl

theorem exp_nonneg (x : EReal) : 0 ≤ Ideal.exp x := by
  induction x with
  | bot => exact le_rfl
  | top => exact le_top
  | coe r => rw [exp_coe]; exact_mod_cast (Real.exp_pos r).le

theorem exp_ne_top {x : EReal} (h : x ≠ ⊤) : Ideal.exp x ≠ ⊤ := by
  induction x with
  | bot => rw [exp_bot]; exact EReal.zero_ne_top
  | top => exact absurd rfl h
  | coe r => rw [exp_coe]; exact EReal.coe_ne_top _

theorem sub_ne_top {x y M : EReal} (hx : x ≤ M) (hM : M ≤ y) (hy : y ≠ ⊤) : x - y ≠ ⊤ := by
  induction y with
  | bot => rw [le_bot_iff.1 (hx.trans hM)]; decide
  | top => exact absurd rfl hy
  | coe r =>
    induction x with
    | bot => rw [EReal.bot_sub]; exact bot_ne_top
    | top => exact absurd (top_le_iff.1 (hx.trans hM)) hy
    | coe s => rw [← EReal.coe_sub]; exact EReal.coe_ne_top _

/-- A weight taken against one maximum is rescaled to a later one. -/
theorem exp_shift {x M y : EReal} (hx : x ≤ M) (hM : M ≤ y) (hy : y ≠ ⊤) :
    Ideal.exp (M - y) * Ideal.exp (x - M) = Ideal.exp (x - y) := by
  induction M with
  | bot => rw [le_bot_iff.1 hx]; simp only [EReal.bot_sub, exp_bot, mul_zero]
  | top => exact absurd (top_le_iff.1 hM) hy
  | coe M =>
    induction y with
    | bot => exact absurd (le_bot_iff.1 hM) (EReal.coe_ne_bot M)
    | top => exact absurd rfl hy
    | coe y =>
      induction x with
      | bot => simp only [EReal.bot_sub, exp_bot, mul_zero]
      | top => exact absurd (top_le_iff.1 hx) (EReal.coe_ne_top M)
      | coe x =>
        rw [← EReal.coe_sub, ← EReal.coe_sub, ← EReal.coe_sub, exp_coe, exp_coe, exp_coe, ← EReal.coe_mul, ← Real.exp_add]
        congr 2; ring

theorem mul_sum {ι : Type} {c : EReal} (h0 : 0 ≤ c) (h1 : c ≠ ⊤) (s : Finset ι) (f : ι → EReal) :
    c * ∑ i ∈ s, f i = ∑ i ∈ s, c * f i := by
  classical
  induction s using Finset.induction with
  | empty => rw [Finset.sum_empty, Finset.sum_empty, mul_zero]
  | insert a s ha ih => rw [Finset.sum_insert ha, Finset.sum_insert ha, EReal.left_distrib_of_nonneg_of_ne_top h0 h1, ih]

variable {n : ℕ} (x v : ℕ → Fin n → EReal)

/-- The largest score of the first `K` blocks. -/
noncomputable def mx : ℕ → EReal
  | 0 => ⊥
  | K + 1 => max (mx K) (Finset.univ.sup (x K))
/-- The weights of the first `K` blocks, summed. -/
noncomputable def sm (K : ℕ) : EReal := ∑ a ∈ Finset.range K, ∑ j, Ideal.exp (x a j - mx x K)
/-- The values of the first `K` blocks, weighted and summed. -/
noncomputable def ac (K : ℕ) : EReal := ∑ a ∈ Finset.range K, ∑ j, Ideal.exp (x a j - mx x K) * v a j

theorem sm_zero : sm x 0 = 0 := rfl
theorem ac_zero : ac x v 0 = 0 := rfl

theorem mx_mono (K : ℕ) : mx x K ≤ mx x (K + 1) := le_max_left _ _

theorem le_mx {a K : ℕ} (h : a < K) (j : Fin n) : x a j ≤ mx x K := by
  induction K with
  | zero => exact absurd h (Nat.not_lt_zero _)
  | succ K ih =>
    rcases Nat.lt_succ_iff_lt_or_eq.1 h with h | rfl
    · exact (ih h).trans (mx_mono x K)
    · exact (Finset.le_sup (f := x a) (Finset.mem_univ j)).trans (le_max_right _ _)

theorem mx_le {K : ℕ} {c : EReal} (h : ∀ a, a < K → ∀ j, x a j ≤ c) : mx x K ≤ c := by
  induction K with
  | zero => exact bot_le
  | succ K ih =>
    exact max_le (ih fun a ha j => h a (Nat.lt_succ_of_lt ha) j) (Finset.sup_le fun j _ => h K (Nat.lt_succ_self K) j)

variable {x}

theorem mx_ne_top (hx : ∀ a j, x a j ≠ ⊤) (K : ℕ) : mx x K ≠ ⊤ := by
  induction K with
  | zero => exact bot_ne_top
  | succ K ih =>
    refine (max_lt (lt_top_iff_ne_top.2 ih) ((Finset.sup_lt_iff (bot_lt_top)).2 fun j _ => lt_top_iff_ne_top.2 (hx K j))).ne

theorem shift_ne_top (hx : ∀ a j, x a j ≠ ⊤) (K : ℕ) : Ideal.exp (mx x K - mx x (K + 1)) ≠ ⊤ :=
  exp_ne_top (sub_ne_top le_rfl (mx_mono x K) (mx_ne_top hx _))

theorem sm_succ (hx : ∀ a j, x a j ≠ ⊤) (K : ℕ) :
    sm x (K + 1) = Ideal.exp (mx x K - mx x (K + 1)) * sm x K + ∑ j, Ideal.exp (x K j - mx x (K + 1)) := by
  unfold sm
  rw [Finset.sum_range_succ, mul_sum (exp_nonneg _) (shift_ne_top hx K)]
  refine congrArg (· + _) (Finset.sum_congr rfl fun a ha => ?_)
  rw [mul_sum (exp_nonneg _) (shift_ne_top hx K)]
  exact Finset.sum_congr rfl fun j _ => (exp_shift (le_mx x (Finset.mem_range.1 ha) j) (mx_mono x K) (mx_ne_top hx _)).symm

theorem ac_succ (hx : ∀ a j, x a j ≠ ⊤) (K : ℕ) :
    ac x v (K + 1) = Ideal.exp (mx x K - mx x (K + 1)) * ac x v K + ∑ j, Ideal.exp (x K j - mx x (K + 1)) * v K j := by
  unfold ac
  rw [Finset.sum_range_succ, mul_sum (exp_nonneg _) (shift_ne_top hx K)]
  refine congrArg (· + _) (Finset.sum_congr rfl fun a ha => ?_)
  rw [mul_sum (exp_nonneg _) (shift_ne_top hx K)]
  refine Finset.sum_congr rfl fun j _ => ?_
  rw [← mul_assoc, exp_shift (le_mx x (Finset.mem_range.1 ha) j) (mx_mono x K) (mx_ne_top hx _)]

/-- A masked block changes nothing. -/
theorem masked {K : ℕ} (h : ∀ j, x K j = ⊥) : mx x (K + 1) = mx x K ∧ sm x (K + 1) = sm x K ∧ ac x v (K + 1) = ac x v K := by
  have hm : mx x (K + 1) = mx x K := by
    refine max_eq_left ((Finset.sup_le fun j _ => ?_).trans bot_le)
    rw [h j]
  refine ⟨hm, ?_, ?_⟩
  · unfold sm
    rw [Finset.sum_range_succ, hm]
    simp only [h, EReal.bot_sub, exp_bot, Finset.sum_const_zero, add_zero]
  · unfold ac
    rw [Finset.sum_range_succ, hm]
    simp only [h, EReal.bot_sub, exp_bot, zero_mul, Finset.sum_const_zero, add_zero]

theorem masked_from {K N : ℕ} (hN : K ≤ N) (h : ∀ a, K ≤ a → ∀ j, x a j = ⊥) :
    mx x N = mx x K ∧ sm x N = sm x K ∧ ac x v N = ac x v K := by
  induction N, hN using Nat.le_induction with
  | base => exact ⟨rfl, rfl, rfl⟩
  | succ N hN ih =>
    have := masked v (h N hN)
    exact ⟨this.1.trans ih.1, this.2.1.trans ih.2.1, this.2.2.trans ih.2.2⟩

/-! Scores shifted by a real number: the maximum shifts, the weights do not change. -/

theorem add_sub_add (a M : EReal) (δ : ℝ) (h : a ≤ M) (hM : M ≠ ⊤) : (a + δ) - (M + δ) = a - M := by
  induction a with
  | bot => simp only [EReal.bot_add, EReal.bot_sub]
  | top => exact absurd (top_le_iff.1 h) hM
  | coe a =>
    induction M with
    | bot => exact absurd (le_bot_iff.1 h) (EReal.coe_ne_bot a)
    | top => exact absurd rfl hM
    | coe M =>
      rw [← EReal.coe_add, ← EReal.coe_add, ← EReal.coe_sub, ← EReal.coe_sub]
      congr 1; ring

theorem add_ne_top' {a : EReal} (δ : ℝ) (h : a ≠ ⊤) : a + (δ : EReal) ≠ ⊤ := EReal.add_ne_top h (EReal.coe_ne_top δ)

theorem sup_add (f : Fin n → EReal) (δ : ℝ) : Finset.univ.sup (fun j => f j + (δ : EReal)) = Finset.univ.sup f + δ := by
  refine (Finset.comp_sup_eq_sup_comp (s := Finset.univ) (f := f) (fun a : EReal => a + δ) (fun a b => ?_) (EReal.bot_add _)).symm
  exact (Monotone.map_sup (fun a b hab => add_le_add hab le_rfl : Monotone fun a : EReal => a + δ) a b)

variable {v} {y : ℕ → Fin n → EReal}

theorem mx_add (δ : ℝ) (hy : ∀ a j, y a j = x a j + δ) (K : ℕ) : mx y K = mx x K + δ := by
  induction K with
  | zero => exact (EReal.bot_add _).symm
  | succ K ih =>
    show max (mx y K) (Finset.univ.sup (y K)) = max (mx x K) (Finset.univ.sup (x K)) + δ
    rw [ih, show y K = fun j => x K j + (δ : EReal) from funext (hy K), sup_add]
    exact (Monotone.map_max (fun a b hab => add_le_add hab le_rfl : Monotone fun a : EReal => a + (δ : EReal))).symm

theorem inv_ne_top (a : EReal) : a⁻¹ ≠ ⊤ := by
  induction a with
  | bot => rw [EReal.inv_bot]; exact EReal.zero_ne_top
  | top => rw [EReal.inv_top]; exact EReal.zero_ne_top
  | coe r => rw [← EReal.coe_inv]; exact EReal.coe_ne_top _

/-- The block-by-block softmax of shifted scores is the softmax of the scores. -/
theorem softmax (hx : ∀ a j, x a j ≠ ⊤) (δ : ℝ) (hy : ∀ a j, y a j = x a j + δ) (K : ℕ)
    (hr : ∃ a, a < K ∧ ∃ j, x a j ≠ ⊥) :
    Ideal.div (ac y v K) (sm y K) = ∑ a ∈ Finset.range K, ∑ j, Ideal.div (Ideal.exp (x a j - mx x K)) (sm x K) * v a j := by
  have hs : ∀ a ∈ Finset.range K, ∀ j, y a j - mx y K = x a j - mx x K := fun a ha j => by
    rw [hy, mx_add δ hy, add_sub_add _ _ _ (le_mx x (Finset.mem_range.1 ha) j) (mx_ne_top hx K)]
  have hsm : sm y K = sm x K := Finset.sum_congr rfl fun a ha => Finset.sum_congr rfl fun j _ => by rw [hs a ha j]
  have hac : ac y v K = ac x v K := Finset.sum_congr rfl fun a ha => Finset.sum_congr rfl fun j _ => by rw [hs a ha j]
  have hnn : ∀ a ∈ Finset.range K, 0 ≤ ∑ j, Ideal.exp (x a j - mx x K) := fun a _ => Finset.sum_nonneg fun j _ => exp_nonneg _
  have hpos : sm x K ≠ 0 := by
    obtain ⟨a, ha, j, hj⟩ := hr
    have h1 : Ideal.exp (x a j - mx x K) ≤ sm x K :=
      (Finset.single_le_sum (f := fun j => Ideal.exp (x a j - mx x K)) (fun j _ => exp_nonneg _) (Finset.mem_univ j)).trans
        (Finset.single_le_sum (f := fun a => ∑ j, Ideal.exp (x a j - mx x K)) hnn (Finset.mem_range.2 ha))
    have h2 : 0 < Ideal.exp (x a j - mx x K) := by
      have hle := le_mx x ha j
      have ht := mx_ne_top hx K
      have hxt := hx a j
      generalize x a j = p at *
      generalize mx x K = q at *
      induction p with
      | bot => exact absurd rfl hj
      | top => exact absurd rfl hxt
      | coe p =>
        induction q with
        | bot => exact absurd (le_bot_iff.1 hle) (EReal.coe_ne_bot p)
        | top => exact absurd rfl ht
        | coe q => rw [← EReal.coe_sub, exp_coe]; exact_mod_cast Real.exp_pos _
    exact (h2.trans_le h1).ne'
  have hinv : 0 ≤ (sm x K)⁻¹ := EReal.inv_nonneg_of_nonneg (Finset.sum_nonneg hnn)
  rw [hsm, hac]
  have hd : ∀ z, Ideal.div z (sm x K) = (sm x K)⁻¹ * z := fun z => by
    unfold Ideal.div; rw [if_neg hpos, mul_comm]
  rw [hd]
  unfold ac
  rw [mul_sum hinv (inv_ne_top _)]
  refine Finset.sum_congr rfl fun a _ => ?_
  rw [mul_sum hinv (inv_ne_top _)]
  refine Finset.sum_congr rfl fun j _ => ?_
  rw [hd, mul_assoc]

/-! Blocks of a row of scores. -/

theorem sum_blocks {K N : ℕ} (hN : N = K * n) (f : Fin N → EReal) (g : ℕ → Fin n → EReal)
    (h : ∀ a, a < K → ∀ (j : Fin n) (hj : n * a + j.val < N), g a j = f ⟨n * a + j.val, hj⟩) :
    ∑ i, f i = ∑ a ∈ Finset.range K, ∑ j, g a j := by
  subst hN
  rw [Finset.sum_range, ← Fintype.sum_prod_type', ← finProdFinEquiv.sum_comp]
  refine Finset.sum_congr rfl fun p _ => ?_
  have e : n * p.1.val + p.2.val = (finProdFinEquiv p).val := by
    rw [finProdFinEquiv_apply_val, Nat.add_comm]
  rw [h p.1.val p.1.isLt p.2 (e ▸ (finProdFinEquiv p).isLt)]
  exact congrArg f (Fin.ext e.symm)

theorem sup_blocks {K N : ℕ} (hn : 0 < n) (hN : N = K * n) (f : Fin N → EReal) (g : ℕ → Fin n → EReal)
    (h : ∀ a, a < K → ∀ (j : Fin n) (hj : n * a + j.val < N), g a j = f ⟨n * a + j.val, hj⟩) :
    Finset.univ.sup f = mx g K := by
  subst hN
  refine le_antisymm (Finset.sup_le fun i _ => ?_) (mx_le g fun a ha j => ?_)
  · have ha : i.val / n < K := Nat.div_lt_of_lt_mul (i.isLt.trans_eq (Nat.mul_comm K n))
    have e : n * (i.val / n) + i.val % n = i.val := Nat.div_add_mod _ _
    have := h (i.val / n) ha ⟨i.val % n, Nat.mod_lt _ hn⟩ (by show n * (i.val / n) + i.val % n < _; rw [e]; exact i.isLt)
    have e2 : f i = g (i.val / n) ⟨i.val % n, Nat.mod_lt _ hn⟩ := by rw [this]; exact congrArg f (Fin.ext e.symm)
    rw [e2]; exact le_mx g ha _
  · have hj : n * a + j.val < K * n := by
      have := j.isLt
      calc n * a + j.val < n * a + n := by omega
        _ = (a + 1) * n := by ring
        _ ≤ K * n := Nat.mul_le_mul_right _ ha
    rw [h a ha j hj]; exact Finset.le_sup (f := f) (Finset.mem_univ _)

end Cert.Online

end
-- ==== Proof.FoxScore.lean ====
module

public import proofs.«01_k».proof.Proof.FoxRef
public import proofs.«01_k».proof.Proof.Softmax

@[expose] public section

set_option maxRecDepth 16384

/-! A row of scores block by block, as the kernel meets it: shifted by a real number, masked from the diagonal on. -/

namespace Cert.ReferenceIdeal.FoxRef

open Idealize.ShloMosaic Idealize.ShloMosaic.TcCoe Idealize.SL.Sem
open Cert.ReferenceIdeal Cert.Online

variable (a0 : Vec Ideal S16384x5120 .bf16) (a1 : Vec Ideal S8x8192 .f32) (a2 : Vec Ideal S8x8x8 .i32)

/-- Queries, keys and cumulative gates are real numbers. -/
structure IsReal : Prop where
  q : ∀ b p d, ∃ r : ℝ, hAt a0 3584 (by omega) b p d = r
  k : ∀ b p d, ∃ r : ℝ, hAt a0 4096 (by omega) b p d = r
  c : ∀ (b : Fin 8) (p : Fin 8192), ∃ r : ℝ, a1 (ix2 b p) = r

/-- Position `j` of block `a`. -/
def at8 (a : ℕ) (h : a < 8) (j : Fin 1024) : Fin 8192 := ⟨1024 * a + j.val, by omega⟩

/-- The row of scores of the query at `p`, in blocks of 1024. -/
noncomputable def xs (b : Fin 8) (p : Fin 8192) (a : ℕ) (j : Fin 1024) : EReal :=
  if h : a < 8 then score a0 a1 a2 b p (at8 a h j) else ⊥
/-- A column of values, in blocks of 1024. -/
noncomputable def vs (b : Fin 8) (d : Fin 128) (a : ℕ) (j : Fin 1024) : EReal :=
  if h : a < 8 then hAt a0 4608 (by omega) b (at8 a h j) d else 0

/-- How far the kernel's scores of row `r` of block `Q` lie from the reference's. -/
noncomputable def gap (b Q : Fin 8) (r : Fin 1024) : ℝ :=
  (a1 (ix2 b (at8 Q.val Q.isLt 0)) : EReal).toReal - (a1 (ix2 b (at8 Q.val Q.isLt r)) : EReal).toReal
/-- The kernel's scores of row `r` of block `Q`. -/
noncomputable def ys (b Q : Fin 8) (r : Fin 1024) (a : ℕ) (j : Fin 1024) : EReal :=
  xs a0 a1 a2 b (at8 Q.val Q.isLt r) a j + (gap a1 b Q r : EReal)

theorem scale_real : ∃ r : ℝ, Ideal.ofBits .f32 0x3DB504F3#32 = r := by
  simp [Ideal.ofBits, Ideal.ieee]
  exact ⟨_, (EReal.coe_mul _ _).symm⟩

theorem sum_real {ι : Type} (s : Finset ι) (f : ι → EReal) (h : ∀ i, ∃ r : ℝ, f i = r) : ∃ r : ℝ, ∑ i ∈ s, f i = r := by
  classical
  induction s using Finset.induction with
  | empty => exact ⟨0, by rw [Finset.sum_empty]; rfl⟩
  | insert i s hi ih =>
    obtain ⟨x, hx⟩ := ih
    obtain ⟨y, hy⟩ := h i
    exact ⟨y + x, by rw [Finset.sum_insert hi, hx, hy, EReal.coe_add]⟩

variable {a0 a1} (H : IsReal a0 a1)

include H in
theorem dot_real (b : Fin 8) (p n : Fin 8192) : ∃ r : ℝ, dotF a0 b p n = r := by
  refine sum_real _ _ fun x => ?_
  obtain ⟨u, hu⟩ := H.q b p x
  obtain ⟨s, hs⟩ := scale_real
  obtain ⟨w, hw⟩ := H.k b n x
  exact ⟨u * s * w, by rw [hu, hs, hw, EReal.coe_mul, EReal.coe_mul]⟩

theorem score_keep (b : Fin 8) (p n : Fin 8192) (h : keep a2 b p n) : score a0 a1 a2 b p n = dotF a0 b p n + a1 (ix2 b p) - a1 (ix2 b n) := if_pos h
theorem score_drop (b : Fin 8) (p n : Fin 8192) (h : ¬ keep a2 b p n) : score a0 a1 a2 b p n = ⊥ := if_neg h

include H in
theorem score_real (b : Fin 8) (p n : Fin 8192) (h : keep a2 b p n) : ∃ r : ℝ, score a0 a1 a2 b p n = r := by
  obtain ⟨d, hd⟩ := dot_real H b p n
  obtain ⟨u, hu⟩ := H.c b p
  obtain ⟨w, hw⟩ := H.c b n
  exact ⟨d + u - w, by rw [score_keep a2 b p n h, hd, hu, hw, EReal.coe_sub, EReal.coe_add]⟩

include H in
theorem xs_ne_top (b : Fin 8) (p : Fin 8192) (a : ℕ) (j : Fin 1024) : xs a0 a1 a2 b p a j ≠ ⊤ := by
  unfold xs
  by_cases h : a < 8
  · rw [dif_pos h]
    by_cases hk : keep a2 b p (at8 a h j)
    · obtain ⟨r, hr⟩ := score_real a2 H b p _ hk
      rw [hr]; exact EReal.coe_ne_top r
    · rw [score_drop a2 b p _ hk]; exact bot_ne_top
  · rw [dif_neg h]; exact bot_ne_top

include H in
theorem ys_ne_top (b Q : Fin 8) (r : Fin 1024) (a : ℕ) (j : Fin 1024) : ys a0 a1 a2 b Q r a j ≠ ⊤ :=
  add_ne_top' _ (xs_ne_top a2 H b _ a j)

include H in
/-- A kept key's score, as the kernel computes it. -/
theorem ys_keep (b Q K : Fin 8) (r j : Fin 1024) (h : keep a2 b (at8 Q.val Q.isLt r) (at8 K.val K.isLt j)) :
    ys a0 a1 a2 b Q r K.val j = dotF a0 b (at8 Q.val Q.isLt r) (at8 K.val K.isLt j)
      + (a1 (ix2 b (at8 Q.val Q.isLt 0)) - a1 (ix2 b (at8 K.val K.isLt j))) := by
  unfold ys xs gap
  rw [dif_pos K.isLt, score_keep a2 b _ _ h]
  obtain ⟨d, hd⟩ := dot_real H b (at8 Q.val Q.isLt r) (at8 K.val K.isLt j)
  obtain ⟨u, hu⟩ := H.c b (at8 Q.val Q.isLt r)
  obtain ⟨u0, hu0⟩ := H.c b (at8 Q.val Q.isLt 0)
  obtain ⟨w, hw⟩ := H.c b (at8 K.val K.isLt j)
  rw [hd, hu, hu0, hw, EReal.toReal_coe, EReal.toReal_coe, ← EReal.coe_add, ← EReal.coe_sub, ← EReal.coe_sub, ← EReal.coe_add, ← EReal.coe_add]
  exact congrArg _ (by ring)

theorem ys_drop (b Q K : Fin 8) (r j : Fin 1024) (h : ¬ keep a2 b (at8 Q.val Q.isLt r) (at8 K.val K.isLt j)) :
    ys a0 a1 a2 b Q r K.val j = ⊥ := by
  unfold ys xs
  rw [dif_pos K.isLt, score_drop a2 b _ _ h, EReal.bot_add]

theorem ys_after (b Q : Fin 8) (r : Fin 1024) (a : ℕ) (ha : Q.val + 1 ≤ a) (j : Fin 1024) : ys a0 a1 a2 b Q r a j = ⊥ := by
  by_cases h : a < 8
  · refine ys_drop a2 b Q ⟨a, h⟩ r j fun hk => ?_
    have h1 : 1024 * a + j.val ≤ 1024 * Q.val + r.val := hk.1
    omega
  · unfold ys xs
    rw [dif_neg h, EReal.bot_add]

include H in
/-- What the kernel makes of a row is the reference's row. -/
theorem row_eq (b Q : Fin 8) (r : Fin 1024) (d : Fin 128) :
    Ideal.div (ac (ys a0 a1 a2 b Q r) (vs a0 b d) (Q.val + 1)) (sm (ys a0 a1 a2 b Q r) (Q.val + 1))
      = ∑ n, prob a0 a1 a2 b (at8 Q.val Q.isLt r) n * hAt a0 4608 (by omega) b n d := by
  obtain ⟨-, h2, h3⟩ := masked_from (x := ys a0 a1 a2 b Q r) (v := vs a0 b d) (K := Q.val + 1) (N := 8) Q.isLt
    (fun a ha j => ys_after a2 b Q r a ha j)
  rw [← h2, ← h3]
  have hkeep : keep a2 b (at8 Q.val Q.isLt r) (at8 Q.val Q.isLt r) := ⟨le_rfl, .inl rfl⟩
  rw [softmax (x := xs a0 a1 a2 b (at8 Q.val Q.isLt r)) (y := ys a0 a1 a2 b Q r) (fun a j => xs_ne_top a2 H b _ a j) (gap a1 b Q r) (fun a j => rfl) 8
    ⟨Q.val, Q.isLt, r, by
      unfold xs; rw [dif_pos Q.isLt]
      obtain ⟨s, hs⟩ := score_real a2 H b _ _ hkeep
      rw [hs]; exact EReal.coe_ne_bot s⟩]
  have hx : ∀ a, a < 8 → ∀ (j : Fin 1024) (hj : 1024 * a + j.val < 8192), xs a0 a1 a2 b (at8 Q.val Q.isLt r) a j
      = score a0 a1 a2 b (at8 Q.val Q.isLt r) ⟨1024 * a + j.val, hj⟩ := fun a ha j hj => dif_pos ha
  have hm := sup_blocks (by omega) (by omega : 8192 = 8 * 1024) (score a0 a1 a2 b (at8 Q.val Q.isLt r)) _ hx
  have hs : ∑ n, Ideal.exp (score a0 a1 a2 b (at8 Q.val Q.isLt r) n - Finset.univ.sup (score a0 a1 a2 b (at8 Q.val Q.isLt r)))
      = sm (xs a0 a1 a2 b (at8 Q.val Q.isLt r)) 8 := by
    rw [hm]
    exact sum_blocks (by omega : 8192 = 8 * 1024) _ _ fun a ha j hj => by rw [hx a ha j hj]
  symm
  refine sum_blocks (by omega : 8192 = 8 * 1024) _ _ fun a ha j hj => ?_
  unfold prob
  rw [hs, hm, hx a ha j hj]
  exact congrArg _ (dif_pos ha)

end Cert.ReferenceIdeal.FoxRef

end
-- ==== Proof.FoxBlocks.lean ====
module

public import proofs.«01_k».proof.Proof.FoxFrame
public import proofs.«01_k».proof.Proof.FoxScore
public import Idealize.ShloMosaic.Lib.Pipeline.ValueKit

@[expose] public section

set_option maxRecDepth 16384
set_option maxHeartbeats 2000000

/-! The blocks a grid point reads and writes, at coordinates of the arrays. -/

namespace Cert.KernelIdeal.Fox

open Cert.KernelIdeal Cert.KernelIdeal.Gen
open Idealize.ShloMosaic Idealize.ShloMosaic.TcCoe Idealize.SL.Sem
open Idealize.ShloMosaic.Pipeline (Dat)
open Cert.ReferenceIdeal.FoxRef (hAt at8)

variable (m : (ℓ : Loc nD τ sig) → Buf (Elt Ideal) ℓ) (c : Dev nD) (t : Fin (cfgA m).N)

/-- A grid point's pair of batch and head, its block of queries and its block of keys, and the block of keys it fetches. -/
noncomputable abbrev bP : Fin 8 := bOf (grid0.coords t)
@[inherit_doc bP] noncomputable abbrev qP : Fin 8 := qS (sOf (grid0.coords t))
@[inherit_doc bP] noncomputable abbrev kP : Fin 8 := kS (sOf (grid0.coords t))
@[inherit_doc bP] noncomputable abbrev eP : Fin 8 := kE m (bOf (grid0.coords t)) (sOf (grid0.coords t))

theorem idx0 (a : Fin 2) : ((cfgA m).win 0).index t a = (![(bP m t).val / 4 * 8 + (qP m t).val, 28 + (bP m t).val % 4] : Fin 2 → ℕ) a :=
  congrFun (tr0_eq m (grid0.coords t)) a
theorem idx1 (a : Fin 2) : ((cfgA m).win 1).index t a = (![(bP m t).val / 4 * 8 + (eP m t).val, 32 + (bP m t).val % 4] : Fin 2 → ℕ) a :=
  congrFun (tr1_eq m (grid0.coords t)) a
theorem idx2 (a : Fin 2) : ((cfgA m).win 2).index t a = (![(bP m t).val / 4 * 8 + (eP m t).val, 36 + (bP m t).val % 4] : Fin 2 → ℕ) a :=
  congrFun (tr2_eq m (grid0.coords t)) a
theorem idx3 (a : Fin 3) : ((cfgA m).win 3).index t a = (![(bP m t).val, 0, (qP m t).val] : Fin 3 → ℕ) a :=
  congrFun (tr3_eq m (grid0.coords t)) a
theorem idx4 (a : Fin 3) : ((cfgA m).win 4).index t a = (![(bP m t).val, 0, (eP m t).val] : Fin 3 → ℕ) a :=
  congrFun (tr4_eq m (grid0.coords t)) a
theorem idx5 (a : Fin 2) : ((cfgA m).win 5).index t a = (![(bP m t).val / 4 * 8 + (qP m t).val, (bP m t).val % 4] : Fin 2 → ℕ) a :=
  congrFun (tr5_eq m (grid0.coords t)) a

theorem bq_at (r : Fin 1024) (x : Fin 128) : bq m c t (ix2 r x)
    = hAt (m (c, main_arg0)) 3584 (by omega) (bP m t) (at8 (qP m t).val (qP m t).isLt r) x := by
  unfold hAt
  rw [← V_main_arg0 m c]
  show V m c main_arg0 ((((cfgA m).win 0).blk t).view.emb (ix2 r x)) = _
  refine congrArg (V m c main_arg0) (funext fun a => Fin.ext ?_)
  blk_simp
  match a with
  | ⟨0, _⟩ =>
    refine (congrArg (fun z => z * 1024 + r.val) (idx0 m t 0)).trans ?_
    show ((bP m t).val / 4 * 8 + (qP m t).val) * 1024 + r.val = (bP m t).val / 4 * 8192 + (1024 * (qP m t).val + r.val)
    omega
  | ⟨1, _⟩ =>
    refine (congrArg (fun z => z * 128 + x.val) (idx0 m t 1)).trans ?_
    show (28 + (bP m t).val % 4) * 128 + x.val = 3584 + ((bP m t).val % 4 * 128 + x.val)
    omega

theorem bk_at (r : Fin 1024) (x : Fin 128) : bk m c t (ix2 r x)
    = hAt (m (c, main_arg0)) 4096 (by omega) (bP m t) (at8 (eP m t).val (eP m t).isLt r) x := by
  unfold hAt
  rw [← V_main_arg0 m c]
  show V m c main_arg0 ((((cfgA m).win 1).blk t).view.emb (ix2 r x)) = _
  refine congrArg (V m c main_arg0) (funext fun a => Fin.ext ?_)
  blk_simp
  match a with
  | ⟨0, _⟩ =>
    refine (congrArg (fun z => z * 1024 + r.val) (idx1 m t 0)).trans ?_
    show ((bP m t).val / 4 * 8 + (eP m t).val) * 1024 + r.val = (bP m t).val / 4 * 8192 + (1024 * (eP m t).val + r.val)
    omega
  | ⟨1, _⟩ =>
    refine (congrArg (fun z => z * 128 + x.val) (idx1 m t 1)).trans ?_
    show (32 + (bP m t).val % 4) * 128 + x.val = 4096 + ((bP m t).val % 4 * 128 + x.val)
    omega

theorem bv_at (r : Fin 1024) (x : Fin 128) : bv m c t (ix2 r x)
    = hAt (m (c, main_arg0)) 4608 (by omega) (bP m t) (at8 (eP m t).val (eP m t).isLt r) x := by
  unfold hAt
  rw [← V_main_arg0 m c]
  show V m c main_arg0 ((((cfgA m).win 2).blk t).view.emb (ix2 r x)) = _
  refine congrArg (V m c main_arg0) (funext fun a => Fin.ext ?_)
  blk_simp
  match a with
  | ⟨0, _⟩ =>
    refine (congrArg (fun z => z * 1024 + r.val) (idx2 m t 0)).trans ?_
    show ((bP m t).val / 4 * 8 + (eP m t).val) * 1024 + r.val = (bP m t).val / 4 * 8192 + (1024 * (eP m t).val + r.val)
    omega
  | ⟨1, _⟩ =>
    refine (congrArg (fun z => z * 128 + x.val) (idx2 m t 1)).trans ?_
    show (36 + (bP m t).val % 4) * 128 + x.val = 4608 + ((bP m t).val % 4 * 128 + x.val)
    omega

theorem bcq_at (j : Fin 1024) : bcq m c t (ix3 (0 : Fin 1) (0 : Fin 1) j)
    = m (c, main_arg1) (ix2 (bP m t) (at8 (qP m t).val (qP m t).isLt j)) := by
  show V m c main_v2 ((((cfgA m).win 3).blk t).view.emb (ix3 (0 : Fin 1) (0 : Fin 1) j)) = _
  have he : (((cfgA m).win 3).blk t).view.emb (ix3 (0 : Fin 1) (0 : Fin 1) j)
      = (ix3 (bP m t) (0 : Fin 1) (at8 (qP m t).val (qP m t).isLt j) : S8x1x8192.Idx) := by
    refine funext fun a => Fin.ext ?_
    blk_simp
    match a with
    | ⟨0, _⟩ =>
      refine (congrArg (fun z => z * 1 + 0) (idx3 m t 0)).trans ?_
      show (bP m t).val * 1 + 0 = (bP m t).val
      omega
    | ⟨1, _⟩ => exact congrArg (fun z => z * 1 + 0) (idx3 m t 1)
    | ⟨2, _⟩ =>
      refine (congrArg (fun z => z * 1024 + j.val) (idx3 m t 2)).trans ?_
      show (qP m t).val * 1024 + j.val = 1024 * (qP m t).val + j.val
      omega
  refine (congrArg (V m c main_v2) he).trans ?_
  rw [V_main_v2]
  pointwise []

theorem bck_at (j : Fin 1024) : bck m c t (ix3 (0 : Fin 1) (0 : Fin 1) j)
    = m (c, main_arg1) (ix2 (bP m t) (at8 (eP m t).val (eP m t).isLt j)) := by
  show V m c main_v2 ((((cfgA m).win 4).blk t).view.emb (ix3 (0 : Fin 1) (0 : Fin 1) j)) = _
  have he : (((cfgA m).win 4).blk t).view.emb (ix3 (0 : Fin 1) (0 : Fin 1) j)
      = (ix3 (bP m t) (0 : Fin 1) (at8 (eP m t).val (eP m t).isLt j) : S8x1x8192.Idx) := by
    refine funext fun a => Fin.ext ?_
    blk_simp
    match a with
    | ⟨0, _⟩ =>
      refine (congrArg (fun z => z * 1 + 0) (idx4 m t 0)).trans ?_
      show (bP m t).val * 1 + 0 = (bP m t).val
      omega
    | ⟨1, _⟩ => exact congrArg (fun z => z * 1 + 0) (idx4 m t 1)
    | ⟨2, _⟩ =>
      refine (congrArg (fun z => z * 1024 + j.val) (idx4 m t 2)).trans ?_
      show (eP m t).val * 1024 + j.val = 1024 * (eP m t).val + j.val
      omega
  refine (congrArg (V m c main_v2) he).trans ?_
  rw [V_main_v2]
  pointwise []

theorem out_emb (r : Fin 1024) (x : Fin 128) : (((cfgA m).win 5).blk t).view.emb (ix2 r x)
    = (ix2 (⟨(bP m t).val / 4 * 8192 + (1024 * (qP m t).val + r.val), by omega⟩ : Fin 16384)
        (⟨(bP m t).val % 4 * 128 + x.val, by omega⟩ : Fin 512) : S16384x512.Idx) := by
  refine funext fun a => Fin.ext ?_
  blk_simp
  match a with
  | ⟨0, _⟩ =>
    refine (congrArg (fun z => z * 1024 + r.val) (idx5 m t 0)).trans ?_
    show ((bP m t).val / 4 * 8 + (qP m t).val) * 1024 + r.val = (bP m t).val / 4 * 8192 + (1024 * (qP m t).val + r.val)
    omega
  | ⟨1, _⟩ => exact congrArg (fun z => z * 128 + x.val) (idx5 m t 1)

end Cert.KernelIdeal.Fox

end
-- ==== Proof.FoxRow.lean ====
module

public import proofs.«01_k».proof.Proof.FoxBody
public import Idealize.ShloMosaic.Lib.Pipeline.ValueKit
public import Idealize.ShloMosaic.Lib.WordCmp

@[expose] public section

set_option maxRecDepth 16384

/-! One step of the kernel, read at a row: what it makes of the running maximum, the running sum and the accumulator. -/

namespace Cert.KernelIdeal.Fox

open Cert.KernelIdeal Cert.KernelIdeal.Gen
open Idealize.ShloMosaic Idealize.ShloMosaic.TcCoe Idealize.SL.Sem

variable (q k v : Vec Ideal S1024x128 .bf16) (c ck : Vec Ideal S1x1x1024 .f32)
  (mm l : Vec Ideal S1024x1 .f32) (a : Vec Ideal S1024x128 .f32) (r : Fin 1024)

theorem word_neg_inf : Ideal.ofBits .f32 0xFF800000#32 = ⊥ := by simp [Ideal.ofBits, Ideal.ieee]

/-- The score of key `j` for query `r`, of two blocks. -/
noncomputable def sc (j : Fin 1024) : EReal :=
  ∑ x, q (ix2 r x) * Ideal.ofBits .f32 0x3DB504F3#32 * k (ix2 j x) + (c (ix3 (0 : Fin 1) (0 : Fin 1) (0 : Fin 1024)) - ck (ix3 (0 : Fin 1) (0 : Fin 1) j))
/-- The same on the diagonal, where a later key is masked. -/
noncomputable def scd (j : Fin 1024) : EReal := if j.val ≤ r.val then sc q k c ck r j else ⊥

theorem mask_at : Named.named (F := Ideal) κ "mask" (φ := .f32) 0xF149F2CA#32 = ⊥ :=
  (IdealRules.named_const.statement κ "mask" .f32 0xF149F2CA#32 ⊥ rfl).2.2

theorem pay1_at : k0_pay1 (F := Ideal) (ix2 r (0 : Fin 1)) = ⊥ := by
  have h : k0_pay1 (F := Ideal) (ix2 r (0 : Fin 1)) = Named.named (F := Ideal) κ "mask" (φ := .f32) 0xF149F2CA#32 := by
    pointwise [k0_pay1]
  exact h.trans mask_at
theorem pay2_at : k0_pay2 (F := Ideal) (ix2 r (0 : Fin 1)) = 0 := by
  pointwise [k0_pay2]
theorem pay3_at (d : Fin 128) : k0_pay3 (F := Ideal) (ix2 r d) = 0 := by
  pointwise [k0_pay3]

theorem pay9_at (j : Fin 1024) : k0_pay9 q k (hd c) ck (ix2 r j) = sc q k c ck r j := by
  pointwise [k0_pay9, hd, sc]

/-- The larger of a column and the row maxima of a square of scores. -/
theorem rowmax (y : FVec Ideal S1024x1024 .f32) (h : S1024x1024.Reduces [1] S1024) (h' : FKind.Formats .f32) (h'' : (0xFF800000#32 : BitVec (FTy.bits .f32)) = FKind.maximumf.neutral .f32 h') (h3 : S1024.ShapeCasts S1024x1) :
    maximumf mm (shapeCast S1024x1 (multiReduction .maximumf [1] S1024 y 0xFF800000#32 h h' h'') h3) (ix2 r (0 : Fin 1))
      = max (mm (ix2 r (0 : Fin 1))) (Finset.univ.sup fun j : Fin 1024 => y (ix2 r j)) := by
  have e : multiReduction .maximumf [1] S1024 y 0xFF800000#32 h h' h'' (ix1 r) = Finset.univ.sup fun j : Fin 1024 => y (ix2 r j) := by
    rw [Ideal.multiReduction_maximumf_single, Ideal.ofBits_def, word_neg_inf]
    show Finset.fold max ⊥ _ _ = Finset.fold max ⊥ _ _
    refine Finset.fold_congr fun n _ => ?_
    exact congrArg y (funext fun a => Fin.ext (by match a with | ⟨0, _⟩ => rfl | ⟨1, _⟩ => rfl))
  rw [← e]
  generalize multiReduction .maximumf [1] S1024 y 0xFF800000#32 h h' h'' = w
  pointwise []

theorem pay10_at : k0_pay10 q k (hd c) ck mm (ix2 r (0 : Fin 1)) = max (mm (ix2 r (0 : Fin 1))) (Finset.univ.sup (sc q k c ck r)) := by
  refine (rowmax mm r (k0_pay9 q k (hd c) ck) reduces_S1024x1024_S1024 (.inl rfl) rfl shapeCasts_S1024_S1024x1).trans ?_
  exact congrArg (max _) (congrArg Finset.univ.sup (funext fun j => pay9_at q k c ck r j))

theorem pay13_at : k0_pay13 q k (hd c) ck mm l (ix2 r (0 : Fin 1))
    = Ideal.exp (mm (ix2 r (0 : Fin 1)) - max (mm (ix2 r (0 : Fin 1))) (Finset.univ.sup (sc q k c ck r))) * l (ix2 r (0 : Fin 1))
      + ∑ j, Ideal.exp (sc q k c ck r j - max (mm (ix2 r (0 : Fin 1))) (Finset.univ.sup (sc q k c ck r))) := by
  have h : k0_pay13 q k (hd c) ck mm l (ix2 r (0 : Fin 1))
      = Ideal.exp (mm (ix2 r (0 : Fin 1)) - k0_pay10 q k (hd c) ck mm (ix2 r (0 : Fin 1))) * l (ix2 r (0 : Fin 1))
        + ∑ j, Ideal.exp (k0_pay9 q k (hd c) ck (ix2 r j) - k0_pay10 q k (hd c) ck mm (ix2 r (0 : Fin 1))) := by
    pointwise [k0_pay13, k0_pay12, k0_pay11]
  rw [h]
  simp only [pay9_at, pay10_at]

theorem pay4_at (d : Fin 128) : k0_pay4 (k0_pay14 q k (hd c) ck mm a) (k0_pay15 q k (hd c) ck mm) v (ix2 r d)
    = Ideal.exp (mm (ix2 r (0 : Fin 1)) - max (mm (ix2 r (0 : Fin 1))) (Finset.univ.sup (sc q k c ck r))) * a (ix2 r d)
      + ∑ j, Ideal.exp (sc q k c ck r j - max (mm (ix2 r (0 : Fin 1))) (Finset.univ.sup (sc q k c ck r))) * v (ix2 j d) := by
  have h : k0_pay4 (k0_pay14 q k (hd c) ck mm a) (k0_pay15 q k (hd c) ck mm) v (ix2 r d)
      = Ideal.exp (mm (ix2 r (0 : Fin 1)) - k0_pay10 q k (hd c) ck mm (ix2 r (0 : Fin 1))) * a (ix2 r d)
        + ∑ j, Ideal.exp (k0_pay9 q k (hd c) ck (ix2 r j) - k0_pay10 q k (hd c) ck mm (ix2 r (0 : Fin 1))) * v (ix2 j d) := by
    pointwise [k0_pay4, k0_pay14, k0_pay15, k0_pay12, k0_pay11]
  rw [h]
  simp only [pay9_at, pay10_at]

theorem pay5_at : k0_pay5 (F := Ideal) mm (ix2 r (0 : Fin 1)) = mm (ix2 r (0 : Fin 1)) := by
  pointwise [k0_pay5]
theorem pay7_at : k0_pay7 (F := Ideal) mm (ix2 r (0 : Fin 1)) = mm (ix2 r (0 : Fin 1)) := by
  pointwise [k0_pay7]

theorem word_toInt (a : ℕ) (h : a < 8192) : (BitVec.ofNat 32 a).toInt = a := by
  rw [BitVec.toInt_eq_toNat_cond, BitVec.toNat_ofNat]
  omega

theorem pay16_at (j : Fin 1024) : k0_pay16 q k (hd c) ck (ix2 r j) = scd q k c ck r j := by
  have h : k0_pay16 q k (hd c) ck (ix2 r j) = Scalar.select (IntOp.cmpi .sge (BitVec.ofNat 32 r.val) (BitVec.ofNat 32 j.val))
      (sc q k c ck r j) (Named.named (F := Ideal) κ "mask" (φ := .f32) 0xF149F2CA#32) := by
    pointwise [k0_pay16, hd, sc]
  rw [h, mask_at, WordCmp.cmpi_sge_eq, word_toInt _ (by omega), word_toInt _ (by omega)]
  unfold scd
  by_cases hj : j.val ≤ r.val
  · rw [if_pos hj, decide_eq_true (Int.ofNat_le.2 hj)]; rfl
  · rw [if_neg hj, decide_eq_false fun hh => hj (Int.ofNat_le.1 hh)]; rfl

theorem pay17_at : k0_pay17 q k (hd c) ck mm (ix2 r (0 : Fin 1)) = max (mm (ix2 r (0 : Fin 1))) (Finset.univ.sup (scd q k c ck r)) := by
  refine (rowmax mm r (k0_pay16 q k (hd c) ck) reduces_S1024x1024_S1024 (.inl rfl) rfl shapeCasts_S1024_S1024x1).trans ?_
  exact congrArg (max _) (congrArg Finset.univ.sup (funext fun j => pay16_at q k c ck r j))

theorem pay20_at : k0_pay20 q k (hd c) ck mm l (ix2 r (0 : Fin 1))
    = Ideal.exp (mm (ix2 r (0 : Fin 1)) - max (mm (ix2 r (0 : Fin 1))) (Finset.univ.sup (scd q k c ck r))) * l (ix2 r (0 : Fin 1))
      + ∑ j, Ideal.exp (scd q k c ck r j - max (mm (ix2 r (0 : Fin 1))) (Finset.univ.sup (scd q k c ck r))) := by
  have h : k0_pay20 q k (hd c) ck mm l (ix2 r (0 : Fin 1))
      = Ideal.exp (mm (ix2 r (0 : Fin 1)) - k0_pay17 q k (hd c) ck mm (ix2 r (0 : Fin 1))) * l (ix2 r (0 : Fin 1))
        + ∑ j, Ideal.exp (k0_pay16 q k (hd c) ck (ix2 r j) - k0_pay17 q k (hd c) ck mm (ix2 r (0 : Fin 1))) := by
    pointwise [k0_pay20, k0_pay19, k0_pay18]
  rw [h]
  simp only [pay16_at, pay17_at]

theorem pay6_at (d : Fin 128) : k0_pay6 (k0_pay18 q k (hd c) ck mm) (k0_pay19 q k (hd c) ck mm) a v (ix2 r d)
    = Ideal.exp (mm (ix2 r (0 : Fin 1)) - max (mm (ix2 r (0 : Fin 1))) (Finset.univ.sup (scd q k c ck r))) * a (ix2 r d)
      + ∑ j, Ideal.exp (scd q k c ck r j - max (mm (ix2 r (0 : Fin 1))) (Finset.univ.sup (scd q k c ck r))) * v (ix2 j d) := by
  have h : k0_pay6 (k0_pay18 q k (hd c) ck mm) (k0_pay19 q k (hd c) ck mm) a v (ix2 r d)
      = Ideal.exp (mm (ix2 r (0 : Fin 1)) - k0_pay17 q k (hd c) ck mm (ix2 r (0 : Fin 1))) * a (ix2 r d)
        + ∑ j, Ideal.exp (k0_pay16 q k (hd c) ck (ix2 r j) - k0_pay17 q k (hd c) ck mm (ix2 r (0 : Fin 1))) * v (ix2 j d) := by
    pointwise [k0_pay6, k0_pay18, k0_pay19]
  rw [h]
  simp only [pay16_at, pay17_at]

theorem pay8_at (d : Fin 128) : k0_pay8 a l (ix2 r d) = Ideal.div (a (ix2 r d)) (l (ix2 r (0 : Fin 1))) := by
  pointwise [k0_pay8]

end Cert.KernelIdeal.Fox

end
-- ==== Proof.FoxState.lean ====
module

public import proofs.«01_k».proof.Proof.FoxBlocks
public import proofs.«01_k».proof.Proof.FoxRow

@[expose] public section

set_option maxRecDepth 16384

/-! The running maximum, sum and accumulator after every grid point: those of the blocks of keys met so far. -/

namespace Cert.KernelIdeal.Fox

open Cert.KernelIdeal Cert.KernelIdeal.Gen
open Idealize.ShloMosaic Idealize.ShloMosaic.TcCoe Idealize.SL.Sem
open Cert.ReferenceIdeal.FoxRef (hAt at8 ys vs keep IsReal ys_keep ys_drop ys_ne_top dotF)
open Cert.Online

/-- Row `r` of the state is that of the first `n` blocks of the scores `y` and the values `w`. -/
structure RowIs (y : ℕ → Fin 1024 → EReal) (w : Fin 128 → ℕ → Fin 1024 → EReal) (r : Fin 1024) (s : St Ideal) (n : ℕ) : Prop where
  m : s.1 (ix2 r (0 : Fin 1)) = mx y n
  l : s.2.1 (ix2 r (0 : Fin 1)) = sm y n
  a : ∀ d, s.2.2 (ix2 r d) = ac y (w d) n

section
variable {y : ℕ → Fin 1024 → EReal} {w : Fin 128 → ℕ → Fin 1024 → EReal} {r : Fin 1024} {s : St Ideal} {n : ℕ}
  {q k v : Vec Ideal S1024x128 .bf16} {cq ck : Vec Ideal S1x1x1024 .f32} {v1 v3 v10 : BitVec 32}

theorem RowIs.skip (h : RowIs y w r s n) (hy : ∀ j, y n j = ⊥) : RowIs y w r s (n + 1) :=
  ⟨h.m.trans (masked (w 0) hy).1.symm, h.l.trans (masked (w 0) hy).2.1.symm, fun d => (h.a d).trans (masked (w d) hy).2.2.symm⟩

theorem RowIs.init (h : cI v3) : RowIs y w r (stI v3 s) 0 := by
  unfold stI; rw [if_pos h]
  exact ⟨pay1_at r, pay2_at r, fun d => pay3_at r d⟩
theorem RowIs.keepI (h : RowIs y w r s n) (hc : ¬ cI v3) : RowIs y w r (stI v3 s) n := by
  unfold stI; rw [if_neg hc]; exact h
theorem RowIs.keepU (h : RowIs y w r s n) (hc : ¬ cU v1 v3 v10) : RowIs y w r (stU v1 v3 v10 q k v cq ck s) n := by
  unfold stU; rw [if_neg hc]; exact h
theorem RowIs.keepD (h : RowIs y w r s n) (hc : ¬ cD v1 v3) : RowIs y w r (stD v1 v3 q k v cq ck s) n := by
  unfold stD; rw [if_neg hc]; exact h

theorem RowIs.stepU (h : RowIs y w r s n) (hc : cU v1 v3 v10) (ht : ∀ a j, y a j ≠ ⊤) (hs : sc q k cq ck r = y n)
    (hv : ∀ j d, v (ix2 j d) = w d n j) : RowIs y w r (stU v1 v3 v10 q k v cq ck s) (n + 1) := by
  unfold stU; rw [if_pos hc]
  refine ⟨?_, ?_, fun d => ?_⟩
  · refine (pay5_at _ r).trans ((pay10_at q k cq ck s.1 r).trans ?_)
    rw [hs, h.m]; rfl
  · refine (pay13_at q k cq ck s.1 s.2.1 r).trans ?_
    rw [hs, h.m, h.l, sm_succ ht]; rfl
  · refine (pay4_at q k v cq ck s.1 s.2.2 r d).trans ?_
    simp only [hv]
    rw [hs, h.m, h.a, ac_succ (w d) ht]; rfl

theorem RowIs.stepD (h : RowIs y w r s n) (hc : cD v1 v3) (ht : ∀ a j, y a j ≠ ⊤) (hs : scd q k cq ck r = y n)
    (hv : ∀ j d, v (ix2 j d) = w d n j) : RowIs y w r (stD v1 v3 q k v cq ck s) (n + 1) := by
  unfold stD; rw [if_pos hc]
  refine ⟨?_, ?_, fun d => ?_⟩
  · refine (pay7_at _ r).trans ((pay17_at q k cq ck s.1 r).trans ?_)
    rw [hs, h.m]; rfl
  · refine (pay20_at q k cq ck s.1 s.2.1 r).trans ?_
    rw [hs, h.m, h.l, sm_succ ht]; rfl
  · refine (pay6_at q k v cq ck s.1 s.2.2 r d).trans ?_
    simp only [hv]
    rw [hs, h.m, h.a, ac_succ (w d) ht]; rfl
end

theorem slt_iff (q k : Fin 8) : (BitVec.ofNat 32 k.val).slt (BitVec.ofNat 32 q.val) = true ↔ k < q := by
  revert q k; decide

theorem cU_iff : ∀ (q k : Fin 8) (x : BitVec 1), cU (BitVec.ofNat 32 q.val) (BitVec.ofNat 32 k.val) (x.setWidth 32) ↔ k < q ∧ x = 1#1 := by
  decide

theorem prev_row : ∀ t : Fin grid0.N, kS (sOf (grid0.coords t)) ≠ 0 →
    ∃ h : t.val - 1 < grid0.N, t.val - 1 + 1 = t.val ∧ bOf (grid0.coords ⟨t.val - 1, h⟩) = bOf (grid0.coords t)
      ∧ qS (sOf (grid0.coords ⟨t.val - 1, h⟩)) = qS (sOf (grid0.coords t))
      ∧ (kS (sOf (grid0.coords ⟨t.val - 1, h⟩))).val + 1 = (kS (sOf (grid0.coords t))).val := by
  decide +kernel

variable (m : (ℓ : Loc nD τ sig) → Buf (Elt Ideal) ℓ) (c : Dev nD) (t : Fin (cfgA m).N)

theorem dev_zero : c = 0 := by revert c; decide

theorem ne_word (x y : BitVec 32) : IntOp.cmpi .ne x y = 1#1 ↔ x ≠ y := by
  rw [WordCmp.cmpi_ne_eq]
  by_cases h : x = y <;> simp [h]

theorem needed_iff (b q k : Fin 8) : nd m 0 (ix3 b q k) = 1#1 ↔ m (c, main_arg2) (ix3 b q k) ≠ 0#32 := by
  rw [dev_zero c]
  have h : nd m 0 (ix3 b q k) = IntOp.cmpi .ne (m ((0 : Dev nD), main_arg2) (ix3 b q k)) 0#32 := by
    pointwise [nd]
  rw [h]
  exact ne_word _ _

/-- A block of keys before the diagonal is kept whole where it is needed. -/
theorem keep_before (a2 : Vec Ideal S8x8x8 .i32) (b Q K : Fin 8) (r j : Fin 1024) (h : K < Q) :
    keep a2 b (at8 Q.val Q.isLt r) (at8 K.val K.isLt j) ↔ a2 (ix3 b Q K) ≠ 0#32 := by
  have h1 : K.val < Q.val := h
  have hq : (⟨(at8 Q.val Q.isLt r).val / 1024, by omega⟩ : Fin 8) = Q := Fin.ext (by show (1024 * Q.val + r.val) / 1024 = Q.val; omega)
  have hk : (⟨(at8 K.val K.isLt j).val / 1024, by omega⟩ : Fin 8) = K := Fin.ext (by show (1024 * K.val + j.val) / 1024 = K.val; omega)
  have hne : (at8 Q.val Q.isLt r).val / 1024 ≠ (at8 K.val K.isLt j).val / 1024 := fun he => by
    have := congrArg Fin.val hq; have := congrArg Fin.val hk; simp only at *; omega
  have hle : (at8 K.val K.isLt j).val ≤ (at8 Q.val Q.isLt r).val := by
    show 1024 * K.val + j.val ≤ 1024 * Q.val + r.val; omega
  unfold keep
  rw [hq, hk]
  exact ⟨fun hh => hh.2.resolve_left hne, fun hh => ⟨hle, .inr hh⟩⟩

/-- The diagonal's block of keys is kept up to the query. -/
theorem keep_diag (a2 : Vec Ideal S8x8x8 .i32) (b Q : Fin 8) (r j : Fin 1024) :
    keep a2 b (at8 Q.val Q.isLt r) (at8 Q.val Q.isLt j) ↔ j.val ≤ r.val := by
  unfold keep
  refine ⟨fun hh => ?_, fun hh => ⟨?_, .inl ?_⟩⟩
  · have : 1024 * Q.val + j.val ≤ 1024 * Q.val + r.val := hh.1
    omega
  · show 1024 * Q.val + j.val ≤ 1024 * Q.val + r.val; omega
  · show (1024 * Q.val + r.val) / 1024 = (1024 * Q.val + j.val) / 1024; omega

theorem sc_at (r j : Fin 1024) (he : eP m t = kP m t) : sc (bq m c t) (bk m c t) (bcq m c t) (bck m c t) r j
    = dotF (m (c, main_arg0)) (bP m t) (at8 (qP m t).val (qP m t).isLt r) (at8 (kP m t).val (kP m t).isLt j)
      + HSub.hSub (α := EReal) (β := EReal) (γ := EReal) (m (c, main_arg1) (ix2 (bP m t) (at8 (qP m t).val (qP m t).isLt 0))) (m (c, main_arg1) (ix2 (bP m t) (at8 (kP m t).val (kP m t).isLt j))) := by
  unfold sc dotF
  rw [bcq_at, bck_at, ← he]
  refine congrArg (· + _) (Finset.sum_congr rfl fun x _ => ?_)
  rw [bq_at, bk_at]

theorem bv_vs (j : Fin 1024) (d : Fin 128) (he : eP m t = kP m t) :
    bv m c t (ix2 j d) = vs (m (c, main_arg0)) (bP m t) d (kP m t).val j := by
  unfold vs
  rw [dif_pos (kP m t).isLt, bv_at, he]

/-- The scores of row `r` of a point's block of queries. -/
noncomputable abbrev yP (r : Fin 1024) : ℕ → Fin 1024 → EReal := ys (m (c, main_arg0)) (m (c, main_arg1)) (m (c, main_arg2)) (bP m t) (qP m t) r
/-- The values of a point's pair of batch and head. -/
noncomputable abbrev wP : Fin 128 → ℕ → Fin 1024 → EReal := fun d => vs (m (c, main_arg0)) (bP m t) d

variable (H : IsReal (m (c, main_arg0)) (m (c, main_arg1)))

include H in
/-- A point takes its block of keys in. -/
theorem row_point (r : Fin 1024) (s : St Ideal) (hs : kP m t ≠ 0 → RowIs (yP m c t r) (wP m c t) r s (kP m t).val) :
    RowIs (yP m c t r) (wP m c t) r (stepN m c t s) ((kP m t).val + 1) := by
  have hI : RowIs (yP m c t r) (wP m c t) r (stI (w3 (grid0.coords t)) s) (kP m t).val := by
    by_cases h0 : kP m t = 0
    · rw [h0]; exact RowIs.init ((cI_iff _).2 h0)
    · exact (hs h0).keepI fun h => h0 ((cI_iff _).1 h)
  have ht : ∀ a j, yP m c t r a j ≠ ⊤ := fun a j => ys_ne_top _ H _ _ r a j
  unfold stepN stN
  rcases lt_or_eq_of_le (kS_le (sOf (grid0.coords t))) with hlt | heq
  · refine RowIs.keepD ?_ fun h => hlt.ne ((cD_iff _ _).1 h)
    by_cases hn : nd m 0 (ix3 (bP m t) (qP m t) (kP m t)) = 1#1
    · have he : eP m t = kP m t := kE_eq m _ _ (.inl hn)
      refine hI.stepU ((cU_iff _ _ _).2 ⟨hlt, hn⟩) ht (funext fun j => ?_) fun j d => bv_vs m c t j d he
      refine (sc_at m c t r j he).trans (ys_keep _ H (bP m t) (qP m t) (kP m t) r j ?_).symm
      exact (keep_before _ _ _ _ r j hlt).2 ((needed_iff m c _ _ _).1 hn)
    · refine (hI.keepU fun h => hn ((cU_iff _ _ _).1 h).2).skip fun j => ?_
      exact ys_drop _ (bP m t) (qP m t) (kP m t) r j fun hk => hn ((needed_iff m c _ _ _).2 ((keep_before _ _ _ _ r j hlt).1 hk))
  · have he : eP m t = kP m t := kE_eq m _ _ (.inr heq)
    refine (hI.keepU fun h => absurd ((cU_iff _ _ _).1 h).1 (not_lt.2 heq.ge)).stepD ((cD_iff _ _).2 heq) ht (funext fun j => ?_) fun j d => bv_vs m c t j d he
    have heq' : qP m t = kP m t := heq.symm
    unfold scd
    by_cases hj : j.val ≤ r.val
    · rw [if_pos hj]
      refine (sc_at m c t r j he).trans (ys_keep _ H (bP m t) (qP m t) (kP m t) r j ?_).symm
      rw [heq']; exact (keep_diag _ _ _ r j).2 hj
    · rw [if_neg hj]
      refine (ys_drop _ (bP m t) (qP m t) (kP m t) r j fun hk => hj ?_).symm
      rw [heq'] at hk; exact (keep_diag _ _ _ r j).1 hk

include H in
theorem row_all (r : Fin 1024) (n : ℕ) : ∀ t : Fin (cfgA m).N, t.val = n →
    RowIs (yP m c t r) (wP m c t) r (stAt m c (n + 1)) ((kP m t).val + 1) := by
  induction n with
  | zero =>
    intro t ht
    rw [← ht, stAt_succ]
    exact row_point m c t H r _ fun h => absurd (first_point t ht) h
  | succ n ih =>
    intro t ht
    rw [← ht, stAt_succ]
    refine row_point m c t H r _ fun h => ?_
    obtain ⟨h1, h2, h3, h4, h5⟩ := prev_row t h
    have hp := ih ⟨t.val - 1, h1⟩ (by show t.val - 1 = n; omega)
    have h3' : bP m ⟨t.val - 1, h1⟩ = bP m t := h3
    have h4' : qP m ⟨t.val - 1, h1⟩ = qP m t := h4
    have e1 : yP m c ⟨t.val - 1, h1⟩ r = yP m c t r := by show ys _ _ _ _ _ _ = ys _ _ _ _ _ _; rw [h3', h4']
    have e2 : wP m c ⟨t.val - 1, h1⟩ = wP m c t := by funext d; show vs _ _ _ = vs _ _ _; rw [h3']
    rw [e1, e2, show (kP m ⟨t.val - 1, h1⟩).val + 1 = (kP m t).val from h5] at hp
    rw [ht]; exact hp

include H in
/-- What a point on the diagonal writes. -/
theorem out_at (hd : kP m t = qP m t) (r : Fin 1024) (d : Fin 128) :
    outAt m c t (ix2 r d) = ∑ n, Cert.ReferenceIdeal.FoxRef.prob (m (c, main_arg0)) (m (c, main_arg1)) (m (c, main_arg2)) (bP m t) (at8 (qP m t).val (qP m t).isLt r) n
      * hAt (m (c, main_arg0)) 4608 (by omega) (bP m t) n d := by
  have h := row_all m c H r t.val t rfl
  rw [hd] at h
  unfold outAt
  rw [pay8_at, h.l, h.a]
  exact Cert.ReferenceIdeal.FoxRef.row_eq _ H (bP m t) (qP m t) r d

end Cert.KernelIdeal.Fox

end
-- ==== Proof.FoxValue.lean ====
module

public import proofs.«01_k».proof.Proof.FoxState

@[expose] public section

set_option maxRecDepth 16384

/-! The attention's whole result: the blocks written on the diagonal cover it, and each is the reference's. -/

namespace Cert.KernelIdeal.Fox

open Cert.KernelIdeal Cert.KernelIdeal.Gen
open Idealize.ShloMosaic Idealize.ShloMosaic.TcCoe Idealize.SL.Sem
open Idealize.ShloMosaic.Pipeline (Dat Window)
open Cert.ReferenceIdeal.FoxRef (at8 IsReal)

variable (m : (ℓ : Loc nD τ sig) → Buf (Elt Ideal) ℓ) (c : Dev nD) (t : Fin (cfgA m).N)

theorem diag_point : ∀ b Q : Fin 8, ∃ t : Fin grid0.N, bOf (grid0.coords t) = b ∧ qS (sOf (grid0.coords t)) = Q ∧ kS (sOf (grid0.coords t)) = Q := by
  decide +kernel

theorem next_block : ∀ t : Fin grid0.N, kS (sOf (grid0.coords t)) = qS (sOf (grid0.coords t)) → t.val + 1 = grid0.N ∨
    ∃ h : t.val + 1 < grid0.N, ¬ (bOf (grid0.coords ⟨t.val + 1, h⟩) = bOf (grid0.coords t)
      ∧ qS (sOf (grid0.coords ⟨t.val + 1, h⟩)) = qS (sOf (grid0.coords t))) := by
  decide +kernel

theorem flush_on (h : kP m t = qP m t) : ((cfgA m).win 5).flush t = true := by
  unfold Window.flush
  rw [Bool.and_eq_true, Bool.or_eq_true, decide_eq_true_iff, decide_eq_true_iff]
  refine ⟨rfl, (next_block t h).imp id fun ⟨h1, hne⟩ => ⟨h1, fun he => hne ?_⟩⟩
  have e0 := (idx5 m ⟨t.val + 1, h1⟩ 0).symm.trans ((congrFun he (0 : Fin 2)).trans (idx5 m t 0))
  have e1 := (idx5 m ⟨t.val + 1, h1⟩ 1).symm.trans ((congrFun he (1 : Fin 2)).trans (idx5 m t 1))
  have e0' : (bP m ⟨t.val + 1, h1⟩).val / 4 * 8 + (qP m ⟨t.val + 1, h1⟩).val = (bP m t).val / 4 * 8 + (qP m t).val := e0
  have e1' : (bP m ⟨t.val + 1, h1⟩).val % 4 = (bP m t).val % 4 := e1
  have b1 := (qP m ⟨t.val + 1, h1⟩).isLt
  have b2 := (qP m t).isLt
  exact ⟨Fin.ext (by show (bP m ⟨t.val + 1, h1⟩).val = (bP m t).val; omega), Fin.ext (by show (qP m ⟨t.val + 1, h1⟩).val = (qP m t).val; omega)⟩

/-- The reference at the place where a point writes. -/
theorem ref_at (a0 : Vec Ideal Cert.ReferenceIdeal.S16384x5120 .bf16) (a1 : Vec Ideal Cert.ReferenceIdeal.S8x8192 .f32) (a2 : Vec Ideal Cert.ReferenceIdeal.S8x8x8 .i32)
    (b Q : Fin 8) (r : Fin 1024) (x : Fin 128) :
    Cert.ReferenceIdeal.Read.val_main_v55 (F := Ideal) a0 a1 a2 (ix2 (⟨b.val / 4 * 8192 + (1024 * Q.val + r.val), by omega⟩ : Fin 16384) (⟨b.val % 4 * 128 + x.val, by omega⟩ : Fin 512))
      = ∑ n, Cert.ReferenceIdeal.FoxRef.prob a0 a1 a2 b (at8 Q.val Q.isLt r) n * Cert.ReferenceIdeal.FoxRef.hAt a0 4608 (by omega) b n x := by
  rw [Cert.ReferenceIdeal.FoxRef.result_at]
  have hb : (⟨(b.val / 4 * 8192 + (1024 * Q.val + r.val)) / 8192 * 4 + (b.val % 4 * 128 + x.val) / 128, by omega⟩ : Fin 8) = b := Fin.ext (by show _ = b.val; simp only; omega)
  have hp : (⟨(b.val / 4 * 8192 + (1024 * Q.val + r.val)) % 8192, by omega⟩ : Fin 8192) = at8 Q.val Q.isLt r := Fin.ext (by show _ = 1024 * Q.val + r.val; simp only; omega)
  have hx : (⟨(b.val % 4 * 128 + x.val) % 128, by omega⟩ : Fin 128) = x := Fin.ext (by show _ = x.val; simp only; omega)
  simp only [hb, hp, hx]

/-- Every place of the result is written by a point on the diagonal. -/
theorem covered (R : Fin 16384) (X : Fin 512) : ∃ (t : Fin (cfgA m).N) (r : Fin 1024) (x : Fin 128), ((cfgA m).win 5).flush t = true
    ∧ (((cfgA m).win 5).blk t).view.emb (ix2 r x) = (ix2 R X : S16384x512.Idx) := by
  obtain ⟨t, hb, hq, hk⟩ := diag_point ⟨R.val / 8192 * 4 + X.val / 128, by omega⟩ ⟨R.val % 8192 / 1024, by omega⟩
  have hb' := congrArg Fin.val hb
  have hq' := congrArg Fin.val hq
  refine ⟨t, ⟨R.val % 1024, by omega⟩, ⟨X.val % 128, by omega⟩, flush_on m t (hk.trans hq.symm), ?_⟩
  refine (out_emb m t _ _).trans (funext fun a => Fin.ext ?_)
  match a with
  | ⟨0, _⟩ =>
    show (bOf (grid0.coords t)).val / 4 * 8192 + (1024 * (qS (sOf (grid0.coords t))).val + R.val % 1024) = R.val
    rw [hb', hq']; simp only; omega
  | ⟨1, _⟩ =>
    show (bOf (grid0.coords t)).val % 4 * 128 + X.val % 128 = X.val
    rw [hb']; simp only; omega

theorem ix_of (i : S16384x512.Idx) : i = ix2 (i 0) (i 1) := funext fun a => by match a with | ⟨0, _⟩ => rfl | ⟨1, _⟩ => rfl

variable (H : IsReal (m (c, main_arg0)) (m (c, main_arg1)))

include H in
theorem final : (dats m 0 c).arrAt 5 (cfgA m).N
    = Cert.ReferenceIdeal.Read.val_main_v55 (F := Ideal) (m (c, main_arg0)) (m (c, main_arg1)) (m (c, main_arg2)) := by
  refine (dats m 0 c).arrAt_eq_of_emb 5 _ (fun t hf y => ?_) (fun i => ?_)
  · have hd : kP m t = qP m t := by
      by_contra hne
      rw [flush_off m t hne] at hf
      exact Bool.false_ne_true hf
    rw [after_5]
    obtain ⟨r, x, rfl⟩ : ∃ (r : Fin 1024) (x : Fin 128), y = (ix2 r x : S1024x128.Idx) :=
      ⟨(show S1024x128.Idx from y) 0, (show S1024x128.Idx from y) 1, funext fun a => by match a with | ⟨0, _⟩ => rfl | ⟨1, _⟩ => rfl⟩
    refine Eq.trans ?_ ((congrArg (Cert.ReferenceIdeal.Read.val_main_v55 (F := Ideal) (m (c, main_arg0)) (m (c, main_arg1)) (m (c, main_arg2))) (out_emb m t r x)).trans
      (ref_at _ _ _ (bP m t) (qP m t) r x)).symm
    exact out_at m c t H hd r x
  · obtain ⟨t, r, x, hf, he⟩ := covered m ((show S16384x512.Idx from i) 0) ((show S16384x512.Idx from i) 1)
    refine ⟨t, hf, ?_⟩
    have hi : (((cfgA m).win 5).blk t).view.emb (ix2 r x) = i := he.trans (ix_of i).symm
    rw [← hi]
    exact View.emb_mem_set _ _

/-- The kernel ends with the reference's result and its arguments as they were. -/
theorem run_value (ρ : Dev nD → PrngReg) (H : ∀ c : Dev nD, IsReal (m (c, main_arg0)) (m (c, main_arg1))) :
    θ_run defs (onTc (τ := τ) (main (F := Ideal))) ⟨m, fun _ => 0, ρ⟩ (fun r => ∀ c : Dev nD,
      r.2.mem ((c.tc : Thread nD τ).loc main_v46) = Cert.ReferenceIdeal.Read.val_main_v55 (F := Ideal) (m (c, main_arg0)) (m (c, main_arg1)) (m (c, main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 5).trans (final m c (H c)),
      ((h c).1 0).trans (((dats m 0 c).arrAt_in 0 rfl _).trans ((A_eq m c 0).trans (V_main_arg0 m c))),
      ((h c).2 main_arg1 (Pipeline.mem_restRefs_of main_arg1 (by decide) windows_ne_arg1)).trans (V_main_arg1 m c),
      ((h c).2 main_arg2 (Pipeline.mem_restRefs_of main_arg2 (by decide) windows_ne_arg2)).trans (V_main_arg2 m c)⟩) (run_main m ρ)

end Cert.KernelIdeal.Fox

end
-- ==== Proof.FoxPre.lean ====
module

public import proofs.«01_k».proof.Defs
public import proofs.«01_k».proof.Proof.Gen.Pre_finite
public import proofs.«01_k».proof.Proof.FoxScore
public import Idealize.ShloMosaic.Lib.Pipeline.ValueKit

@[expose] public section

set_option maxRecDepth 16384

/-! The precondition in words: queries, keys and cumulative gates are real numbers. -/

namespace Cert.Pre_finite.Meaning

open Idealize.ShloMosaic Idealize.ShloMosaic.TcCoe Idealize.SL.Sem
open Cert.ReferenceIdeal.FoxRef (IsReal hAt)

attribute [local instance] Cert.Pre_finite.Gen.facts

variable (a0 : Vec Ideal Cert.ReferenceIdeal.S16384x5120 .bf16) (a1 : Vec Ideal Cert.ReferenceIdeal.S8x8192 .f32) (a2 : Vec Ideal Cert.ReferenceIdeal.S8x8x8 .i32)

theorem inf16 : Ideal.ofBits .bf16 0x7F80#16 = ⊤ := by simp [Ideal.ofBits, Ideal.ieee]
theorem inf32 : Ideal.ofBits .f32 0x7F800000#32 = ⊤ := by simp [Ideal.ofBits, Ideal.ieee]

theorem real_of_abs (x : EReal) (h : BitVec.ofBool (decide (max x (-x) < ⊤)) = 1#1) : ∃ r : ℝ, x = r := by
  have hlt : max x (-x) < ⊤ := by
    by_contra hc
    rw [decide_eq_false hc] at h
    exact absurd h (by decide)
  induction x with
  | bot => rw [EReal.neg_bot, max_eq_right bot_le] at hlt; exact absurd hlt (lt_irrefl _)
  | top => rw [max_eq_left le_top] at hlt; exact absurd hlt (lt_irrefl _)
  | coe r => exact ⟨r, rfl⟩

variable {a0 a1 a2}

theorem h_real (h : (Cert.Pre_finite.fn (F := Ideal) a0 a1 a2).1 = fun _ => 1#1) (r : Fin 16384) (d : Fin 1024) :
    ∃ x : ℝ, a0 (ix2 r (⟨3584 + d.val, by omega⟩ : Fin 5120)) = x := by
  have h1 : (Cert.Pre_finite.fn (F := Ideal) a0 a1 a2).1 (ix2 r d)
      = BitVec.ofBool (decide (FloatOps.absf (a0 (ix2 r (⟨3584 + d.val, by omega⟩ : Fin 5120))) < Ideal.ofBits .bf16 0x7F80#16)) := by
    pointwise [Cert.Pre_finite.fn]
  rw [h, inf16] at h1
  exact real_of_abs _ h1.symm

theorem c_real (h : (Cert.Pre_finite.fn (F := Ideal) a0 a1 a2).2 = fun _ => 1#1) (b : Fin 8) (p : Fin 8192) :
    ∃ x : ℝ, a1 (ix2 b p) = x := by
  have h1 : (Cert.Pre_finite.fn (F := Ideal) a0 a1 a2).2 (ix2 b p)
      = BitVec.ofBool (decide (FloatOps.absf (a1 (ix2 b p)) < Ideal.ofBits .f32 0x7F800000#32)) := by
    pointwise [Cert.Pre_finite.fn]
  rw [h, inf32] at h1
  exact real_of_abs _ h1.symm

theorem real (h : (Cert.Pre_finite.fn (F := Ideal) a0 a1 a2).1 = (fun _ => 1#1) ∧ (Cert.Pre_finite.fn (F := Ideal) a0 a1 a2).2 = (fun _ => 1#1)) :
    IsReal a0 a1 where
  q b p d := h_real h.1 ⟨b.val / 4 * 8192 + p.val, by omega⟩ ⟨b.val % 4 * 128 + d.val, by omega⟩
  k b p d := by
    obtain ⟨x, hx⟩ := h_real h.1 ⟨b.val / 4 * 8192 + p.val, by omega⟩ ⟨512 + (b.val % 4 * 128 + d.val), by omega⟩
    refine ⟨x, Eq.trans ?_ hx⟩
    unfold hAt
    exact congrArg (fun n => a0 (ix2 _ n)) (Fin.ext (by show 4096 + (b.val % 4 * 128 + d.val) = 3584 + (512 + (b.val % 4 * 128 + d.val)); omega))
  c b p := c_real h.2 b p

end Cert.Pre_finite.Meaning

end
-- ==== Proof.lean ====
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateReferenceIdeal
public import proofs.«01_k».proof.Proof.Gen.GateReferenceIdeal.Run
public import proofs.«01_k».proof.Proof.Gen.Local
public import proofs.«01_k».proof.Proof.Gen.Local.Skeleton
public import proofs.«01_k».proof.Proof.Gen.Local.Launch
public import proofs.«01_k».proof.Proof.Gen.Local.Points
public import proofs.«01_k».proof.Proof.Gen.Local.Frame
public import proofs.«01_k».proof.Proof.Gen.LocalIdeal
public import proofs.«01_k».proof.Proof.Gen.LocalIdeal.Skeleton
public import proofs.«01_k».proof.Proof.Gen.LocalIdeal.Launch
public import proofs.«01_k».proof.Proof.Gen.LocalIdeal.Points
public import proofs.«01_k».proof.Proof.Gen.LocalIdeal.Frame
public import proofs.«01_k».proof.Proof.Gen.LocalReferenceIdeal
public import proofs.«01_k».proof.Proof.Gen.LocalReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.ProjValue
public import proofs.«01_k».proof.Proof.MergeValue
public import proofs.«01_k».proof.Proof.GmlpValue
public import proofs.«01_k».proof.Proof.GateValue
public import proofs.«01_k».proof.Proof.FoxValue
public import proofs.«01_k».proof.Proof.FoxFrame
public import proofs.«01_k».proof.Proof.BitsFrame
public import Idealize.ShloMosaic.Adequacy
public import Idealize.ShloMosaic.Init
public import proofs.«01_k».proof.Proof.FoxPre
public import proofs.«01_k».proof.Proof.Gen.Pre_finite

@[expose] public section

noncomputable section

namespace Cert.Proof

open Idealize.ShloMosaic Idealize.SL.Sem

attribute [local instance] Cert.Proj.Gen.facts Cert.ProjIdeal.Gen.facts Cert.ProjReferenceIdeal.Gen.facts Cert.Merge.Gen.facts
  Cert.MergeIdeal.Gen.facts Cert.MergeReferenceIdeal.Gen.facts Cert.Gate.Gen.facts Cert.GateIdeal.Gen.facts
  Cert.GateReferenceIdeal.Gen.facts Cert.Local.Gen.facts Cert.LocalIdeal.Gen.facts Cert.LocalReferenceIdeal.Gen.facts Cert.Kernel.Gen.facts
  Cert.KernelIdeal.Gen.facts Cert.ReferenceIdeal.Gen.facts Cert.Pre_finite.Gen.facts

theorem frame_proj : Cert.quiescent_Proj := fun m g _ => Cert.Proj.Gen.frame m g
theorem frame_projIdeal : Cert.quiescent_ProjIdeal := fun m g _ => Cert.ProjIdeal.Gen.frame m g
theorem frame_projReference : Cert.quiescent_ProjReferenceIdeal := by
  intro m g _
  exact (θ_run Cert.ProjReferenceIdeal.defs _ _).mono (fun r h => ⟨fun c => (h c).2, sem_eq_zero_of_no_sems (by decide) r.2⟩)
    (Cert.ProjReferenceIdeal.Value.run m g)
theorem frame_merge : Cert.quiescent_Merge := fun m g _ => Cert.Merge.Gen.frame m g
theorem frame_mergeIdeal : Cert.quiescent_MergeIdeal := fun m g _ => Cert.MergeIdeal.Gen.frame m g
theorem frame_mergeReference : Cert.quiescent_MergeReferenceIdeal := by
  intro m g _
  exact (θ_run Cert.MergeReferenceIdeal.defs _ _).mono (fun r h => ⟨fun c => (h c).2.2.2, sem_eq_zero_of_no_sems (by decide) r.2⟩)
    (Cert.MergeReferenceIdeal.Value.run m g)
theorem frame_gate : Cert.quiescent_Gate := fun m g _ => Cert.Gate.Gen.frame m g
theorem frame_gateIdeal : Cert.quiescent_GateIdeal := fun m g _ => Cert.GateIdeal.Gen.frame m g
theorem frame_gateReference : Cert.quiescent_GateReferenceIdeal := by
  intro m g _
  exact (θ_run Cert.GateReferenceIdeal.defs _ _).mono (fun r h => ⟨fun c => (h c).2, sem_eq_zero_of_no_sems (by decide) r.2⟩)
    (Cert.GateReferenceIdeal.Value.run m g)
theorem frame_local : Cert.quiescent_Local := fun m g _ => Cert.Local.Gen.frame m g
theorem frame_localIdeal : Cert.quiescent_LocalIdeal := fun m g _ => Cert.LocalIdeal.Gen.frame m g
theorem frame_localReference : Cert.quiescent_LocalReferenceIdeal := by
  intro m g _
  exact (θ_run Cert.LocalReferenceIdeal.defs _ _).mono (fun r h => ⟨fun c => (h c).2, sem_eq_zero_of_no_sems (by decide) r.2⟩)
    (Cert.LocalReferenceIdeal.Value.run m g)
theorem frame_kernel : Cert.quiescent_Kernel := fun m g _ => Cert.Kernel.Fox.frame m g
theorem frame_kernelIdeal : Cert.quiescent_KernelIdeal := fun m g _ => Cert.KernelIdeal.Fox.frame m g
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem algebraic_proj : Cert.algebraic_ProjIdeal_ProjReferenceIdeal := by
  pair_intro
  · run_from Cert.ProjIdeal.Gen.run_main m g
  · run_from Cert.ProjReferenceIdeal.Value.run m' g'
    exact (Cert.ProjIdeal.Value.final m c).symm

theorem congr_args {A0 A1 A2 A3 A4 A5 A6 A7 A8 A9 A10 B : Type} (f : A0 → A1 → A2 → A3 → A4 → A5 → A6 → A7 → A8 → A9 → A10 → B) {a0 b0 : A0} {a1 b1 : A1} {a2 b2 : A2} {a3 b3 : A3} {a4 b4 : A4} {a5 b5 : A5} {a6 b6 : A6} {a7 b7 : A7} {a8 b8 : A8} {a9 b9 : A9} {a10 b10 : A10} (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10)
    : f a0 a1 a2 a3 a4 a5 a6 a7 a8 a9 a10 = f b0 b1 b2 b3 b4 b5 b6 b7 b8 b9 b10 := by
  subst e0 e1 e2 e3 e4 e5 e6 e7 e8 e9 e10; rfl

set_option maxHeartbeats 1600000 in
theorem algebraic_merge : Cert.algebraic_MergeIdeal_MergeReferenceIdeal := by
  pair_intro
  · run_from Cert.MergeIdeal.Gen.run_main m g
  · run_from Cert.MergeReferenceIdeal.Value.run m' g'
    all_goals obtain ⟨e0, e1, e2, e3, e4, e5, e6, e7, e8, e9, e10⟩ := hagree c
    · refine (Cert.MergeReferenceIdeal.Read.val_main_v46_eq m' c).trans ?_
      exact (congr_args (Cert.MergeReferenceIdeal.Read.val_main_v46 (F := Ideal)) e0 e1 e2 e3 e4 e5 e6 e7 e8 e9 e10).trans (Cert.MergeIdeal.Value.final11 m c).symm
    · refine (Cert.MergeReferenceIdeal.Read.val_main_v47_eq m' c).trans ?_
      exact (congr_args (Cert.MergeReferenceIdeal.Read.val_main_v47 (F := Ideal)) e0 e1 e2 e3 e4 e5 e6 e7 e8 e9 e10).trans (Cert.MergeIdeal.Value.final12 m c).symm
    · refine (Cert.MergeReferenceIdeal.Read.val_main_v49_eq m' c).trans ?_
      exact (congr_args (Cert.MergeReferenceIdeal.Read.val_main_v49 (F := Ideal)) e0 e1 e2 e3 e4 e5 e6 e7 e8 e9 e10).trans (Cert.MergeIdeal.Value.final13 m c).symm

theorem algebraic_gate : Cert.algebraic_GateIdeal_GateReferenceIdeal := by
  pair_intro
  · run_from Cert.GateIdeal.Gen.run_main m g
    · exact Cert.GateIdeal.Gen.W_main_arg0 m (Cert.GateIdeal.Gen.dats m) c
    · exact Cert.GateIdeal.Gen.W_main_arg1 m (Cert.GateIdeal.Gen.dats m) c
  · run_from Cert.GateReferenceIdeal.Value.run m' g'
    exact (Cert.GateIdeal.Value.tail m c).symm

theorem congr_five {A0 A1 A2 A3 A4 B : Type} (f : A0 → A1 → A2 → A3 → A4 → B) {a0 b0 : A0} {a1 b1 : A1} {a2 b2 : A2} {a3 b3 : A3} {a4 b4 : A4}
    (e0 : a0 = b0) (e1 : a1 = b1) (e2 : a2 = b2) (e3 : a3 = b3) (e4 : a4 = b4) : f a0 a1 a2 a3 a4 = f b0 b1 b2 b3 b4 := by
  subst e0 e1 e2 e3 e4; rfl

set_option maxHeartbeats 4000000 in
theorem algebraic_local : Cert.algebraic_LocalIdeal_LocalReferenceIdeal := by
  pair_intro
  · run_from Cert.LocalIdeal.Gen.run_main m g
  · run_from Cert.LocalReferenceIdeal.Value.run m' g'
    obtain ⟨e0, _, _, e3, e4, e5, e6⟩ := hagree c
    refine (Cert.LocalReferenceIdeal.Read.val_main_v69_eq m' c).trans ?_
    exact (congr_five (Cert.LocalReferenceIdeal.Read.val_main_v69 (F := Ideal)) e0 e3 e4 e5 e6).trans (Cert.LocalIdeal.Value.final13 m c).symm

theorem congr_three {A0 A1 A2 B : Type} (f : A0 → A1 → A2 → B) {a0 b0 : A0} {a1 b1 : A1} {a2 b2 : A2} (e0 : a0 = b0) (e1 : a1 = b1) (e2 : a2 = b2) :
    f a0 a1 a2 = f b0 b1 b2 := by
  subst e0 e1 e2; rfl

theorem algebraic_fox : Cert.algebraic_KernelIdeal_ReferenceIdeal_pre_finite := by
  intro m g m' g' hpre hagree
  refine ⟨_, Cert.KernelIdeal.Fox.run_value m g fun c => Cert.Pre_finite.Meaning.real (hpre c), ?_⟩
  refine (θ_run Cert.ReferenceIdeal.defs _ _).mono (fun r h c => ⟨?_, (h c).2⟩) (Cert.ReferenceIdeal.Value.run m' g')
  obtain ⟨e0, e1, e2⟩ := hagree c
  exact (h c).1.trans ((Cert.ReferenceIdeal.Read.val_main_v55_eq m' c).trans (congr_three (Cert.ReferenceIdeal.Read.val_main_v55 (F := Ideal)) e0 e1 e2))

theorem claim : Cert.Claim := ⟨Cert.Proj.Gen.facts, Cert.ProjIdeal.Gen.facts, Cert.ProjReferenceIdeal.Gen.facts,
  Cert.Merge.Gen.facts, Cert.MergeIdeal.Gen.facts, Cert.MergeReferenceIdeal.Gen.facts,
  Cert.Gate.Gen.facts, Cert.GateIdeal.Gen.facts, Cert.GateReferenceIdeal.Gen.facts,
  Cert.Local.Gen.facts, Cert.LocalIdeal.Gen.facts, Cert.LocalReferenceIdeal.Gen.facts, Cert.Kernel.Gen.facts,
  Cert.KernelIdeal.Gen.facts, Cert.ReferenceIdeal.Gen.facts, Cert.Pre_finite.Gen.facts,
  frame_proj, frame_projIdeal, frame_projReference, frame_merge, frame_mergeIdeal, frame_mergeReference,
  frame_gate, frame_gateIdeal, frame_gateReference, frame_local, frame_localIdeal, frame_localReference,
  frame_kernel, frame_kernelIdeal, fun m g _ => frame_kernelIdeal m g trivial, frame_reference, fun m g _ => frame_reference m g trivial,
  trivial, algebraic_proj, trivial, algebraic_merge, trivial, algebraic_gate, trivial, algebraic_local,
  IdealRules.named_const.statement Cert.KernelIdeal.κ "mask" .f32 0xF149F2CA#32 ⊥ rfl, algebraic_fox⟩

end Cert.Proof

end
